-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v69) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v69) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v50_0)) (v1 : (c : Dev Cert.Kernel4Ideal.nD) → Buf (Elt Ideal) ((c.tc : Thread Cert.Kernel4Ideal.nD Cert.Kernel4Ideal.τ).loc Cert.Kernel4Ideal.main_v50_1)) (v2 : (c : Dev Cert.Kernel4Ideal.nD) → Buf (Elt Ideal) ((c.tc : Thread Cert.Kernel4Ideal.nD Cert.Kernel4Ideal.τ).loc Cert.Kernel4Ideal.main_v50_2)) (v3 : (c : Dev Cert.Kernel4Ideal.nD) → Buf (Elt Ideal) ((c.tc : Thread Cert.Kernel4Ideal.nD Cert.Kernel4Ideal.τ).loc Cert.Kernel4Ideal.main_v50_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v50_0) = v0 c
          ∧ r.2.mem ((c.tc : Thread Cert.Kernel4Ideal.nD Cert.Kernel4Ideal.τ).loc Cert.Kernel4Ideal.main_v50_1) = v1 c
          ∧ r.2.mem ((c.tc : Thread Cert.Kernel4Ideal.nD Cert.Kernel4Ideal.τ).loc Cert.Kernel4Ideal.main_v50_2) = v2 c
          ∧ r.2.mem ((c.tc : Thread Cert.Kernel4Ideal.nD Cert.Kernel4Ideal.τ).loc Cert.Kernel4Ideal.main_v50_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_v151) = v1 c
          ∧ r.2.mem ((c.tc : Thread Cert.Reference4Ideal.nD Cert.Reference4Ideal.τ).loc Cert.Reference4Ideal.main_v154) = v2 c
          ∧ r.2.mem ((c.tc : Thread Cert.Reference4Ideal.nD Cert.Reference4Ideal.τ).loc Cert.Reference4Ideal.main_v156) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_v27) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v30)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v30) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v50) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_qk.lean ====
abbrev S4x8192x1024 : Shape := ⟨3, ![4, 8192, 1024]⟩
abbrev S4x8192x512 : Shape := ⟨3, ![4, 8192, 512]⟩
abbrev S_ : Shape := ⟨0, ![]⟩

class Facts : Prop where
  bitsLt_bf16_f32 : FTy.bits .bf16 < FTy.bits .f32
  bcast_S_S4x8192x1024 : S_.BroadcastsInDim S4x8192x1024 (![] : Fin 0 → Fin S4x8192x1024.rank)

variable [Facts]

def fn {F : FTy → Type} [FloatOps F] (main_arg0 : FVec F S4x8192x1024 .bf16) (main_arg1 : FVec F S4x8192x1024 .bf16) (main_arg2 : FVec F S4x8192x512 .bf16) : IVec S4x8192x1024 1 :=
  let main_v0 : FVec F S4x8192x1024 .f32 := (extf .f32 · bitsLt_bf16_f32) main_arg0
  let main_v1 : FVec F S4x8192x1024 .f32 := Host.absf main_v0
  let main_cst : FVec F S_ .f32 := constant S_ .f32 0x7F800000#32
  let main_v2 : FVec F S4x8192x1024 .f32 := broadcastInDim S4x8192x1024 ![] bcast_S_S4x8192x1024 main_cst
  let main_v3 : IVec S4x8192x1024 1 := cmpf .olt main_v1 main_v2
  let main_v4 : FVec F S4x8192x1024 .f32 := (extf .f32 · bitsLt_bf16_f32) main_arg1
  let main_v5 : FVec F S4x8192x1024 .f32 := Host.absf main_v4
  let main_cst_0 : FVec F S_ .f32 := constant S_ .f32 0x7F800000#32
  let main_v6 : FVec F S4x8192x1024 .f32 := broadcastInDim S4x8192x1024 ![] bcast_S_S4x8192x1024 main_cst_0
  let main_v7 : IVec S4x8192x1024 1 := cmpf .olt main_v5 main_v6
  let main_v8 : IVec S4x8192x1024 1 := andi main_v3 main_v7
  main_v8
-- ==== Kernel.lean ====
abbrev S4x8192x1024 : Shape := ⟨3, ![4, 8192, 1024]⟩
abbrev S4x8192x512 : Shape := ⟨3, ![4, 8192, 512]⟩
abbrev S1x512x256 : Shape := ⟨3, ![1, 512, 256]⟩
abbrev S1x8192x256 : Shape := ⟨3, ![1, 8192, 256]⟩
abbrev S1x8192x128 : Shape := ⟨3, ![1, 8192, 128]⟩
abbrev S1x512x128 : Shape := ⟨3, ![1, 512, 128]⟩
abbrev S512x128 : Shape := ⟨2, ![512, 128]⟩
abbrev S512x1 : Shape := ⟨2, ![512, 1]⟩
abbrev S512x512 : Shape := ⟨2, ![512, 512]⟩
abbrev S512 : Shape := ⟨1, ![512]⟩

abbrev nBuf : Space → Nat
  | .hbm => 4
  | .vmem => 8
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S4x8192x512, .bf16⟩
  | .hbm, ⟨3, _⟩ => ⟨S4x8192x512, .f32⟩
  | .local _ .vmem, ⟨0, _⟩ => ⟨S1x512x256, .bf16⟩
  | .local _ .vmem, ⟨1, _⟩ => ⟨S1x512x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x512x128, .f32⟩
  | .local _ .vmem, ⟨7, _⟩ => ⟨S1x512x128, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 16], ![false, false, false]⟩

@[reducible] def k0_t1_loop : Scf.Loop 32 :=
  let c0_i32 : BitVec 32 := 0#32
  let c16_i32 : BitVec 32 := 16#32
  let v10 : BitVec 32 := Scalar.addi c0_i32 c16_i32
  let c1_i32 : BitVec 32 := 1#32
  ⟨c0_i32, v10, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32 : BitVec 32 := 512#32
  let v23 : BitVec 32 := Scalar.muli arg7 c512_i32
  v23
def k0_off1 (k0_t1 : Fin k0_t1_loop.trips) : Fin 3 → Nat :=
  let c0_13 : Index := 0#32
  let c0_i32 : BitVec 32 := 0#32
  let c1_i32 : BitVec 32 := 1#32
  let arg7 : BitVec 32 := Scf.iv c0_i32 c1_i32 k0_t1
  let c512_i32 : BitVec 32 := 512#32
  let v23 : BitVec 32 := Scalar.muli arg7 c512_i32
  let v24 : BitVec 32 := v23
  let v25 : Index := Scalar.indexCast v24
  let c0_14 : Index := 0#32
  ![0, v25.toNat, 0]
def k0_off2 (k0_t1 : Fin k0_t1_loop.trips) : Fin 3 → Nat :=
  let c0_15 : Index := 0#32
  let c0_i32 : BitVec 32 := 0#32
  let c1_i32 : BitVec 32 := 1#32
  let arg7 : BitVec 32 := Scf.iv c0_i32 c1_i32 k0_t1
  let c512_i32 : BitVec 32 := 512#32
  let v23 : BitVec 32 := Scalar.muli arg7 c512_i32
  let v24 : BitVec 32 := v23
  let v28 : Index := Scalar.indexCast v24
  let c0_16 : Index := 0#32
  ![0, v28.toNat, 0]
def k0_off3 (k0_t1 : Fin k0_t1_loop.trips) : Fin 3 → Nat :=
  let c0_21 : Index := 0#32
  let c0_i32 : BitVec 32 := 0#32
  let c1_i32 : BitVec 32 := 1#32
  let arg7 : BitVec 32 := Scf.iv c0_i32 c1_i32 k0_t1
  let c512_i32 : BitVec 32 := 512#32
  let v23 : BitVec 32 := Scalar.muli arg7 c512_i32
  let v24 : BitVec 32 := v23
  let v49 : Index := Scalar.indexCast v24
  let c128_22 : Index := 128#32
  ![0, v49.toNat, 128]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S4x8192x1024 : Shape := ⟨3, ![4, 8192, 1024]⟩
abbrev S4x8192x512 : Shape := ⟨3, ![4, 8192, 512]⟩
abbrev S4x8192x8x128 : Shape := ⟨4, ![4, 8192, 8, 128]⟩
abbrev S4x8192x8x64 : Shape := ⟨4, ![4, 8192, 8, 64]⟩
abbrev S4x8x8192x8192 : Shape := ⟨4, ![4, 8, 8192, 8192]⟩
abbrev S_ : Shape := ⟨0, ![]⟩
abbrev S4x8x8192 : Shape := ⟨3, ![4, 8, 8192]⟩
abbrev S4x8x8192x1 : Shape := ⟨4, ![4, 8, 8192, 1]⟩
abbrev S4x8x64x8192 : Shape := ⟨4, ![4, 8, 64, 8192]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S4x8192x512, .bf16⟩
  | .hbm, ⟨3, _⟩ => ⟨S4x8192x1024, .f32⟩
  | .hbm, ⟨4, _⟩ => ⟨S4x8192x8x128, .f32⟩
  | .hbm, ⟨5, _⟩ => ⟨S4x8192x1024, .f32⟩
  | .hbm, ⟨6, _⟩ => ⟨S4x8192x8x128, .f32⟩
  | .hbm, ⟨7, _⟩ => ⟨S4x8192x512, .f32⟩
  | .hbm, ⟨8, _⟩ => ⟨S4x8192x8x64, .f32⟩
  | .hbm, ⟨9, _⟩ => ⟨S4x8x8192x8192, .f32⟩
  | .hbm, ⟨10, _⟩ => ⟨S_, .f32⟩
  | .hbm, ⟨11, _⟩ => ⟨S4x8x8192, .f32⟩
  | .hbm, ⟨12, _⟩ => ⟨S_, .f32⟩
  | .hbm, ⟨13, _⟩ => ⟨S4x8x8192, .f32⟩
  | .hbm, ⟨14, _⟩ => ⟨S4x8x8192, .f32⟩
  | .hbm, ⟨15, _⟩ => ⟨S4x8x8192x1, .f32⟩
  | .hbm, ⟨16, _⟩ => ⟨S4x8x8192x8192, .f32⟩
  | .hbm, ⟨17, _⟩ => ⟨S4x8x8192x8192, .f32⟩
  | .hbm, ⟨18, _⟩ => ⟨S4x8x8192x8192, .f32⟩
  | .hbm, ⟨19, _⟩ => ⟨S_, .f32⟩
  | .hbm, ⟨20, _⟩ => ⟨S4x8x8192, .f32⟩
  | .hbm, ⟨21, _⟩ => ⟨S4x8x8192x1, .f32⟩
  | .hbm, ⟨22, _⟩ => ⟨S4x8x8192x8192, .f32⟩
  | .hbm, ⟨23, _⟩ => ⟨S4x8x8192x8192, .f32⟩
  | .hbm, ⟨24, _⟩ => ⟨S4x8x8192x8192, .bf16⟩
  | .hbm, ⟨25, _⟩ => ⟨S4x8x8192x8192, .f32⟩
  | .hbm, ⟨26, _⟩ => ⟨S4x8x64x8192, .f32⟩
  | .hbm, ⟨27, _⟩ => ⟨S4x8192x8x64, .f32⟩
  | .hbm, ⟨28, _⟩ => ⟨S4x8192x512, .f32⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x8192x512 : Shape := ⟨3, ![4, 8192, 512]⟩
abbrev S4x8192x256 : Shape := ⟨3, ![4, 8192, 256]⟩
abbrev S512 : Shape := ⟨1, ![512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S1x512 : Shape := ⟨2, ![1, 512]⟩
abbrev S1x1024 : Shape := ⟨2, ![1, 1024]⟩
abbrev S1x512x1024 : Shape := ⟨3, ![1, 512, 1024]⟩
abbrev S1x512x512 : Shape := ⟨3, ![1, 512, 512]⟩
abbrev S1x512x256 : Shape := ⟨3, ![1, 512, 256]⟩
abbrev S512x512 : Shape := ⟨2, ![512, 512]⟩
abbrev S512x1 : Shape := ⟨2, ![512, 1]⟩
abbrev S512x1024 : Shape := ⟨2, ![512, 1024]⟩
abbrev S512x256 : Shape := ⟨2, ![512, 256]⟩

abbrev nBuf : Space → Nat
  | .hbm => 23
  | .vmem => 19
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S4x8192x256, .f32⟩
  | .hbm, ⟨4, _⟩ => ⟨S512, .f32⟩
  | .hbm, ⟨5, _⟩ => ⟨S512, .f32⟩
  | .hbm, ⟨6, _⟩ => ⟨S1024x1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S1024x1024, .f32⟩
  | .hbm, ⟨11, _⟩ => ⟨S256x1024, .f32⟩
  | .hbm, ⟨12, _⟩ => ⟨S1024, .f32⟩
  | .hbm, ⟨13, _⟩ => ⟨S1x512, .f32⟩
  | .hbm, ⟨14, _⟩ => ⟨S1x512, .f32⟩
  | .hbm, ⟨15, _⟩ => ⟨S1024x1024, .bf16⟩
  | .hbm, ⟨16, _⟩ => ⟨S1x1024, .f32⟩
  | .hbm, ⟨17, _⟩ => ⟨S1024x4096, .bf16⟩
  | .hbm, ⟨18, _⟩ => ⟨S4096x1024, .bf16⟩
  | .hbm, ⟨19, _⟩ => ⟨S1024x1024, .bf16⟩
  | .hbm, ⟨20, _⟩ => ⟨S256x1024, .bf16⟩
  | .hbm, ⟨21, _⟩ => ⟨S1x1024, .f32⟩
  | .hbm, ⟨22, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x256, .f32⟩
  | .local _ .vmem, ⟨7, _⟩ => ⟨S1x512x256, .f32⟩
  | .local _ .vmem, ⟨8, _⟩ => ⟨S1x512, .f32⟩
  | .local _ .vmem, ⟨9, _⟩ => ⟨S1x512, .f32⟩
  | .local _ .vmem, ⟨10, _⟩ => ⟨S1024x1024, .bf16⟩
  | .local _ .vmem, ⟨11, _⟩ => ⟨S1x1024, .f32⟩
  | .local _ .vmem, ⟨12, _⟩ => ⟨S1024x4096, .bf16⟩
  | .local _ .vmem, ⟨13, _⟩ => ⟨S4096x1024, .bf16⟩
  | .local _ .vmem, ⟨14, _⟩ => ⟨S1024x1024, .bf16⟩
  | .local _ .vmem, ⟨15, _⟩ => ⟨S256x1024, .bf16⟩
  | .local _ .vmem, ⟨16, _⟩ => ⟨S1x1024, .f32⟩
  | .local _ .vmem, ⟨17, _⟩ => ⟨S1x512x1024, .f32⟩
  | .local _ .vmem, ⟨18, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Kernel2Ideal.lean ====
abbrev S4x8192x1024 : Shape := ⟨3, ![4, 8192, 1024]⟩
abbrev S4x8192x512 : Shape := ⟨3, ![4, 8192, 512]⟩
abbrev S4x8192x256 : Shape := ⟨3, ![4, 8192, 256]⟩
abbrev S512 : Shape := ⟨1, ![512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S1x512 : Shape := ⟨2, ![1, 512]⟩
abbrev S1x1024 : Shape := ⟨2, ![1, 1024]⟩
abbrev S1x512x1024 : Shape := ⟨3, ![1, 512, 1024]⟩
abbrev S1x512x512 : Shape := ⟨3, ![1, 512, 512]⟩
abbrev S1x512x256 : Shape := ⟨3, ![1, 512, 256]⟩
abbrev S512x512 : Shape := ⟨2, ![512, 512]⟩
abbrev S512x1 : Shape := ⟨2, ![512, 1]⟩
abbrev S512x1024 : Shape := ⟨2, ![512, 1024]⟩
abbrev S512x256 : Shape := ⟨2, ![512, 256]⟩

abbrev nBuf : Space → Nat
  | .hbm => 23
  | .vmem => 19
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S4x8192x256, .f32⟩
  | .hbm, ⟨4, _⟩ => ⟨S512, .f32⟩
  | .hbm, ⟨5, _⟩ => ⟨S512, .f32⟩
  | .hbm, ⟨6, _⟩ => ⟨S1024x1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S1024x1024, .f32⟩
  | .hbm, ⟨11, _⟩ => ⟨S256x1024, .f32⟩
  | .hbm, ⟨12, _⟩ => ⟨S1024, .f32⟩
  | .hbm, ⟨13, _⟩ => ⟨S1x512, .f32⟩
  | .hbm, ⟨14, _⟩ => ⟨S1x512, .f32⟩
  | .hbm, ⟨15, _⟩ => ⟨S1024x1024, .bf16⟩
  | .hbm, ⟨16, _⟩ => ⟨S1x1024, .f32⟩
  | .hbm, ⟨17, _⟩ => ⟨S1024x4096, .bf16⟩
  | .hbm, ⟨18, _⟩ => ⟨S4096x1024, .bf16⟩
  | .hbm, ⟨19, _⟩ => ⟨S1024x1024, .bf16⟩
  | .hbm, ⟨20, _⟩ => ⟨S256x1024, .bf16⟩
  | .hbm, ⟨21, _⟩ => ⟨S1x1024, .f32⟩
  | .hbm, ⟨22, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x256, .f32⟩
  | .local _ .vmem, ⟨7, _⟩ => ⟨S1x512x256, .f32⟩
  | .local _ .vmem, ⟨8, _⟩ => ⟨S1x512, .f32⟩
  | .local _ .vmem, ⟨9, _⟩ => ⟨S1x512, .f32⟩
  | .local _ .vmem, ⟨10, _⟩ => ⟨S1024x1024, .bf16⟩
  | .local _ .vmem, ⟨11, _⟩ => ⟨S1x1024, .f32⟩
  | .local _ .vmem, ⟨12, _⟩ => ⟨S1024x4096, .bf16⟩
  | .local _ .vmem, ⟨13, _⟩ => ⟨S4096x1024, .bf16⟩
  | .local _ .vmem, ⟨14, _⟩ => ⟨S1024x1024, .bf16⟩
  | .local _ .vmem, ⟨15, _⟩ => ⟨S256x1024, .bf16⟩
  | .local _ .vmem, ⟨16, _⟩ => ⟨S1x1024, .f32⟩
  | .local _ .vmem, ⟨17, _⟩ => ⟨S1x512x1024, .f32⟩
  | .local _ .vmem, ⟨18, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S4x8192x1024 : Shape := ⟨3, ![4, 8192, 1024]⟩
abbrev S4x8192x512 : Shape := ⟨3, ![4, 8192, 512]⟩
abbrev S4x8192x256 : Shape := ⟨3, ![4, 8192, 256]⟩
abbrev S512 : Shape := ⟨1, ![512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S_ : Shape := ⟨0, ![]⟩
abbrev S4x8192 : Shape := ⟨2, ![4, 8192]⟩
abbrev S4x8192x1 : Shape := ⟨3, ![4, 8192, 1]⟩
abbrev S1x1x512 : Shape := ⟨3, ![1, 1, 512]⟩
abbrev S1x1x1024 : Shape := ⟨3, ![1, 1, 1024]⟩
abbrev S4x8192x4096 : Shape := ⟨3, ![4, 8192, 4096]⟩

abbrev nBuf : Space → Nat
  | .hbm => 99
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S4x8192x256, .f32⟩
  | .hbm, ⟨4, _⟩ => ⟨S512, .f32⟩
  | .hbm, ⟨5, _⟩ => ⟨S512, .f32⟩
  | .hbm, ⟨6, _⟩ => ⟨S1024x1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S1024x1024, .f32⟩
  | .hbm, ⟨11, _⟩ => ⟨S256x1024, .f32⟩
  | .hbm, ⟨12, _⟩ => ⟨S1024, .f32⟩
  | .hbm, ⟨13, _⟩ => ⟨S4x8192x512, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S4x8192x1, .f32⟩
  | .hbm, ⟨24, _⟩ => ⟨S4x8192x512, .f32⟩
  | .hbm, ⟨25, _⟩ => ⟨S4x8192x512, .f32⟩
  | .hbm, ⟨26, _⟩ => ⟨S1x1x512, .f32⟩
  | .hbm, ⟨27, _⟩ => ⟨S4x8192x512, .f32⟩
  | .hbm, ⟨28, _⟩ => ⟨S4x8192x512, .f32⟩
  | .hbm, ⟨29, _⟩ => ⟨S4x8192x512, .f32⟩
  | .hbm, ⟨30, _⟩ => ⟨S_, .f32⟩
  | .hbm, ⟨31, _⟩ => ⟨S4x8192, .f32⟩
  | .hbm, ⟨32, _⟩ => ⟨S4x8192x1, .f32⟩
  | .hbm, ⟨33, _⟩ => ⟨S_, .f32⟩
  | .hbm, ⟨34, _⟩ => ⟨S4x8192x1, .f32⟩
  | .hbm, ⟨35, _⟩ => ⟨S4x8192x1, .f32⟩
  | .hbm, ⟨36, _⟩ => ⟨S_, .f32⟩
  | .hbm, ⟨37, _⟩ => ⟨S4x8192x1, .f32⟩
  | .hbm, ⟨38, _⟩ => ⟨S4x8192x1, .f32⟩
  | .hbm, ⟨39, _⟩ => ⟨S4x8192x1, .f32⟩
  | .hbm, ⟨40, _⟩ => ⟨S4x8192x512, .f32⟩
  | .hbm, ⟨41, _⟩ => ⟨S4x8192x512, .f32⟩
  | .hbm, ⟨42, _⟩ => ⟨S1x1x512, .f32⟩
  | .hbm, ⟨43, _⟩ => ⟨S4x8192x512, .f32⟩
  | .hbm, ⟨44, _⟩ => ⟨S4x8192x512, .f32⟩
  | .hbm, ⟨45, _⟩ => ⟨S4x8192x1024, .f32⟩
  | .hbm, ⟨46, _⟩ => ⟨S4x8192x1024, .f32⟩
  | .hbm, ⟨47, _⟩ => ⟨S4x8192x1024, .f32⟩
  | .hbm, ⟨48, _⟩ => ⟨S4x8192x1024, .f32⟩
  | .hbm, ⟨49, _⟩ => ⟨S_, .f32⟩
  | .hbm, ⟨50, _⟩ => ⟨S4x8192, .f32⟩
  | .hbm, ⟨51, _⟩ => ⟨S4x8192x1, .f32⟩
  | .hbm, ⟨52, _⟩ => ⟨S_, .f32⟩
  | .hbm, ⟨53, _⟩ => ⟨S4x8192x1, .f32⟩
  | .hbm, ⟨54, _⟩ => ⟨S4x8192x1, .f32⟩
  | .hbm, ⟨55, _⟩ => ⟨S_, .f32⟩
  | .hbm, ⟨56, _⟩ => ⟨S4x8192x1, .f32⟩
  | .hbm, ⟨57, _⟩ => ⟨S4x8192x1, .f32⟩
  | .hbm, ⟨58, _⟩ => ⟨S4x8192x1, .f32⟩
  | .hbm, ⟨59, _⟩ => ⟨S4x8192x1024, .f32⟩
  | .hbm, ⟨60, _⟩ => ⟨S4x8192x1024, .f32⟩
  | .hbm, ⟨61, _⟩ => ⟨S1x1x1024, .f32⟩
  | .hbm, ⟨62, _⟩ => ⟨S4x8192x1024, .f32⟩
  | .hbm, ⟨63, _⟩ => ⟨S4x8192x1024, .f32⟩
  | .hbm, ⟨64, _⟩ => ⟨S4x8192x4096, .f32⟩
  | .hbm, ⟨65, _⟩ => ⟨S_, .f32⟩
  | .hbm, ⟨66, _⟩ => ⟨S4x8192x4096, .f32⟩
  | .hbm, ⟨67, _⟩ => ⟨S4x8192x4096, .f32⟩
  | .hbm, ⟨68, _⟩ => ⟨S4x8192x4096, .f32⟩
  | .hbm, ⟨69, _⟩ => ⟨S4x8192x1024, .f32⟩
  | .hbm, ⟨70, _⟩ => ⟨S4x8192x1024, .f32⟩
  | .hbm, ⟨71, _⟩ => ⟨S4x8192x1024, .f32⟩
  | .hbm, ⟨72, _⟩ => ⟨S4x8192x1024, .f32⟩
  | .hbm, ⟨73, _⟩ => ⟨S4x8192x1024, .f32⟩
  | .hbm, ⟨74, _⟩ => ⟨S_, .f32⟩
  | .hbm, ⟨75, _⟩ => ⟨S4x8192x1024, .f32⟩
  | .hbm, ⟨76, _⟩ => ⟨S4x8192x1024, .f32⟩
  | .hbm, ⟨77, _⟩ => ⟨S_, .f32⟩
  | .hbm, ⟨78, _⟩ => ⟨S4x8192x1024, .f32⟩
  | .hbm, ⟨79, _⟩ => ⟨S4x8192x1024, .f32⟩
  | .hbm, ⟨80, _⟩ => ⟨S4x8192x1024, .f32⟩
  | .hbm, ⟨81, _⟩ => ⟨S4x8192x1024, .f32⟩
  | .hbm, ⟨82, _⟩ => ⟨S_, .f32⟩
  | .hbm, ⟨83, _⟩ => ⟨S4x8192, .f32⟩
  | .hbm, ⟨84, _⟩ => ⟨S4x8192x1, .f32⟩
  | .hbm, ⟨85, _⟩ => ⟨S_, .f32⟩
  | .hbm, ⟨86, _⟩ => ⟨S4x8192x1, .f32⟩
  | .hbm, ⟨87, _⟩ => ⟨S4x8192x1, .f32⟩
  | .hbm, ⟨88, _⟩ => ⟨S_, .f32⟩
  | .hbm, ⟨89, _⟩ => ⟨S4x8192x1, .f32⟩
  | .hbm, ⟨90, _⟩ => ⟨S4x8192x1, .f32⟩
  | .hbm, ⟨91, _⟩ => ⟨S4x8192x1, .f32⟩
  | .hbm, ⟨92, _⟩ => ⟨S4x8192x1024, .f32⟩
  | .hbm, ⟨93, _⟩ => ⟨S4x8192x1024, .f32⟩
  | .hbm, ⟨94, _⟩ => ⟨S1x1x1024, .f32⟩
  | .hbm, ⟨95, _⟩ => ⟨S4x8192x1024, .f32⟩
  | .hbm, ⟨96, _⟩ => ⟨S4x8192x1024, .f32⟩
  | .hbm, ⟨97, _⟩ => ⟨S4x8192x1024, .f32⟩
  | .hbm, ⟨98, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_cst_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_call0_cst : Ref sig .tc := ⟨.hbm, 65, rfl⟩
abbrev main_call0_v0 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_8 : Ref sig .tc := ⟨.hbm, 74, rfl⟩
abbrev main_v50 : Ref sig .tc := ⟨.hbm, 75, rfl⟩
abbrev main_v51 : Ref sig .tc := ⟨.hbm, 76, rfl⟩
abbrev main_cst_9 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_10 : Ref sig .tc := ⟨.hbm, 82, rfl⟩
abbrev main_v56 : Ref sig .tc := ⟨.hbm, 83, rfl⟩
abbrev main_v57 : Ref sig .tc := ⟨.hbm, 84, rfl⟩
abbrev main_cst_11 : Ref sig .tc := ⟨.hbm, 85, rfl⟩
abbrev main_v58 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x2048x512 : Shape := ⟨3, ![8, 2048, 512]⟩
abbrev S8x2048x256 : Shape := ⟨3, ![8, 2048, 256]⟩
abbrev S512 : Shape := ⟨1, ![512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S1x512 : Shape := ⟨2, ![1, 512]⟩
abbrev S1x1024 : Shape := ⟨2, ![1, 1024]⟩
abbrev S1x512x1024 : Shape := ⟨3, ![1, 512, 1024]⟩
abbrev S1x512x512 : Shape := ⟨3, ![1, 512, 512]⟩
abbrev S1x512x256 : Shape := ⟨3, ![1, 512, 256]⟩
abbrev S512x512 : Shape := ⟨2, ![512, 512]⟩
abbrev S512x1 : Shape := ⟨2, ![512, 1]⟩
abbrev S512x1024 : Shape := ⟨2, ![512, 1024]⟩
abbrev S512x256 : Shape := ⟨2, ![512, 256]⟩

abbrev nBuf : Space → Nat
  | .hbm => 23
  | .vmem => 19
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S8x2048x256, .f32⟩
  | .hbm, ⟨4, _⟩ => ⟨S512, .f32⟩
  | .hbm, ⟨5, _⟩ => ⟨S512, .f32⟩
  | .hbm, ⟨6, _⟩ => ⟨S1024x1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S1024x1024, .f32⟩
  | .hbm, ⟨11, _⟩ => ⟨S256x1024, .f32⟩
  | .hbm, ⟨12, _⟩ => ⟨S1024, .f32⟩
  | .hbm, ⟨13, _⟩ => ⟨S1x512, .f32⟩
  | .hbm, ⟨14, _⟩ => ⟨S1x512, .f32⟩
  | .hbm, ⟨15, _⟩ => ⟨S1024x1024, .bf16⟩
  | .hbm, ⟨16, _⟩ => ⟨S1x1024, .f32⟩
  | .hbm, ⟨17, _⟩ => ⟨S1024x4096, .bf16⟩
  | .hbm, ⟨18, _⟩ => ⟨S4096x1024, .bf16⟩
  | .hbm, ⟨19, _⟩ => ⟨S1024x1024, .bf16⟩
  | .hbm, ⟨20, _⟩ => ⟨S256x1024, .bf16⟩
  | .hbm, ⟨21, _⟩ => ⟨S1x1024, .f32⟩
  | .hbm, ⟨22, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x256, .f32⟩
  | .local _ .vmem, ⟨7, _⟩ => ⟨S1x512x256, .f32⟩
  | .local _ .vmem, ⟨8, _⟩ => ⟨S1x512, .f32⟩
  | .local _ .vmem, ⟨9, _⟩ => ⟨S1x512, .f32⟩
  | .local _ .vmem, ⟨10, _⟩ => ⟨S1024x1024, .bf16⟩
  | .local _ .vmem, ⟨11, _⟩ => ⟨S1x1024, .f32⟩
  | .local _ .vmem, ⟨12, _⟩ => ⟨S1024x4096, .bf16⟩
  | .local _ .vmem, ⟨13, _⟩ => ⟨S4096x1024, .bf16⟩
  | .local _ .vmem, ⟨14, _⟩ => ⟨S1024x1024, .bf16⟩
  | .local _ .vmem, ⟨15, _⟩ => ⟨S256x1024, .bf16⟩
  | .local _ .vmem, ⟨16, _⟩ => ⟨S1x1024, .f32⟩
  | .local _ .vmem, ⟨17, _⟩ => ⟨S1x512x1024, .f32⟩
  | .local _ .vmem, ⟨18, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference3Ideal.lean ====
abbrev S8x2048x1024 : Shape := ⟨3, ![8, 2048, 1024]⟩
abbrev S8x2048x512 : Shape := ⟨3, ![8, 2048, 512]⟩
abbrev S8x2048x256 : Shape := ⟨3, ![8, 2048, 256]⟩
abbrev S512 : Shape := ⟨1, ![512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S_ : Shape := ⟨0, ![]⟩
abbrev S8x2048 : Shape := ⟨2, ![8, 2048]⟩
abbrev S8x2048x1 : Shape := ⟨3, ![8, 2048, 1]⟩
abbrev S1x1x512 : Shape := ⟨3, ![1, 1, 512]⟩
abbrev S1x1x1024 : Shape := ⟨3, ![1, 1, 1024]⟩
abbrev S8x2048x4096 : Shape := ⟨3, ![8, 2048, 4096]⟩

abbrev nBuf : Space → Nat
  | .hbm => 99
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S8x2048x256, .f32⟩
  | .hbm, ⟨4, _⟩ => ⟨S512, .f32⟩
  | .hbm, ⟨5, _⟩ => ⟨S512, .f32⟩
  | .hbm, ⟨6, _⟩ => ⟨S1024x1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S1024x1024, .f32⟩
  | .hbm, ⟨11, _⟩ => ⟨S256x1024, .f32⟩
  | .hbm, ⟨12, _⟩ => ⟨S1024, .f32⟩
  | .hbm, ⟨13, _⟩ => ⟨S8x2048x512, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S8x2048x1, .f32⟩
  | .hbm, ⟨24, _⟩ => ⟨S8x2048x512, .f32⟩
  | .hbm, ⟨25, _⟩ => ⟨S8x2048x512, .f32⟩
  | .hbm, ⟨26, _⟩ => ⟨S1x1x512, .f32⟩
  | .hbm, ⟨27, _⟩ => ⟨S8x2048x512, .f32⟩
  | .hbm, ⟨28, _⟩ => ⟨S8x2048x512, .f32⟩
  | .hbm, ⟨29, _⟩ => ⟨S8x2048x512, .f32⟩
  | .hbm, ⟨30, _⟩ => ⟨S_, .f32⟩
  | .hbm, ⟨31, _⟩ => ⟨S8x2048, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S_, .f32⟩
  | .hbm, ⟨37, _⟩ => ⟨S8x2048x1, .f32⟩
  | .hbm, ⟨38, _⟩ => ⟨S8x2048x1, .f32⟩
  | .hbm, ⟨39, _⟩ => ⟨S8x2048x1, .f32⟩
  | .hbm, ⟨40, _⟩ => ⟨S8x2048x512, .f32⟩
  | .hbm, ⟨41, _⟩ => ⟨S8x2048x512, .f32⟩
  | .hbm, ⟨42, _⟩ => ⟨S1x1x512, .f32⟩
  | .hbm, ⟨43, _⟩ => ⟨S8x2048x512, .f32⟩
  | .hbm, ⟨44, _⟩ => ⟨S8x2048x512, .f32⟩
  | .hbm, ⟨45, _⟩ => ⟨S8x2048x1024, .f32⟩
  | .hbm, ⟨46, _⟩ => ⟨S8x2048x1024, .f32⟩
  | .hbm, ⟨47, _⟩ => ⟨S8x2048x1024, .f32⟩
  | .hbm, ⟨48, _⟩ => ⟨S8x2048x1024, .f32⟩
  | .hbm, ⟨49, _⟩ => ⟨S_, .f32⟩
  | .hbm, ⟨50, _⟩ => ⟨S8x2048, .f32⟩
  | .hbm, ⟨51, _⟩ => ⟨S8x2048x1, .f32⟩
  | .hbm, ⟨52, _⟩ => ⟨S_, .f32⟩
  | .hbm, ⟨53, _⟩ => ⟨S8x2048x1, .f32⟩
  | .hbm, ⟨54, _⟩ => ⟨S8x2048x1, .f32⟩
  | .hbm, ⟨55, _⟩ => ⟨S_, .f32⟩
  | .hbm, ⟨56, _⟩ => ⟨S8x2048x1, .f32⟩
  | .hbm, ⟨57, _⟩ => ⟨S8x2048x1, .f32⟩
  | .hbm, ⟨58, _⟩ => ⟨S8x2048x1, .f32⟩
  | .hbm, ⟨59, _⟩ => ⟨S8x2048x1024, .f32⟩
  | .hbm, ⟨60, _⟩ => ⟨S8x2048x1024, .f32⟩
  | .hbm, ⟨61, _⟩ => ⟨S1x1x1024, .f32⟩
  | .hbm, ⟨62, _⟩ => ⟨S8x2048x1024, .f32⟩
  | .hbm, ⟨63, _⟩ => ⟨S8x2048x1024, .f32⟩
  | .hbm, ⟨64, _⟩ => ⟨S8x2048x4096, .f32⟩
  | .hbm, ⟨65, _⟩ => ⟨S_, .f32⟩
  | .hbm, ⟨66, _⟩ => ⟨S8x2048x4096, .f32⟩
  | .hbm, ⟨67, _⟩ => ⟨S8x2048x4096, .f32⟩
  | .hbm, ⟨68, _⟩ => ⟨S8x2048x4096, .f32⟩
  | .hbm, ⟨69, _⟩ => ⟨S8x2048x1024, .f32⟩
  | .hbm, ⟨70, _⟩ => ⟨S8x2048x1024, .f32⟩
  | .hbm, ⟨71, _⟩ => ⟨S8x2048x1024, .f32⟩
  | .hbm, ⟨72, _⟩ => ⟨S8x2048x1024, .f32⟩
  | .hbm, ⟨73, _⟩ => ⟨S8x2048x1024, .f32⟩
  | .hbm, ⟨74, _⟩ => ⟨S_, .f32⟩
  | .hbm, ⟨75, _⟩ => ⟨S8x2048x1024, .f32⟩
  | .hbm, ⟨76, _⟩ => ⟨S8x2048x1024, .f32⟩
  | .hbm, ⟨77, _⟩ => ⟨S_, .f32⟩
  | .hbm, ⟨78, _⟩ => ⟨S8x2048x1024, .f32⟩
  | .hbm, ⟨79, _⟩ => ⟨S8x2048x1024, .f32⟩
  | .hbm, ⟨80, _⟩ => ⟨S8x2048x1024, .f32⟩
  | .hbm, ⟨81, _⟩ => ⟨S8x2048x1024, .f32⟩
  | .hbm, ⟨82, _⟩ => ⟨S_, .f32⟩
  | .hbm, ⟨83, _⟩ => ⟨S8x2048, .f32⟩
  | .hbm, ⟨84, _⟩ => ⟨S8x2048x1, .f32⟩
  | .hbm, ⟨85, _⟩ => ⟨S_, .f32⟩
  | .hbm, ⟨86, _⟩ => ⟨S8x2048x1, .f32⟩
  | .hbm, ⟨87, _⟩ => ⟨S8x2048x1, .f32⟩
  | .hbm, ⟨88, _⟩ => ⟨S_, .f32⟩
  | .hbm, ⟨89, _⟩ => ⟨S8x2048x1, .f32⟩
  | .hbm, ⟨90, _⟩ => ⟨S8x2048x1, .f32⟩
  | .hbm, ⟨91, _⟩ => ⟨S8x2048x1, .f32⟩
  | .hbm, ⟨92, _⟩ => ⟨S8x2048x1024, .f32⟩
  | .hbm, ⟨93, _⟩ => ⟨S8x2048x1024, .f32⟩
  | .hbm, ⟨94, _⟩ => ⟨S1x1x1024, .f32⟩
  | .hbm, ⟨95, _⟩ => ⟨S8x2048x1024, .f32⟩
  | .hbm, ⟨96, _⟩ => ⟨S8x2048x1024, .f32⟩
  | .hbm, ⟨97, _⟩ => ⟨S8x2048x1024, .f32⟩
  | .hbm, ⟨98, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_cst_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_call0_cst : Ref sig .tc := ⟨.hbm, 65, rfl⟩
abbrev main_call0_v0 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_8 : Ref sig .tc := ⟨.hbm, 74, rfl⟩
abbrev main_v50 : Ref sig .tc := ⟨.hbm, 75, rfl⟩
abbrev main_v51 : Ref sig .tc := ⟨.hbm, 76, rfl⟩
abbrev main_cst_9 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_10 : Ref sig .tc := ⟨.hbm, 82, rfl⟩
abbrev main_v56 : Ref sig .tc := ⟨.hbm, 83, rfl⟩
abbrev main_v57 : Ref sig .tc := ⟨.hbm, 84, rfl⟩
abbrev main_cst_11 : Ref sig .tc := ⟨.hbm, 85, rfl⟩
abbrev main_v58 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩

abbrev nD : Nat := 1
abbrev τ : Topo := Topo.v7x

variable {F : FTy → Type} [FloatOps F]
-- ==== Kernel4.lean ====
abbrev S4x8192x1024 : Shape := ⟨3, ![4, 8192, 1024]⟩
abbrev S1024 : Shape := ⟨1, ![1024]⟩
abbrev S1024x1952 : Shape := ⟨2, ![1024, 1952]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S96 : Shape := ⟨1, ![96]⟩
abbrev S1024x1920 : Shape := ⟨2, ![1024, 1920]⟩
abbrev S_ : Shape := ⟨0, ![]⟩
abbrev S1024x64 : Shape := ⟨2, ![1024, 64]⟩
abbrev S1024x32 : Shape := ⟨2, ![1024, 32]⟩
abbrev S1024x2048 : Shape := ⟨2, ![1024, 2048]⟩
abbrev S256x8x96 : Shape := ⟨3, ![256, 8, 96]⟩
abbrev S256x8x128 : Shape := ⟨3, ![256, 8, 128]⟩
abbrev S256x1024 : Shape := ⟨2, ![256, 1024]⟩
abbrev S128x8x128 : Shape := ⟨3, ![128, 8, 128]⟩
abbrev S128x8x64 : Shape := ⟨3, ![128, 8, 64]⟩
abbrev S128x512 : Shape := ⟨2, ![128, 512]⟩
abbrev S128x1536 : Shape := ⟨2, ![128, 1536]⟩
abbrev S1x1024 : Shape := ⟨2, ![1, 1024]⟩
abbrev S1x256 : Shape := ⟨2, ![1, 256]⟩
abbrev S1x128 : Shape := ⟨2, ![1, 128]⟩
abbrev S16 : Shape := ⟨1, ![16]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S8192x32 : Shape := ⟨2, ![8192, 32]⟩
abbrev S8192x128 : Shape := ⟨2, ![8192, 128]⟩
abbrev S4x8192x1536 : Shape := ⟨3, ![4, 8192, 1536]⟩
abbrev S4x8192x512 : Shape := ⟨3, ![4, 8192, 512]⟩
abbrev S1x512x1024 : Shape := ⟨3, ![1, 512, 1024]⟩
abbrev S512x128 : Shape := ⟨2, ![512, 128]⟩
abbrev S1x512x1536 : Shape := ⟨3, ![1, 512, 1536]⟩
abbrev S1x512x512 : Shape := ⟨3, ![1, 512, 512]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩
abbrev S512x1536 : Shape := ⟨2, ![512, 1536]⟩
abbrev S512x256 : Shape := ⟨2, ![512, 256]⟩
abbrev S512x512 : Shape := ⟨2, ![512, 512]⟩
abbrev S1x512x128 : Shape := ⟨3, ![1, 512, 128]⟩

abbrev nBuf : Space → Nat
  | .hbm => 79
  | .vmem => 22
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x1952, .f32⟩
  | .hbm, ⟨3, _⟩ => ⟨S256, .f32⟩
  | .hbm, ⟨4, _⟩ => ⟨S256x768, .f32⟩
  | .hbm, ⟨5, _⟩ => ⟨S128, .f32⟩
  | .hbm, ⟨6, _⟩ => ⟨S128x1024, .f32⟩
  | .hbm, ⟨7, _⟩ => ⟨S96, .f32⟩
  | .hbm, ⟨8, _⟩ => ⟨S96, .f32⟩
  | .hbm, ⟨9, _⟩ => ⟨S1024x1920, .f32⟩
  | .hbm, ⟨10, _⟩ => ⟨S_, .f32⟩
  | .hbm, ⟨11, _⟩ => ⟨S1024x64, .f32⟩
  | .hbm, ⟨12, _⟩ => ⟨S1024x32, .f32⟩
  | .hbm, ⟨13, _⟩ => ⟨S_, .f32⟩
  | .hbm, ⟨14, _⟩ => ⟨S1024x32, .f32⟩
  | .hbm, ⟨15, _⟩ => ⟨S1024x2048, .f32⟩
  | .hbm, ⟨16, _⟩ => ⟨S1024x2048, .bf16⟩
  | .hbm, ⟨17, _⟩ => ⟨S256x8x96, .f32⟩
  | .hbm, ⟨18, _⟩ => ⟨S_, .i32⟩
  | .hbm, ⟨19, _⟩ => ⟨S_, .f32⟩
  | .hbm, ⟨20, _⟩ => ⟨S256x8x128, .f32⟩
  | .hbm, ⟨21, _⟩ => ⟨S256x1024, .f32⟩
  | .hbm, ⟨22, _⟩ => ⟨S256x1024, .bf16⟩
  | .hbm, ⟨23, _⟩ => ⟨S128x8x128, .f32⟩
  | .hbm, ⟨24, _⟩ => ⟨S128x8x64, .f32⟩
  | .hbm, ⟨25, _⟩ => ⟨S128x512, .f32⟩
  | .hbm, ⟨26, _⟩ => ⟨S128x8x64, .f32⟩
  | .hbm, ⟨27, _⟩ => ⟨S_, .i32⟩
  | .hbm, ⟨28, _⟩ => ⟨S_, .f32⟩
  | .hbm, ⟨29, _⟩ => ⟨S128x8x128, .f32⟩
  | .hbm, ⟨30, _⟩ => ⟨S128x1024, .f32⟩
  | .hbm, ⟨31, _⟩ => ⟨S128x8x64, .f32⟩
  | .hbm, ⟨32, _⟩ => ⟨S128x512, .f32⟩
  | .hbm, ⟨33, _⟩ => ⟨S128x1536, .f32⟩
  | .hbm, ⟨34, _⟩ => ⟨S128x1536, .bf16⟩
  | .hbm, ⟨35, _⟩ => ⟨S1x1024, .f32⟩
  | .hbm, ⟨36, _⟩ => ⟨S1x256, .f32⟩
  | .hbm, ⟨37, _⟩ => ⟨S1x128, .f32⟩
  | .hbm, ⟨38, _⟩ => ⟨S_, .i32⟩
  | .hbm, ⟨39, _⟩ => ⟨S_, .f32⟩
  | .hbm, ⟨40, _⟩ => ⟨S128, .f32⟩
  | .hbm, ⟨41, _⟩ => ⟨S1x128, .f32⟩
  | .hbm, ⟨42, _⟩ => ⟨S_, .i32⟩
  | .hbm, ⟨43, _⟩ => ⟨S_, .f32⟩
  | .hbm, ⟨44, _⟩ => ⟨S128, .f32⟩
  | .hbm, ⟨45, _⟩ => ⟨S1x128, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S8192, .f32⟩
  | .hbm, ⟨58, _⟩ => ⟨S8192x1, .f32⟩
  | .hbm, ⟨59, _⟩ => ⟨S1x16, .f32⟩
  | .hbm, ⟨60, _⟩ => ⟨S8192x16, .f32⟩
  | .hbm, ⟨61, _⟩ => ⟨S8192x16, .f32⟩
  | .hbm, ⟨62, _⟩ => ⟨S8192x16, .f32⟩
  | .hbm, ⟨63, _⟩ => ⟨S8192x16, .f32⟩
  | .hbm, ⟨64, _⟩ => ⟨S8192x16, .f32⟩
  | .hbm, ⟨65, _⟩ => ⟨S_, .f32⟩
  | .hbm, ⟨66, _⟩ => ⟨S8192x64, .f32⟩
  | .hbm, ⟨67, _⟩ => ⟨S_, .f32⟩
  | .hbm, ⟨68, _⟩ => ⟨S8192x32, .f32⟩
  | .hbm, ⟨69, _⟩ => ⟨S8192x128, .f32⟩
  | .hbm, ⟨70, _⟩ => ⟨S_, .f32⟩
  | .hbm, ⟨71, _⟩ => ⟨S8192x64, .f32⟩
  | .hbm, ⟨72, _⟩ => ⟨S8192x64, .f32⟩
  | .hbm, ⟨73, _⟩ => ⟨S8192x16, .f32⟩
  | .hbm, ⟨74, _⟩ => ⟨S8192x128, .f32⟩
  | .hbm, ⟨75, _⟩ => ⟨S4x8192x1536, .f32⟩
  | .hbm, ⟨76, _⟩ => ⟨S4x8192x1024, .bf16⟩
  | .hbm, ⟨77, _⟩ => ⟨S4x8192x1024, .bf16⟩
  | .hbm, ⟨78, _⟩ => ⟨S4x8192x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2048, .bf16⟩
  | .local _ .vmem, ⟨4, _⟩ => ⟨S1x256, .f32⟩
  | .local _ .vmem, ⟨5, _⟩ => ⟨S256x1024, .bf16⟩
  | .local _ .vmem, ⟨6, _⟩ => ⟨S1x128, .f32⟩
  | .local _ .vmem, ⟨7, _⟩ => ⟨S128x1536, .bf16⟩
  | .local _ .vmem, ⟨8, _⟩ => ⟨S1x128, .f32⟩
  | .local _ .vmem, ⟨9, _⟩ => ⟨S1x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1x512x1536, .f32⟩
  | .local _ .vmem, ⟨15, _⟩ => ⟨S1x512x1536, .f32⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x512, .bf16⟩
  | .local _ .vmem, ⟨21, _⟩ => ⟨S1x512x512, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_call0_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_call1_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_2 : Ref sig .tc := ⟨.hbm, 38, rfl⟩
abbrev main_call2_v0 : Ref sig .tc := ⟨.hbm, 39, rfl⟩
abbrev main_v23 : Ref sig .tc := ⟨.hbm, 40, rfl⟩
abbrev main_v24 : Ref sig .tc := ⟨.hbm, 41, rfl⟩
abbrev main_c_3 : Ref sig .tc := ⟨.hbm, 42, rfl⟩
abbrev main_call3_v0 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50_0 : Ref sig .tc := ⟨.hbm, 75, rfl⟩
abbrev main_v50_1 : Ref sig .tc := ⟨.hbm, 76, rfl⟩
abbrev main_v50_2 : Ref sig .tc := ⟨.hbm, 77, rfl⟩
abbrev main_v50_3 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x512x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference4Ideal.lean ====
abbrev S4x8192x1024 : Shape := ⟨3, ![4, 8192, 1024]⟩
abbrev S1024 : Shape := ⟨1, ![1024]⟩
abbrev S1024x1952 : Shape := ⟨2, ![1024, 1952]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S96 : Shape := ⟨1, ![96]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x1952 : Shape := ⟨3, ![4, 8192, 1952]⟩
abbrev S4x8192x1536 : Shape := ⟨3, ![4, 8192, 1536]⟩
abbrev S4x8192x256 : Shape := ⟨3, ![4, 8192, 256]⟩
abbrev S4x8192x128 : Shape := ⟨3, ![4, 8192, 128]⟩
abbrev S4x8192x32 : Shape := ⟨3, ![4, 8192, 32]⟩
abbrev S1x1x256 : Shape := ⟨3, ![1, 1, 256]⟩
abbrev S4x8192x768 : Shape := ⟨3, ![4, 8192, 768]⟩
abbrev S4x8192x8x96 : Shape := ⟨4, ![4, 8192, 8, 96]⟩
abbrev S1x1x128 : Shape := ⟨3, ![1, 1, 128]⟩
abbrev S4x8192x8x128 : Shape := ⟨4, ![4, 8192, 8, 128]⟩
abbrev S4x8192x8x64 : Shape := ⟨4, ![4, 8192, 8, 64]⟩
abbrev S4x8192x1x32 : Shape := ⟨4, ![4, 8192, 1, 32]⟩
abbrev S4x8192x8x32 : Shape := ⟨4, ![4, 8192, 8, 32]⟩
abbrev S4x8192x8 : Shape := ⟨3, ![4, 8192, 8]⟩
abbrev S4x8192x8x1 : Shape := ⟨4, ![4, 8192, 8, 1]⟩
abbrev S1x1x1x96 : Shape := ⟨4, ![1, 1, 1, 96]⟩
abbrev S16 : Shape := ⟨1, ![16]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S1x8192x1x16 : Shape := ⟨4, ![1, 8192, 1, 16]⟩
abbrev S4x8192x8x16 : Shape := ⟨4, ![4, 8192, 8, 16]⟩
abbrev S4x8192x512 : Shape := ⟨3, ![4, 8192, 512]⟩

abbrev nBuf : Space → Nat
  | .hbm => 192
  | .vmem => 0
  | .smem => 0
  | _ => 0

abbrev hbmTy0_0 (i : Nat) : BufTy := match i % 128 with
  | 0 => ⟨S4x8192x1024, .f32⟩
  | 1 => ⟨S1024, .f32⟩
  | 2 => ⟨S1024x1952, .f32⟩
  | 3 => ⟨S256, .f32⟩
  | 4 => ⟨S256x768, .f32⟩
  | 5 => ⟨S128, .f32⟩
  | 6 => ⟨S128x1024, .f32⟩
  | 7 => ⟨S96, .f32⟩
  | 8 => ⟨S96, .f32⟩
  | 9 => ⟨S4x8192x1024, .f32⟩
  | 10 => ⟨S_, .f32⟩
  | 11 => ⟨S4x8192, .f32⟩
  | 12 => ⟨S4x8192x1, .f32⟩
  | 13 => ⟨S_, .f32⟩
  | 14 => ⟨S4x8192x1, .f32⟩
  | 15 => ⟨S4x8192x1, .f32⟩
  | 16 => ⟨S_, .f32⟩
  | 17 => ⟨S4x8192x1, .f32⟩
  | 18 => ⟨S4x8192x1, .f32⟩
  | 19 => ⟨S4x8192x1, .f32⟩
  | 20 => ⟨S4x8192x1024, .f32⟩
  | 21 => ⟨S4x8192x1024, .f32⟩
  | 22 => ⟨S1x1x1024, .f32⟩
  | 23 => ⟨S4x8192x1024, .f32⟩
  | 24 => ⟨S4x8192x1024, .f32⟩
  | 25 => ⟨S4x8192x1952, .f32⟩
  | 26 => ⟨S4x8192x1536, .f32⟩
  | 27 => ⟨S4x8192x256, .f32⟩
  | 28 => ⟨S4x8192x128, .f32⟩
  | 29 => ⟨S4x8192x32, .f32⟩
  | 30 => ⟨S4x8192x256, .f32⟩
  | 31 => ⟨S_, .f32⟩
  | 32 => ⟨S4x8192, .f32⟩
  | 33 => ⟨S4x8192x1, .f32⟩
  | 34 => ⟨S_, .f32⟩
  | 35 => ⟨S4x8192x1, .f32⟩
  | 36 => ⟨S4x8192x1, .f32⟩
  | 37 => ⟨S_, .f32⟩
  | 38 => ⟨S4x8192x1, .f32⟩
  | 39 => ⟨S4x8192x1, .f32⟩
  | 40 => ⟨S4x8192x1, .f32⟩
  | 41 => ⟨S4x8192x256, .f32⟩
  | 42 => ⟨S4x8192x256, .f32⟩
  | 43 => ⟨S1x1x256, .f32⟩
  | 44 => ⟨S4x8192x256, .f32⟩
  | 45 => ⟨S4x8192x256, .f32⟩
  | 46 => ⟨S4x8192x768, .f32⟩
  | 47 => ⟨S4x8192x8x96, .f32⟩
  | 48 => ⟨S4x8192x128, .f32⟩
  | 49 => ⟨S_, .f32⟩
  | 50 => ⟨S4x8192, .f32⟩
  | 51 => ⟨S4x8192x1, .f32⟩
  | 52 => ⟨S_, .f32⟩
  | 53 => ⟨S4x8192x1, .f32⟩
  | 54 => ⟨S4x8192x1, .f32⟩
  | 55 => ⟨S_, .f32⟩
  | 56 => ⟨S4x8192x1, .f32⟩
  | 57 => ⟨S4x8192x1, .f32⟩
  | 58 => ⟨S4x8192x1, .f32⟩
  | 59 => ⟨S4x8192x128, .f32⟩
  | 60 => ⟨S4x8192x128, .f32⟩
  | 61 => ⟨S1x1x128, .f32⟩
  | 62 => ⟨S4x8192x128, .f32⟩
  | 63 => ⟨S4x8192x128, .f32⟩
  | 64 => ⟨S4x8192x1024, .f32⟩
  | 65 => ⟨S4x8192x8x128, .f32⟩
  | 66 => ⟨S4x8192x8x64, .f32⟩
  | 67 => ⟨S4x8192x8x64, .f32⟩
  | 68 => ⟨S4x8192x1x32, .f32⟩
  | 69 => ⟨S4x8192x8x32, .f32⟩
  | 70 => ⟨S4x8192x8x96, .f32⟩
  | 71 => ⟨S4x8192x8x96, .f32⟩
  | 72 => ⟨S_, .f32⟩
  | 73 => ⟨S4x8192x8, .f32⟩
  | 74 => ⟨S4x8192x8x1, .f32⟩
  | 75 => ⟨S_, .f32⟩
  | 76 => ⟨S4x8192x8x1, .f32⟩
  | 77 => ⟨S4x8192x8x1, .f32⟩
  | 78 => ⟨S_, .f32⟩
  | 79 => ⟨S4x8192x8x1, .f32⟩
  | 80 => ⟨S4x8192x8x1, .f32⟩
  | 81 => ⟨S4x8192x8x1, .f32⟩
  | 82 => ⟨S4x8192x8x96, .f32⟩
  | 83 => ⟨S4x8192x8x96, .f32⟩
  | 84 => ⟨S1x1x1x96, .f32⟩
  | 85 => ⟨S4x8192x8x96, .f32⟩
  | 86 => ⟨S4x8192x8x96, .f32⟩
  | 87 => ⟨S4x8192x8x96, .f32⟩
  | 88 => ⟨S_, .f32⟩
  | 89 => ⟨S4x8192x8, .f32⟩
  | 90 => ⟨S4x8192x8x1, .f32⟩
  | 91 => ⟨S_, .f32⟩
  | 92 => ⟨S4x8192x8x1, .f32⟩
  | 93 => ⟨S4x8192x8x1, .f32⟩
  | 94 => ⟨S_, .f32⟩
  | 95 => ⟨S4x8192x8x1, .f32⟩
  | 96 => ⟨S4x8192x8x1, .f32⟩
  | 97 => ⟨S4x8192x8x1, .f32⟩
  | 98 => ⟨S4x8192x8x96, .f32⟩
  | 99 => ⟨S4x8192x8x96, .f32⟩
  | 100 => ⟨S1x1x1x96, .f32⟩
  | 101 => ⟨S4x8192x8x96, .f32⟩
  | 102 => ⟨S4x8192x8x96, .f32⟩
  | 103 => ⟨S4x8192x8x64, .f32⟩
  | 104 => ⟨S4x8192x8x32, .f32⟩
  | 105 => ⟨S16, .f32⟩
  | 106 => ⟨S_, .f32⟩
  | 107 => ⟨S16, .f32⟩
  | 108 => ⟨S16, .f32⟩
  | 109 => ⟨S16, .f32⟩
  | 110 => ⟨S_, .f32⟩
  | 111 => ⟨S16, .f32⟩
  | 112 => ⟨S16, .f32⟩
  | 113 => ⟨S_, .f32⟩
  | 114 => ⟨S16, .f32⟩
  | 115 => ⟨S16, .f32⟩
  | 116 => ⟨S8192, .f32⟩
  | 117 => ⟨S8192x1, .f32⟩
  | 118 => ⟨S1x16, .f32⟩
  | 119 => ⟨S8192x16, .f32⟩
  | 120 => ⟨S8192x16, .f32⟩
  | 121 => ⟨S8192x16, .f32⟩
  | 122 => ⟨S8192x16, .f32⟩
  | 123 => ⟨S1x8192x1x16, .f32⟩
  | 124 => ⟨S8192x16, .f32⟩
  | 125 => ⟨S1x8192x1x16, .f32⟩
  | 126 => ⟨S4x8192x8x16, .f32⟩
  | 127 => ⟨S4x8192x8x16, .f32⟩
  | _ => ⟨S4x8192x1024, .f32⟩

abbrev hbmTy0_1 (i : Nat) : BufTy := match i % 128 with
  | 0 => ⟨S4x8192x8x16, .f32⟩
  | 1 => ⟨S4x8192x8x16, .f32⟩
  | 2 => ⟨S4x8192x8x16, .f32⟩
  | 3 => ⟨S4x8192x8x16, .f32⟩
  | 4 => ⟨S4x8192x8x16, .f32⟩
  | 5 => ⟨S4x8192x8x16, .f32⟩
  | 6 => ⟨S4x8192x8x16, .f32⟩
  | 7 => ⟨S4x8192x8x16, .f32⟩
  | 8 => ⟨S4x8192x8x16, .f32⟩
  | 9 => ⟨S4x8192x8x16, .f32⟩
  | 10 => ⟨S4x8192x8x32, .f32⟩
  | 11 => ⟨S4x8192x8x96, .f32⟩
  | 12 => ⟨S4x8192x8x64, .f32⟩
  | 13 => ⟨S4x8192x8x32, .f32⟩
  | 14 => ⟨S16, .f32⟩
  | 15 => ⟨S_, .f32⟩
  | 16 => ⟨S16, .f32⟩
  | 17 => ⟨S16, .f32⟩
  | 18 => ⟨S16, .f32⟩
  | 19 => ⟨S_, .f32⟩
  | 20 => ⟨S16, .f32⟩
  | 21 => ⟨S16, .f32⟩
  | 22 => ⟨S_, .f32⟩
  | 23 => ⟨S16, .f32⟩
  | 24 => ⟨S16, .f32⟩
  | 25 => ⟨S8192, .f32⟩
  | 26 => ⟨S8192x1, .f32⟩
  | 27 => ⟨S1x16, .f32⟩
  | 28 => ⟨S8192x16, .f32⟩
  | 29 => ⟨S8192x16, .f32⟩
  | 30 => ⟨S8192x16, .f32⟩
  | 31 => ⟨S8192x16, .f32⟩
  | 32 => ⟨S1x8192x1x16, .f32⟩
  | 33 => ⟨S8192x16, .f32⟩
  | 34 => ⟨S1x8192x1x16, .f32⟩
  | 35 => ⟨S4x8192x8x16, .f32⟩
  | 36 => ⟨S4x8192x8x16, .f32⟩
  | 37 => ⟨S4x8192x8x16, .f32⟩
  | 38 => ⟨S4x8192x8x16, .f32⟩
  | 39 => ⟨S4x8192x8x16, .f32⟩
  | 40 => ⟨S4x8192x8x16, .f32⟩
  | 41 => ⟨S4x8192x8x16, .f32⟩
  | 42 => ⟨S4x8192x8x16, .f32⟩
  | 43 => ⟨S4x8192x8x16, .f32⟩
  | 44 => ⟨S4x8192x8x16, .f32⟩
  | 45 => ⟨S4x8192x8x16, .f32⟩
  | 46 => ⟨S4x8192x8x16, .f32⟩
  | 47 => ⟨S4x8192x8x32, .f32⟩
  | 48 => ⟨S4x8192x8x96, .f32⟩
  | 49 => ⟨S_, .f32⟩
  | 50 => ⟨S4x8192x8x96, .f32⟩
  | 51 => ⟨S4x8192x8x96, .f32⟩
  | 52 => ⟨S_, .i32⟩
  | 53 => ⟨S_, .f32⟩
  | 54 => ⟨S4x8192x8x128, .f32⟩
  | 55 => ⟨S4x8192x1024, .f32⟩
  | 56 => ⟨S4x8192x1024, .bf16⟩
  | 57 => ⟨S_, .i32⟩
  | 58 => ⟨S_, .f32⟩
  | 59 => ⟨S4x8192x8x128, .f32⟩
  | 60 => ⟨S4x8192x1024, .f32⟩
  | 61 => ⟨S4x8192x1024, .bf16⟩
  | 62 => ⟨S4x8192x512, .f32⟩
  | 63 => ⟨S4x8192x512, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_11 : Ref sig .tc := ⟨.hbm, 88, rfl⟩
abbrev main_v67 : Ref sig .tc := ⟨.hbm, 89, rfl⟩
abbrev main_v68 : Ref sig .tc := ⟨.hbm, 90, rfl⟩
abbrev main_cst_12 : Ref sig .tc := ⟨.hbm, 91, rfl⟩
abbrev main_v69 : Ref sig .tc := ⟨.hbm, 92, rfl⟩
abbrev main_v70 : Ref sig .tc := ⟨.hbm, 93, rfl⟩
abbrev main_cst_13 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_14 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_15 : Ref sig .tc := ⟨.hbm, 110, rfl⟩
abbrev main_v85 : Ref sig .tc := ⟨.hbm, 111, rfl⟩
abbrev main_v86 : Ref sig .tc := ⟨.hbm, 112, rfl⟩
abbrev main_cst_16 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_cst_17 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_cst_18 : Ref sig .tc := ⟨.hbm, 147, rfl⟩
abbrev main_v119 : Ref sig .tc := ⟨.hbm, 148, rfl⟩
abbrev main_v120 : Ref sig .tc := ⟨.hbm, 149, rfl⟩
abbrev main_cst_19 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_cst_20 : Ref sig .tc := ⟨.hbm, 177, rfl⟩
abbrev main_v147 : Ref sig .tc := ⟨.hbm, 178, rfl⟩
abbrev main_v148 : Ref sig .tc := ⟨.hbm, 179, rfl⟩
abbrev main_c : Ref sig .tc := ⟨.hbm, 180, rfl⟩
abbrev main_call0_v0 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_c_21 : Ref sig .tc := ⟨.hbm, 185, rfl⟩
abbrev main_call1_v0 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩

abbrev nD : Nat := 1
abbrev τ : Topo := Topo.v7x

variable {F : FTy → Type} [FloatOps F]
-- ==== Kernel5.lean ====
abbrev S4x8192x1536 : Shape := ⟨3, ![4, 8192, 1536]⟩
abbrev S3x1536 : Shape := ⟨2, ![3, 1536]⟩
abbrev S1536 : Shape := ⟨1, ![1536]⟩
abbrev S1x1536 : Shape := ⟨2, ![1, 1536]⟩
abbrev S4x8192x512 : Shape := ⟨3, ![4, 8192, 512]⟩
abbrev S1x8x1536 : Shape := ⟨3, ![1, 8, 1536]⟩
abbrev S1x512x1536 : Shape := ⟨3, ![1, 512, 1536]⟩
abbrev S1x512x512 : Shape := ⟨3, ![1, 512, 512]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S4x8192x1536, .f32⟩
  | .hbm, ⟨1, _⟩ => ⟨S3x1536, .f32⟩
  | .hbm, ⟨2, _⟩ => ⟨S1536, .f32⟩
  | .hbm, ⟨3, _⟩ => ⟨S1x1536, .f32⟩
  | .hbm, ⟨4, _⟩ => ⟨S4x8192x512, .f32⟩
  | .hbm, ⟨5, _⟩ => ⟨S4x8192x512, .f32⟩
  | .local _ .vmem, ⟨0, _⟩ => ⟨S1x8x1536, .f32⟩
  | .local _ .vmem, ⟨1, _⟩ => ⟨S1x8x1536, .f32⟩
  | .local _ .vmem, ⟨2, _⟩ => ⟨S1x512x1536, .f32⟩
  | .local _ .vmem, ⟨3, _⟩ => ⟨S1x512x1536, .f32⟩
  | .local _ .vmem, ⟨4, _⟩ => ⟨S1x8x1536, .f32⟩
  | .local _ .vmem, ⟨5, _⟩ => ⟨S1x8x1536, .f32⟩
  | .local _ .vmem, ⟨6, _⟩ => ⟨S3x1536, .f32⟩
  | .local _ .vmem, ⟨7, _⟩ => ⟨S1x1536, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | _, _ => ⟨S4x8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S4x8192x1536 : Shape := ⟨3, ![4, 8192, 1536]⟩
abbrev S3x1536 : Shape := ⟨2, ![3, 1536]⟩
abbrev S1536 : Shape := ⟨1, ![1536]⟩
abbrev S_ : Shape := ⟨0, ![]⟩
abbrev S4x8194x1536 : Shape := ⟨3, ![4, 8194, 1536]⟩
abbrev S1x1536 : Shape := ⟨2, ![1, 1536]⟩
abbrev S1x1x1536 : Shape := ⟨3, ![1, 1, 1536]⟩
abbrev S4x8192x512 : Shape := ⟨3, ![4, 8192, 512]⟩

abbrev nBuf : Space → Nat
  | .hbm => 33
  | .vmem => 0
  | .smem => 0
  | _ => 0

abbrev bufTy : (tb : Table) → Fin (tcTables nBuf tb) → BufTy
  | .hbm, ⟨0, _⟩ => ⟨S4x8192x1536, .f32⟩
  | .hbm, ⟨1, _⟩ => ⟨S3x1536, .f32⟩
  | .hbm, ⟨2, _⟩ => ⟨S1536, .f32⟩
  | .hbm, ⟨3, _⟩ => ⟨S_, .i32⟩
  | .hbm, ⟨4, _⟩ => ⟨S_, .f32⟩
  | .hbm, ⟨5, _⟩ => ⟨S4x8194x1536, .f32⟩
  | .hbm, ⟨6, _⟩ => ⟨S4x8192x1536, .f32⟩
  | .hbm, ⟨7, _⟩ => ⟨S1x1536, .f32⟩
  | .hbm, ⟨8, _⟩ => ⟨S1536, .f32⟩
  | .hbm, ⟨9, _⟩ => ⟨S1x1x1536, .f32⟩
  | .hbm, ⟨10, _⟩ => ⟨S4x8192x1536, .f32⟩
  | .hbm, ⟨11, _⟩ => ⟨S4x8192x1536, .f32⟩
  | .hbm, ⟨12, _⟩ => ⟨S1x1x1536, .f32⟩
  | .hbm, ⟨13, _⟩ => ⟨S4x8192x1536, .f32⟩
  | .hbm, ⟨14, _⟩ => ⟨S4x8192x1536, .f32⟩
  | .hbm, ⟨15, _⟩ => ⟨S4x8192x1536, .f32⟩
  | .hbm, ⟨16, _⟩ => ⟨S1x1536, .f32⟩
  | .hbm, ⟨17, _⟩ => ⟨S1536, .f32⟩
  | .hbm, ⟨18, _⟩ => ⟨S1x1x1536, .f32⟩
  | .hbm, ⟨19, _⟩ => ⟨S4x8192x1536, .f32⟩
  | .hbm, ⟨20, _⟩ => ⟨S4x8192x1536, .f32⟩
  | .hbm, ⟨21, _⟩ => ⟨S4x8192x1536, .f32⟩
  | .hbm, ⟨22, _⟩ => ⟨S4x8192x1536, .f32⟩
  | .hbm, ⟨23, _⟩ => ⟨S1x1536, .f32⟩
  | .hbm, ⟨24, _⟩ => ⟨S1536, .f32⟩
  | .hbm, ⟨25, _⟩ => ⟨S1x1x1536, .f32⟩
  | .hbm, ⟨26, _⟩ => ⟨S4x8192x1536, .f32⟩
  | .hbm, ⟨27, _⟩ => ⟨S4x8192x1536, .f32⟩
  | .hbm, ⟨28, _⟩ => ⟨S4x8192x1536, .f32⟩
  | .hbm, ⟨29, _⟩ => ⟨S4x8192x512, .f32⟩
  | .hbm, ⟨30, _⟩ => ⟨S4x8192x512, .f32⟩
  | .hbm, ⟨31, _⟩ => ⟨S4x8192x512, .f32⟩
  | .hbm, ⟨32, _⟩ => ⟨S4x8192x512, .f32⟩
  | _, _ => ⟨S4x8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩

abbrev nD : Nat := 1
abbrev τ : Topo := Topo.v7x

variable {F : FTy → Type} [FloatOps F]
-- ==== Kernel6.lean ====
abbrev S33x64 : Shape := ⟨2, ![33, 64]⟩
abbrev S64 : Shape := ⟨1, ![64]⟩
abbrev S64x64 : Shape := ⟨2, ![64, 64]⟩
abbrev S64x1024 : Shape := ⟨2, ![64, 1024]⟩
abbrev S_ : Shape := ⟨0, ![]⟩
abbrev S128x64 : Shape := ⟨2, ![128, 64]⟩
abbrev S1x64 : Shape := ⟨2, ![1, 64]⟩
abbrev S8191 : Shape := ⟨1, ![8191]⟩
abbrev S1 : Shape := ⟨1, ![1]⟩
abbrev S8192 : Shape := ⟨1, ![8192]⟩
abbrev S8192x1 : Shape := ⟨2, ![8192, 1]⟩
abbrev S15 : Shape := ⟨1, ![15]⟩
abbrev S16 : Shape := ⟨1, ![16]⟩
abbrev S1x16 : Shape := ⟨2, ![1, 16]⟩
abbrev S8192x16 : Shape := ⟨2, ![8192, 16]⟩
abbrev S8192x33 : Shape := ⟨2, ![8192, 33]⟩
abbrev S8192x128 : Shape := ⟨2, ![8192, 128]⟩
abbrev S16384x128 : Shape := ⟨2, ![16384, 128]⟩
abbrev S511 : Shape := ⟨1, ![511]⟩
abbrev S512 : Shape := ⟨1, ![512]⟩
abbrev S1x512 : Shape := ⟨2, ![1, 512]⟩
abbrev S16384x512 : Shape := ⟨2, ![16384, 512]⟩
abbrev S512x128 : Shape := ⟨2, ![512, 128]⟩
abbrev S64x512 : Shape := ⟨2, ![64, 512]⟩
abbrev S512x512 : Shape := ⟨2, ![512, 512]⟩
abbrev S512x64 : Shape := ⟨2, ![512, 64]⟩
abbrev S512x1 : Shape := ⟨2, ![512, 1]⟩

abbrev nBuf : Space → Nat
  | .hbm => 109
  | .vmem => 12
  | .smem => 0
  | _ => 0

abbrev bufTy : (tb : Table) → Fin (tcTables nBuf tb) → BufTy
  | .hbm, ⟨0, _⟩ => ⟨S33x64, .f32⟩
  | .hbm, ⟨1, _⟩ => ⟨S64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x1024, .f32⟩
  | .hbm, ⟨6, _⟩ => ⟨S_, .i32⟩
  | .hbm, ⟨7, _⟩ => ⟨S_, .f32⟩
  | .hbm, ⟨8, _⟩ => ⟨S128x64, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8191, .f32⟩
  | .hbm, ⟨20, _⟩ => ⟨S_, .f32⟩
  | .hbm, ⟨21, _⟩ => ⟨S8191, .f32⟩
  | .hbm, ⟨22, _⟩ => ⟨S8191, .f32⟩
  | .hbm, ⟨23, _⟩ => ⟨S1, .f32⟩
  | .hbm, ⟨24, _⟩ => ⟨S_, .f32⟩
  | .hbm, ⟨25, _⟩ => ⟨S8191, .f32⟩
  | .hbm, ⟨26, _⟩ => ⟨S8191, .f32⟩
  | .hbm, ⟨27, _⟩ => ⟨S8191, .f32⟩
  | .hbm, ⟨28, _⟩ => ⟨S8191, .f32⟩
  | .hbm, ⟨29, _⟩ => ⟨S1, .f32⟩
  | .hbm, ⟨30, _⟩ => ⟨S8191, .f32⟩
  | .hbm, ⟨31, _⟩ => ⟨S8191, .f32⟩
  | .hbm, ⟨32, _⟩ => ⟨S8191, .f32⟩
  | .hbm, ⟨33, _⟩ => ⟨S1, .f32⟩
  | .hbm, ⟨34, _⟩ => ⟨S8192, .f32⟩
  | .hbm, ⟨35, _⟩ => ⟨S8192x1, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S_, .i32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S15, .f32⟩
  | .hbm, ⟨52, _⟩ => ⟨S_, .f32⟩
  | .hbm, ⟨53, _⟩ => ⟨S15, .f32⟩
  | .hbm, ⟨54, _⟩ => ⟨S15, .f32⟩
  | .hbm, ⟨55, _⟩ => ⟨S1, .f32⟩
  | .hbm, ⟨56, _⟩ => ⟨S_, .f32⟩
  | .hbm, ⟨57, _⟩ => ⟨S15, .f32⟩
  | .hbm, ⟨58, _⟩ => ⟨S15, .f32⟩
  | .hbm, ⟨59, _⟩ => ⟨S15, .f32⟩
  | .hbm, ⟨60, _⟩ => ⟨S15, .f32⟩
  | .hbm, ⟨61, _⟩ => ⟨S1, .f32⟩
  | .hbm, ⟨62, _⟩ => ⟨S15, .f32⟩
  | .hbm, ⟨63, _⟩ => ⟨S15, .f32⟩
  | .hbm, ⟨64, _⟩ => ⟨S15, .f32⟩
  | .hbm, ⟨65, _⟩ => ⟨S1, .f32⟩
  | .hbm, ⟨66, _⟩ => ⟨S16, .f32⟩
  | .hbm, ⟨67, _⟩ => ⟨S1x16, .f32⟩
  | .hbm, ⟨68, _⟩ => ⟨S8192x16, .f32⟩
  | .hbm, ⟨69, _⟩ => ⟨S8192x16, .f32⟩
  | .hbm, ⟨70, _⟩ => ⟨S8192x16, .f32⟩
  | .hbm, ⟨71, _⟩ => ⟨S8192x16, .f32⟩
  | .hbm, ⟨72, _⟩ => ⟨S8192x16, .f32⟩
  | .hbm, ⟨73, _⟩ => ⟨S8192x16, .f32⟩
  | .hbm, ⟨74, _⟩ => ⟨S8192x16, .f32⟩
  | .hbm, ⟨75, _⟩ => ⟨S8192x16, .f32⟩
  | .hbm, ⟨76, _⟩ => ⟨S8192x16, .f32⟩
  | .hbm, ⟨77, _⟩ => ⟨S8192x33, .f32⟩
  | .hbm, ⟨78, _⟩ => ⟨S_, .i32⟩
  | .hbm, ⟨79, _⟩ => ⟨S_, .f32⟩
  | .hbm, ⟨80, _⟩ => ⟨S8192x128, .f32⟩
  | .hbm, ⟨81, _⟩ => ⟨S8192x128, .f32⟩
  | .hbm, ⟨82, _⟩ => ⟨S16384x128, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S511, .f32⟩
  | .hbm, ⟨91, _⟩ => ⟨S_, .f32⟩
  | .hbm, ⟨92, _⟩ => ⟨S511, .f32⟩
  | .hbm, ⟨93, _⟩ => ⟨S511, .f32⟩
  | .hbm, ⟨94, _⟩ => ⟨S1, .f32⟩
  | .hbm, ⟨95, _⟩ => ⟨S_, .f32⟩
  | .hbm, ⟨96, _⟩ => ⟨S511, .f32⟩
  | .hbm, ⟨97, _⟩ => ⟨S511, .f32⟩
  | .hbm, ⟨98, _⟩ => ⟨S511, .f32⟩
  | .hbm, ⟨99, _⟩ => ⟨S511, .f32⟩
  | .hbm, ⟨100, _⟩ => ⟨S1, .f32⟩
  | .hbm, ⟨101, _⟩ => ⟨S511, .f32⟩
  | .hbm, ⟨102, _⟩ => ⟨S511, .f32⟩
  | .hbm, ⟨103, _⟩ => ⟨S511, .f32⟩
  | .hbm, ⟨104, _⟩ => ⟨S1, .f32⟩
  | .hbm, ⟨105, _⟩ => ⟨S512, .f32⟩
  | .hbm, ⟨106, _⟩ => ⟨S512, .f32⟩
  | .hbm, ⟨107, _⟩ => ⟨S1x512, .f32⟩
  | .hbm, ⟨108, _⟩ => ⟨S16384x512, .f32⟩
  | .local _ .vmem, ⟨0, _⟩ => ⟨S512x128, .f32⟩
  | .local _ .vmem, ⟨1, _⟩ => ⟨S512x128, .f32⟩
  | .local _ .vmem, ⟨2, _⟩ => ⟨S128x64, .f32⟩
  | .local _ .vmem, ⟨3, _⟩ => ⟨S1x64, .f32⟩
  | .local _ .vmem, ⟨4, _⟩ => ⟨S1x64, .f32⟩
  | .local _ .vmem, ⟨5, _⟩ => ⟨S64x64, .f32⟩
  | .local _ .vmem, ⟨6, _⟩ => ⟨S1x64, .f32⟩
  | .local _ .vmem, ⟨7, _⟩ => ⟨S64x512, .f32⟩
  | .local _ .vmem, ⟨8, _⟩ => ⟨S64x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | _, _ => ⟨S33x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_cst_0 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_cst : Ref sig .tc := ⟨.hbm, 17, rfl⟩
abbrev main_call1_v3 : Ref sig .tc := ⟨.hbm, 18, rfl⟩
abbrev main_call1_v4 : Ref sig .tc := ⟨.hbm, 19, rfl⟩
abbrev main_call1_cst_0 : Ref sig .tc := ⟨.hbm, 20, rfl⟩
abbrev main_call1_v5 : Ref sig .tc := ⟨.hbm, 21, rfl⟩
abbrev main_call1_v6 : Ref sig .tc := ⟨.hbm, 22, rfl⟩
abbrev main_call1_v7 : Ref sig .tc := ⟨.hbm, 23, rfl⟩
abbrev main_call1_cst_1 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_v12 : Ref sig .tc := ⟨.hbm, 29, rfl⟩
abbrev main_call1_v13 : Ref sig .tc := ⟨.hbm, 30, rfl⟩
abbrev main_call1_v14 : Ref sig .tc := ⟨.hbm, 31, rfl⟩
abbrev main_call1_v15 : Ref sig .tc := ⟨.hbm, 32, rfl⟩
abbrev main_call1_v16 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_cst_1 : Ref sig .tc := ⟨.hbm, 38, rfl⟩
abbrev main_v8 : Ref sig .tc := ⟨.hbm, 39, rfl⟩
abbrev main_v9 : Ref sig .tc := ⟨.hbm, 40, rfl⟩
abbrev main_cst_2 : Ref sig .tc := ⟨.hbm, 41, rfl⟩
abbrev main_v10 : Ref sig .tc := ⟨.hbm, 42, rfl⟩
abbrev main_v11 : Ref sig .tc := ⟨.hbm, 43, rfl⟩
abbrev main_cst_3 : Ref sig .tc := ⟨.hbm, 44, rfl⟩
abbrev main_c_4 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_cst : Ref sig .tc := ⟨.hbm, 49, rfl⟩
abbrev main_call2_v3 : Ref sig .tc := ⟨.hbm, 50, rfl⟩
abbrev main_call2_v4 : Ref sig .tc := ⟨.hbm, 51, rfl⟩
abbrev main_call2_cst_0 : Ref sig .tc := ⟨.hbm, 52, rfl⟩
abbrev main_call2_v5 : Ref sig .tc := ⟨.hbm, 53, rfl⟩
abbrev main_call2_v6 : Ref sig .tc := ⟨.hbm, 54, rfl⟩
abbrev main_call2_v7 : Ref sig .tc := ⟨.hbm, 55, rfl⟩
abbrev main_call2_cst_1 : Ref sig .tc := ⟨.hbm, 56, rfl⟩
abbrev main_call2_v8 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_v12 : Ref sig .tc := ⟨.hbm, 61, rfl⟩
abbrev main_call2_v13 : Ref sig .tc := ⟨.hbm, 62, rfl⟩
abbrev main_call2_v14 : Ref sig .tc := ⟨.hbm, 63, rfl⟩
abbrev main_call2_v15 : Ref sig .tc := ⟨.hbm, 64, rfl⟩
abbrev main_call2_v16 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_c_5 : Ref sig .tc := ⟨.hbm, 78, rfl⟩
abbrev main_call3_v0 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_cst_6 : Ref sig .tc := ⟨.hbm, 83, rfl⟩
abbrev main_cst_7 : Ref sig .tc := ⟨.hbm, 84, rfl⟩
abbrev main_call4_v0 : Ref sig .tc := ⟨.hbm, 85, rfl⟩
abbrev main_call4_v1 : Ref sig .tc := ⟨.hbm, 86, rfl⟩
abbrev main_call4_v2 : Ref sig .tc := ⟨.hbm, 87, rfl⟩
abbrev main_call4_cst : Ref sig .tc := ⟨.hbm, 88, rfl⟩
abbrev main_call4_v3 : Ref sig .tc := ⟨.hbm, 89, rfl⟩
abbrev main_call4_v4 : Ref sig .tc := ⟨.hbm, 90, rfl⟩
abbrev main_call4_cst_0 : Ref sig .tc := ⟨.hbm, 91, rfl⟩
abbrev main_call4_v5 : Ref sig .tc := ⟨.hbm, 92, rfl⟩
abbrev main_call4_v6 : Ref sig .tc := ⟨.hbm, 93, rfl⟩
abbrev main_call4_v7 : Ref sig .tc := ⟨.hbm, 94, rfl⟩
abbrev main_call4_cst_1 : Ref sig .tc := ⟨.hbm, 95, rfl⟩
abbrev main_call4_v8 : Ref sig .tc := ⟨.hbm, 96, rfl⟩
abbrev main_call4_v9 : Ref sig .tc := ⟨.hbm, 97, rfl⟩
abbrev main_call4_v10 : Ref sig .tc := ⟨.hbm, 98, rfl⟩
abbrev main_call4_v11 : Ref sig .tc := ⟨.hbm, 99, rfl⟩
abbrev main_call4_v12 : Ref sig .tc := ⟨.hbm, 100, rfl⟩
abbrev main_call4_v13 : Ref sig .tc := ⟨.hbm, 101, rfl⟩
abbrev main_call4_v14 : Ref sig .tc := ⟨.hbm, 102, rfl⟩
abbrev main_call4_v15 : Ref sig .tc := ⟨.hbm, 103, rfl⟩
abbrev main_call4_v16 : Ref sig .tc := ⟨.hbm, 104, rfl⟩
abbrev main_v27 : Ref sig .tc := ⟨.hbm, 105, rfl⟩
abbrev main_v28 : Ref sig .tc := ⟨.hbm, 106, rfl⟩
abbrev main_v29 : Ref sig .tc := ⟨.hbm, 107, rfl⟩
abbrev main_v30 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S33x64 : Shape := ⟨2, ![33, 64]⟩
abbrev S64 : Shape := ⟨1, ![64]⟩
abbrev S64x64 : Shape := ⟨2, ![64, 64]⟩
abbrev S64x1024 : Shape := ⟨2, ![64, 1024]⟩
abbrev S_ : Shape := ⟨0, ![]⟩
abbrev S8191 : Shape := ⟨1, ![8191]⟩
abbrev S1 : Shape := ⟨1, ![1]⟩
abbrev S8192 : Shape := ⟨1, ![8192]⟩
abbrev S8192x1 : Shape := ⟨2, ![8192, 1]⟩
abbrev S15 : Shape := ⟨1, ![15]⟩
abbrev S16 : Shape := ⟨1, ![16]⟩
abbrev S1x16 : Shape := ⟨2, ![1, 16]⟩
abbrev S8192x16 : Shape := ⟨2, ![8192, 16]⟩
abbrev S8192x33 : Shape := ⟨2, ![8192, 33]⟩
abbrev S8192x64 : Shape := ⟨2, ![8192, 64]⟩
abbrev S1x64 : Shape := ⟨2, ![1, 64]⟩
abbrev S8192x1024 : Shape := ⟨2, ![8192, 1024]⟩
abbrev S511 : Shape := ⟨1, ![511]⟩
abbrev S512 : Shape := ⟨1, ![512]⟩
abbrev S1x512 : Shape := ⟨2, ![1, 512]⟩
abbrev S8192x512 : Shape := ⟨2, ![8192, 512]⟩
abbrev S16384x512 : Shape := ⟨2, ![16384, 512]⟩

abbrev nBuf : Space → Nat
  | .hbm => 125
  | .vmem => 0
  | .smem => 0
  | _ => 0

abbrev bufTy : (tb : Table) → Fin (tcTables nBuf tb) → BufTy
  | .hbm, ⟨0, _⟩ => ⟨S33x64, .f32⟩
  | .hbm, ⟨1, _⟩ => ⟨S64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8191, .f32⟩
  | .hbm, ⟨14, _⟩ => ⟨S_, .f32⟩
  | .hbm, ⟨15, _⟩ => ⟨S8191, .f32⟩
  | .hbm, ⟨16, _⟩ => ⟨S8191, .f32⟩
  | .hbm, ⟨17, _⟩ => ⟨S1, .f32⟩
  | .hbm, ⟨18, _⟩ => ⟨S_, .f32⟩
  | .hbm, ⟨19, _⟩ => ⟨S8191, .f32⟩
  | .hbm, ⟨20, _⟩ => ⟨S8191, .f32⟩
  | .hbm, ⟨21, _⟩ => ⟨S8191, .f32⟩
  | .hbm, ⟨22, _⟩ => ⟨S8191, .f32⟩
  | .hbm, ⟨23, _⟩ => ⟨S1, .f32⟩
  | .hbm, ⟨24, _⟩ => ⟨S8191, .f32⟩
  | .hbm, ⟨25, _⟩ => ⟨S8191, .f32⟩
  | .hbm, ⟨26, _⟩ => ⟨S8191, .f32⟩
  | .hbm, ⟨27, _⟩ => ⟨S1, .f32⟩
  | .hbm, ⟨28, _⟩ => ⟨S8192, .f32⟩
  | .hbm, ⟨29, _⟩ => ⟨S8192x1, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S_, .i32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S15, .f32⟩
  | .hbm, ⟨46, _⟩ => ⟨S_, .f32⟩
  | .hbm, ⟨47, _⟩ => ⟨S15, .f32⟩
  | .hbm, ⟨48, _⟩ => ⟨S15, .f32⟩
  | .hbm, ⟨49, _⟩ => ⟨S1, .f32⟩
  | .hbm, ⟨50, _⟩ => ⟨S_, .f32⟩
  | .hbm, ⟨51, _⟩ => ⟨S15, .f32⟩
  | .hbm, ⟨52, _⟩ => ⟨S15, .f32⟩
  | .hbm, ⟨53, _⟩ => ⟨S15, .f32⟩
  | .hbm, ⟨54, _⟩ => ⟨S15, .f32⟩
  | .hbm, ⟨55, _⟩ => ⟨S1, .f32⟩
  | .hbm, ⟨56, _⟩ => ⟨S15, .f32⟩
  | .hbm, ⟨57, _⟩ => ⟨S15, .f32⟩
  | .hbm, ⟨58, _⟩ => ⟨S15, .f32⟩
  | .hbm, ⟨59, _⟩ => ⟨S1, .f32⟩
  | .hbm, ⟨60, _⟩ => ⟨S16, .f32⟩
  | .hbm, ⟨61, _⟩ => ⟨S1x16, .f32⟩
  | .hbm, ⟨62, _⟩ => ⟨S8192x16, .f32⟩
  | .hbm, ⟨63, _⟩ => ⟨S8192x16, .f32⟩
  | .hbm, ⟨64, _⟩ => ⟨S8192x16, .f32⟩
  | .hbm, ⟨65, _⟩ => ⟨S8192x16, .f32⟩
  | .hbm, ⟨66, _⟩ => ⟨S8192x16, .f32⟩
  | .hbm, ⟨67, _⟩ => ⟨S8192x16, .f32⟩
  | .hbm, ⟨68, _⟩ => ⟨S8192x16, .f32⟩
  | .hbm, ⟨69, _⟩ => ⟨S8192x16, .f32⟩
  | .hbm, ⟨70, _⟩ => ⟨S8192x16, .f32⟩
  | .hbm, ⟨71, _⟩ => ⟨S8192x33, .f32⟩
  | .hbm, ⟨72, _⟩ => ⟨S8192x64, .f32⟩
  | .hbm, ⟨73, _⟩ => ⟨S1x64, .f32⟩
  | .hbm, ⟨74, _⟩ => ⟨S8192x64, .f32⟩
  | .hbm, ⟨75, _⟩ => ⟨S8192x64, .f32⟩
  | .hbm, ⟨76, _⟩ => ⟨S1x64, .f32⟩
  | .hbm, ⟨77, _⟩ => ⟨S8192x64, .f32⟩
  | .hbm, ⟨78, _⟩ => ⟨S8192x64, .f32⟩
  | .hbm, ⟨79, _⟩ => ⟨S8192x64, .f32⟩
  | .hbm, ⟨80, _⟩ => ⟨S8192x64, .f32⟩
  | .hbm, ⟨81, _⟩ => ⟨S1x64, .f32⟩
  | .hbm, ⟨82, _⟩ => ⟨S8192x64, .f32⟩
  | .hbm, ⟨83, _⟩ => ⟨S8192x64, .f32⟩
  | .hbm, ⟨84, _⟩ => ⟨S1x64, .f32⟩
  | .hbm, ⟨85, _⟩ => ⟨S8192x64, .f32⟩
  | .hbm, ⟨86, _⟩ => ⟨S8192x64, .f32⟩
  | .hbm, ⟨87, _⟩ => ⟨S8192x64, .f32⟩
  | .hbm, ⟨88, _⟩ => ⟨S8192x1024, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S511, .f32⟩
  | .hbm, ⟨97, _⟩ => ⟨S_, .f32⟩
  | .hbm, ⟨98, _⟩ => ⟨S511, .f32⟩
  | .hbm, ⟨99, _⟩ => ⟨S511, .f32⟩
  | .hbm, ⟨100, _⟩ => ⟨S1, .f32⟩
  | .hbm, ⟨101, _⟩ => ⟨S_, .f32⟩
  | .hbm, ⟨102, _⟩ => ⟨S511, .f32⟩
  | .hbm, ⟨103, _⟩ => ⟨S511, .f32⟩
  | .hbm, ⟨104, _⟩ => ⟨S511, .f32⟩
  | .hbm, ⟨105, _⟩ => ⟨S511, .f32⟩
  | .hbm, ⟨106, _⟩ => ⟨S1, .f32⟩
  | .hbm, ⟨107, _⟩ => ⟨S511, .f32⟩
  | .hbm, ⟨108, _⟩ => ⟨S511, .f32⟩
  | .hbm, ⟨109, _⟩ => ⟨S511, .f32⟩
  | .hbm, ⟨110, _⟩ => ⟨S1, .f32⟩
  | .hbm, ⟨111, _⟩ => ⟨S512, .f32⟩
  | .hbm, ⟨112, _⟩ => ⟨S512, .f32⟩
  | .hbm, ⟨113, _⟩ => ⟨S8192x1, .f32⟩
  | .hbm, ⟨114, _⟩ => ⟨S1x512, .f32⟩
  | .hbm, ⟨115, _⟩ => ⟨S8192x512, .f32⟩
  | .hbm, ⟨116, _⟩ => ⟨S8192x512, .f32⟩
  | .hbm, ⟨117, _⟩ => ⟨S8192x512, .f32⟩
  | .hbm, ⟨118, _⟩ => ⟨S8192x512, .f32⟩
  | .hbm, ⟨119, _⟩ => ⟨S8192x512, .f32⟩
  | .hbm, ⟨120, _⟩ => ⟨S8192x512, .f32⟩
  | .hbm, ⟨121, _⟩ => ⟨S8192x512, .f32⟩
  | .hbm, ⟨122, _⟩ => ⟨S8192x512, .f32⟩
  | .hbm, ⟨123, _⟩ => ⟨S8192x512, .f32⟩
  | .hbm, ⟨124, _⟩ => ⟨S16384x512, .f32⟩
  | _, _ => ⟨S33x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_cst : Ref sig .tc := ⟨.hbm, 11, rfl⟩
abbrev main_call0_v3 : Ref sig .tc := ⟨.hbm, 12, rfl⟩
abbrev main_call0_v4 : Ref sig .tc := ⟨.hbm, 13, rfl⟩
abbrev main_call0_cst_0 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_cst_1 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst_1 : Ref sig .tc := ⟨.hbm, 32, rfl⟩
abbrev main_v4 : Ref sig .tc := ⟨.hbm, 33, rfl⟩
abbrev main_v5 : Ref sig .tc := ⟨.hbm, 34, rfl⟩
abbrev main_cst_2 : Ref sig .tc := ⟨.hbm, 35, rfl⟩
abbrev main_v6 : Ref sig .tc := ⟨.hbm, 36, rfl⟩
abbrev main_v7 : Ref sig .tc := ⟨.hbm, 37, rfl⟩
abbrev main_cst_3 : Ref sig .tc := ⟨.hbm, 38, rfl⟩
abbrev main_c : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_cst : Ref sig .tc := ⟨.hbm, 43, rfl⟩
abbrev main_call1_v3 : Ref sig .tc := ⟨.hbm, 44, rfl⟩
abbrev main_call1_v4 : Ref sig .tc := ⟨.hbm, 45, rfl⟩
abbrev main_call1_cst_0 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_cst_1 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_v15 : Ref sig .tc := ⟨.hbm, 58, rfl⟩
abbrev main_call1_v16 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_cst_4 : Ref sig .tc := ⟨.hbm, 89, rfl⟩
abbrev main_cst_5 : Ref sig .tc := ⟨.hbm, 90, rfl⟩
abbrev main_call2_v0 : Ref sig .tc := ⟨.hbm, 91, rfl⟩
abbrev main_call2_v1 : Ref sig .tc := ⟨.hbm, 92, rfl⟩
abbrev main_call2_v2 : Ref sig .tc := ⟨.hbm, 93, rfl⟩
abbrev main_call2_cst : Ref sig .tc := ⟨.hbm, 94, rfl⟩
abbrev main_call2_v3 : Ref sig .tc := ⟨.hbm, 95, rfl⟩
abbrev main_call2_v4 : Ref sig .tc := ⟨.hbm, 96, rfl⟩
abbrev main_call2_cst_0 : Ref sig .tc := ⟨.hbm, 97, rfl⟩
abbrev main_call2_v5 : Ref sig .tc := ⟨.hbm, 98, rfl⟩
abbrev main_call2_v6 : Ref sig .tc := ⟨.hbm, 99, rfl⟩
abbrev main_call2_v7 : Ref sig .tc := ⟨.hbm, 100, rfl⟩
abbrev main_call2_cst_1 : Ref sig .tc := ⟨.hbm, 101, rfl⟩
abbrev main_call2_v8 : Ref sig .tc := ⟨.hbm, 102, rfl⟩
abbrev main_call2_v9 : Ref sig .tc := ⟨.hbm, 103, rfl⟩
abbrev main_call2_v10 : Ref sig .tc := ⟨.hbm, 104, rfl⟩
abbrev main_call2_v11 : Ref sig .tc := ⟨.hbm, 105, rfl⟩
abbrev main_call2_v12 : Ref sig .tc := ⟨.hbm, 106, rfl⟩
abbrev main_call2_v13 : Ref sig .tc := ⟨.hbm, 107, rfl⟩
abbrev main_call2_v14 : Ref sig .tc := ⟨.hbm, 108, rfl⟩
abbrev main_call2_v15 : Ref sig .tc := ⟨.hbm, 109, rfl⟩
abbrev main_call2_v16 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩

abbrev nD : Nat := 1
abbrev τ : Topo := Topo.v7x

variable {F : FTy → Type} [FloatOps F]
-- ==== Proof.Attn.Online.lean ====
/- The mathematics of a softmax that is computed one chunk of keys at a time. A row has a real score for each key; the
   running state after the first `n` keys is their largest score, the sum of the exponentials of the scores less that
   maximum, and the same sum weighted by a column of values. The values may be any extended reals. -/
module

public import Idealize.ShloMosaic.Lib.Pipeline.ValueKit
public import Idealize.ShloMosaic.Lib.Pointwise

@[expose] public section

noncomputable section

open Idealize.ShloMosaic

namespace Cert.Attn.Online

/-- Multiplying by a non-negative real distributes over a sum of any extended reals. -/
theorem coe_mul_sum {ι : Type*} (S : Finset ι) (f : ι → EReal) {r : ℝ} (hr : 0 ≤ r) :
    (r : EReal) * ∑ i ∈ S, f i = ∑ i ∈ S, (r : EReal) * f i := by
  classical
  induction S using Finset.induction_on with
  | empty => simp
  | insert a S ha ih =>
    rw [Finset.sum_insert ha, Finset.sum_insert ha, EReal.left_distrib_of_nonneg_of_ne_top
      (EReal.coe_nonneg.2 hr) (EReal.coe_ne_top r), ih]

/-- A sum of real numbers, read among the extended reals. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The largest of the first `n` scores (`⊥` when there is none). -/
def mx (s : ℕ → ℝ) (n : ℕ) : EReal := (Finset.range n).sup fun k => (s k : EReal)

/-- The sum over the first `n` keys of the exponential of the score, less the largest of them, times a value. -/
def wsum (s : ℕ → ℝ) (v : ℕ → EReal) (n : ℕ) : EReal :=
  ∑ k ∈ Finset.range n, Ideal.exp ((s k : EReal) - mx s n) * v k

/-- The sum over the first `n` keys of the exponential of the score, less the largest of them. -/
def esum (s : ℕ → ℝ) (n : ℕ) : EReal := ∑ k ∈ Finset.range n, Ideal.exp ((s k : EReal) - mx s n)

theorem exp_coe (r : ℝ) : Ideal.exp (r : EReal) = (Real.exp r : EReal) := rfl

theorem exp_sub_coe (a b : ℝ) : Ideal.exp ((a : EReal) - (b : EReal)) = (Real.exp (a - b) : EReal) := by
  rw [← EReal.coe_sub, exp_coe]

/-- The largest of at least one score is a real number. -/
theorem mx_real (s : ℕ → ℝ) {n : ℕ} (hn : 0 < n) : ∃ M : ℝ, mx s n = (M : EReal) := by
  obtain ⟨k, _, hk⟩ := Finset.exists_mem_eq_sup (Finset.range n) ⟨0, Finset.mem_range.2 hn⟩ fun k => (s k : EReal)
  exact ⟨s k, hk⟩

theorem mx_zero (s : ℕ → ℝ) : mx s 0 = ⊥ := rfl
theorem wsum_zero (s : ℕ → ℝ) (v : ℕ → EReal) : wsum s v 0 = 0 := rfl
theorem esum_zero (s : ℕ → ℝ) : esum s 0 = 0 := rfl

theorem esum_eq (s : ℕ → ℝ) (n : ℕ) : esum s n = wsum s (fun _ => 1) n := by
  simp only [esum, wsum, mul_one]

theorem fold_max_eq_sup {n : ℕ} (f : Fin n → EReal) : Finset.univ.fold max ⊥ f = Finset.univ.sup f := rfl

/-- A further chunk of `c` keys: the new maximum is the larger of the old one and the chunk's. -/
theorem mx_step (s : ℕ → ℝ) (n c : ℕ) :
    max (mx s n) (Finset.univ.fold max ⊥ fun k : Fin c => (s (n + k) : EReal)) = mx s (n + c) := by
  rw [fold_max_eq_sup]
  apply le_antisymm
  · refine max_le (Finset.sup_mono fun k hk => ?_) (Finset.sup_le fun k _ => ?_)
    · rw [Finset.mem_range] at hk ⊢; omega
    · exact Finset.le_sup (f := fun k => (s k : EReal)) (Finset.mem_range.2 (by omega))
  · refine Finset.sup_le fun k hk => ?_
    rw [Finset.mem_range] at hk
    by_cases h : k < n
    · exact le_max_of_le_left (Finset.le_sup (f := fun k => (s k : EReal)) (Finset.mem_range.2 h))
    · refine le_max_of_le_right ?_
      have := Finset.le_sup (f := fun k : Fin c => (s (n + k) : EReal)) (Finset.mem_univ ⟨k - n, by omega⟩)
      simpa [Nat.add_sub_cancel' (not_lt.1 h)] using this

/-- A further chunk of keys: the old sum, rescaled to the new maximum, and the chunk's. -/
theorem wsum_step (s : ℕ → ℝ) (v : ℕ → EReal) (n : ℕ) {c : ℕ} (hc : 0 < c) :
    Ideal.exp (mx s n - mx s (n + c)) * wsum s v n
      + ∑ k : Fin c, Ideal.exp ((s (n + k) : EReal) - mx s (n + c)) * v (n + k) = wsum s v (n + c) := by
  obtain ⟨M', hM'⟩ := mx_real s (Nat.add_pos_right n hc)
  have hchunk : ∑ k : Fin c, Ideal.exp ((s (n + k) : EReal) - mx s (n + c)) * v (n + k)
      = ∑ k ∈ Finset.range c, Ideal.exp ((s (n + k) : EReal) - mx s (n + c)) * v (n + k) :=
    Fin.sum_univ_eq_sum_range (fun k => Ideal.exp ((s (n + k) : EReal) - mx s (n + c)) * v (n + k)) c
  rw [hchunk, wsum, wsum, Finset.sum_range_add]
  congr 1
  rcases Nat.eq_zero_or_pos n with rfl | hn
  · simp
  · obtain ⟨M, hM⟩ := mx_real s hn
    rw [hM, hM', exp_sub_coe, coe_mul_sum _ _ (Real.exp_pos _).le]
    refine Finset.sum_congr rfl fun k _ => ?_
    rw [exp_sub_coe, exp_sub_coe, ← mul_assoc, ← EReal.coe_mul, ← Real.exp_add]
    congr 3
    ring

/-- The same for the sum of the exponentials alone. -/
theorem esum_step (s : ℕ → ℝ) (n : ℕ) {c : ℕ} (hc : 0 < c) :
    Ideal.exp (mx s n - mx s (n + c)) * esum s n
      + ∑ k : Fin c, Ideal.exp ((s (n + k) : EReal) - mx s (n + c)) = esum s (n + c) := by
  have h := wsum_step s (fun _ => 1) n hc
  simp only [mul_one] at h
  rw [esum_eq, esum_eq, h]

/-- The sum of the exponentials of at least one score is a positive real number. -/
theorem esum_real (s : ℕ → ℝ) {n : ℕ} (hn : 0 < n) : ∃ L : ℝ, 0 < L ∧ esum s n = (L : EReal) := by
  obtain ⟨M, hM⟩ := mx_real s hn
  refine ⟨∑ k ∈ Finset.range n, Real.exp (s k - M), Finset.sum_pos (fun k _ => Real.exp_pos _)
    ⟨0, Finset.mem_range.2 hn⟩, ?_⟩
  simp only [esum, hM, exp_sub_coe]
  exact (coe_sum _ _).symm

theorem div_pos_real (x : EReal) {L : ℝ} (hL : 0 < L) : Ideal.div x (L : EReal) = ((L⁻¹ : ℝ) : EReal) * x := by
  rw [Ideal.div, if_neg (by exact_mod_cast hL.ne'), EReal.coe_inv, mul_comm]

/-- Dividing the weighted sum once at the end is weighting by the quotients. -/
theorem wsum_div (s : ℕ → ℝ) (v : ℕ → EReal) {n : ℕ} (hn : 0 < n) :
    Ideal.div (wsum s v n) (esum s n)
      = ∑ k ∈ Finset.range n, Ideal.div (Ideal.exp ((s k : EReal) - mx s n)) (esum s n) * v k := by
  obtain ⟨L, hL, hE⟩ := esum_real s hn
  rw [hE, div_pos_real _ hL, wsum, coe_mul_sum _ _ (inv_pos.2 hL).le]
  refine Finset.sum_congr rfl fun k _ => ?_
  rw [div_pos_real _ hL, mul_assoc]

/-- A finite sum of products of real numbers is a real number. -/
theorem sum_mul_real {n : ℕ} {f g : Fin n → EReal} (hf : ∀ i, ∃ r : ℝ, f i = r) (hg : ∀ i, ∃ r : ℝ, g i = r) :
    ∃ r : ℝ, ∑ i, f i * g i = (r : EReal) := by
  choose a ha using hf
  choose b hb using hg
  refine ⟨∑ i, a i * b i, ?_⟩
  simp only [ha, hb, ← EReal.coe_mul]
  exact (coe_sum _ _).symm

end Cert.Attn.Online

end
-- ==== Proof.Attn.Trip.lean ====
/- One pass of the attention kernel's loop over the keys, and the whole loop: after `j` passes the carried state of a
   row is the running softmax of the first `512 * j` keys, for both heads of the block. -/
module

public import proofs.«01_k».proof.Proof.Gen.KernelIdeal.Loops
public import proofs.«01_k».proof.Proof.Attn.Online
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Attn

open Cert.KernelIdeal Cert.KernelIdeal.Gen Cert.Attn.Online

/-- The float word of −∞ is the least extended real. -/
theorem ofBits_ninf : Ideal.ofBits .f32 4286578688#32 = ⊥ := by simp [Ideal.ofBits, Ideal.ieee]

/-! ## One head's update at one row

`x` is a chunk of 512 keys and `w` the chunk's values; the row's scores against the chunk are `s (n + k)`. -/

section head

variable (v1 : FVec Ideal S512x128 .bf16) (m l : FVec Ideal S512x1 .f32) (a : FVec Ideal S512x128 .f32)
  (w x : Vec Ideal S1x512x128 .bf16) (r : Fin 512) (s : ℕ → ℝ) (v : Fin 128 → ℕ → EReal) (n : ℕ)

/-- The new maximum of head 0. -/
theorem max0 (hx : ∀ k : Fin 512, ∑ d : Fin 128, v1 (ix2 r d) * x (ix3 0 k d) = (s (n + k) : EReal))
    (hm : m (ix2 r 0) = mx s n) : k0_pay13 v1 m x (ix2 r 0) = mx s (n + 512) := by
  pointwise [k0_pay13, k0_pay12]
  simp only [hx, hm, ofBits_ninf]
  exact mx_step s n 512

/-- The new sum of exponentials of head 0. -/
theorem sum0 (hx : ∀ k : Fin 512, ∑ d : Fin 128, v1 (ix2 r d) * x (ix3 0 k d) = (s (n + k) : EReal))
    (hm : m (ix2 r 0) = mx s n) (hl : l (ix2 r 0) = esum s n) : k0_pay16 v1 m l x (ix2 r 0) = esum s (n + 512) := by
  pointwise [k0_pay16, k0_pay15, k0_pay14, k0_pay12]
  simp only [hx, hm, hl, max0 v1 m x r s n hx hm]
  exact esum_step s n (by decide)

/-- The new weighted sums of head 0. -/
theorem acc0 (hx : ∀ k : Fin 512, ∑ d : Fin 128, v1 (ix2 r d) * x (ix3 0 k d) = (s (n + k) : EReal))
    (hm : m (ix2 r 0) = mx s n) (d : Fin 128) (hw : ∀ k : Fin 512, w (ix3 0 k d) = v d (n + k))
    (ha : a (ix2 r d) = wsum s (v d) n) : k0_pay17 v1 m a w x (ix2 r d) = wsum s (v d) (n + 512) := by
  pointwise [k0_pay17, k0_pay15, k0_pay14, k0_pay12, k0_pay11]
  simp only [hx, hm, ha, hw, max0 v1 m x r s n hx hm]
  exact wsum_step s (v d) n (by decide)

/-- The new maximum of head 1. -/
theorem max1 (hx : ∀ k : Fin 512, ∑ d : Fin 128, v1 (ix2 r d) * x (ix3 0 k d) = (s (n + k) : EReal))
    (hm : m (ix2 r 0) = mx s n) : k0_pay19 v1 m x (ix2 r 0) = mx s (n + 512) := by
  pointwise [k0_pay19, k0_pay18]
  simp only [hx, hm, ofBits_ninf]
  exact mx_step s n 512

/-- The new sum of exponentials of head 1. -/
theorem sum1 (hx : ∀ k : Fin 512, ∑ d : Fin 128, v1 (ix2 r d) * x (ix3 0 k d) = (s (n + k) : EReal))
    (hm : m (ix2 r 0) = mx s n) (hl : l (ix2 r 0) = esum s n) : k0_pay22 v1 m l x (ix2 r 0) = esum s (n + 512) := by
  pointwise [k0_pay22, k0_pay21, k0_pay20, k0_pay18]
  simp only [hx, hm, hl, max1 v1 m x r s n hx hm]
  exact esum_step s n (by decide)

/-- The new weighted sums of head 1. -/
theorem acc1 (hx : ∀ k : Fin 512, ∑ d : Fin 128, v1 (ix2 r d) * x (ix3 0 k d) = (s (n + k) : EReal))
    (hm : m (ix2 r 0) = mx s n) (d : Fin 128) (hw : ∀ k : Fin 512, w (ix3 0 k d) = v d (n + k))
    (ha : a (ix2 r d) = wsum s (v d) n) :
    k0_pay9 (k0_pay11 w) (k0_pay23 v1 m a x) (k0_pay24 v1 m x) (ix2 r d) = wsum s (v d) (n + 512) := by
  pointwise [k0_pay9, k0_pay11, k0_pay23, k0_pay24, k0_pay21, k0_pay20, k0_pay18]
  simp only [hx, hm, ha, hw, max1 v1 m x r s n hx hm]
  exact wsum_step s (v d) n (by decide)

end head

/-! ## The loop -/

/-- The score of query row `r` against key `k` in a block of two heads; `h` is the head's first lane. -/
def score (xq : Vec Ideal S1x512x256 .bf16) (xk : Vec Ideal S1x8192x256 .bf16) (h : Fin 129) (r : Fin 512) (k : Fin 8192) : EReal :=
  ∑ d : Fin 128, xq (ix3 0 r ⟨h + d, by omega⟩) * xk (ix3 0 k ⟨h + d, by omega⟩)

/-- The carried state of the loop: maximum, sum and weighted sums of either head. -/
abbrev St : Type := FVec Ideal S512x1 .f32 × FVec Ideal S512x1 .f32 × FVec Ideal S512x128 .f32 × FVec Ideal S512x1 .f32 × FVec Ideal S512x1 .f32 × FVec Ideal S512x128 .f32

/-- At row `r` the state is the running softmax of the first `n` keys: scores `s0`, `s1` of the two heads, values `v`. -/
structure Running (r : Fin 512) (s0 s1 : ℕ → ℝ) (v : Fin 128 → ℕ → EReal) (n : ℕ) (st : St) : Prop where
  m0 : st.1 (ix2 r 0) = mx s0 n
  l0 : st.2.1 (ix2 r 0) = esum s0 n
  a0 : ∀ d, st.2.2.1 (ix2 r d) = wsum s0 (v d) n
  m1 : st.2.2.2.1 (ix2 r 0) = mx s1 n
  l1 : st.2.2.2.2.1 (ix2 r 0) = esum s1 n
  a1 : ∀ d, st.2.2.2.2.2 (ix2 r d) = wsum s1 (v d) n

/-- Before the first pass no key has been seen. -/
theorem running_zero (r : Fin 512) (s0 s1 : ℕ → ℝ) (v : Fin 128 → ℕ → EReal) :
    Running r s0 s1 v 0 (k0_pay3, k0_pay4, k0_pay5, k0_pay6, k0_pay7, k0_pay8) where
  m0 := by show k0_pay3 (ix2 r 0) = _; pointwise [k0_pay3]; exact ofBits_ninf
  l0 := by show k0_pay4 (ix2 r 0) = _; pointwise [k0_pay4]; rfl
  a0 d := by show k0_pay5 (ix2 r d) = _; pointwise [k0_pay5]; rfl
  m1 := by show k0_pay6 (ix2 r 0) = _; pointwise [k0_pay6]; exact ofBits_ninf
  l1 := by show k0_pay7 (ix2 r 0) = _; pointwise [k0_pay7]; rfl
  a1 d := by show k0_pay8 (ix2 r d) = _; pointwise [k0_pay8]; rfl

section loop

variable (𝒱 : Variants) (c : Dev nD) (bd : Option 𝒱.V) (i : grid0.Coords) (arg3 : Memref sig .tc .vmem S1x512x256 .bf16) (harg3 : arg3.IsWhole) (arg4 : Memref sig .tc .vmem S1x8192x256 .bf16) (harg4 : arg4.IsWhole) (arg5 : Memref sig .tc .vmem S1x8192x128 .bf16) (harg5 : arg5.IsWhole) (arg6 : Memref sig .tc .vmem S1x512x128 .f32) (harg6 : arg6.IsWhole)
  (xq : Vec Ideal S1x512x256 .bf16) (xk : Vec Ideal S1x8192x256 .bf16) (xv : Vec Ideal S1x8192x128 .bf16)

/-- The lanes of the block's first head. -/
abbrev qlo : Vec Ideal S1x512x128 .bf16 := View.ld xq (Rect.unit ![0, 0, 0] ![1, 512, 128] inb_S1x512x256_S1x512x128_0_0_0)

/-- The lanes of the block's second head. -/
abbrev qhi : Vec Ideal S1x512x128 .bf16 := View.ld xq (Rect.unit ![0, 0, 128] ![1, 512, 128] inb_S1x512x256_S1x512x128_0_0_128)

/-- One pass takes the running softmax of the first `512 * j` keys to that of the first `512 * (j + 1)`. -/
theorem running_step (r : Fin 512) (s0 s1 : ℕ → ℝ) (v : Fin 128 → ℕ → EReal)
    (h0 : ∀ k : Fin 8192, score xq xk 0 r k = (s0 k : EReal)) (h1 : ∀ k : Fin 8192, score xq xk 128 r k = (s1 k : EReal))
    (hv : ∀ (d : Fin 128) (k : Fin 8192), xv (ix3 0 k d) = v d k)
    (j : Fin k0_t1_loop.trips) (st : St) (hst : Running r s0 s1 v (512 * j) st) :
    Running r s0 s1 v (512 * (j + 1)) (tripR_k0_t1 (F := Ideal) 𝒱 c bd i arg3 harg3 arg4 harg4 arg5 harg5 arg6 harg6 (qlo xq) (qhi xq) (harg4.unread xk) (harg5.unread xv) j st) := by
  have hj : j.val < 16 := lt_of_lt_of_le j.isLt (by decide +kernel)
  obtain ⟨m0, l0, a0, m1, l1, a1⟩ := st
  have H0 : ∀ k : Fin 512, ∑ d : Fin 128, k0_pay1 (qlo xq) (ix2 r d) * View.ld xk (Rect.unit (k0_off2 j) S1x512x128.size (k0_off2_inb j)) (ix3 0 k d) = (s0 (512 * j + k) : EReal) := by
    intro k
    rw [← h0 ⟨512 * j + k, by omega⟩]
    pointwise [k0_pay1, score]
    have e0 : k0_off2 j 0 = 0 := by rw [k0_off2_eq]; rfl
    have e1 : k0_off2 j 1 = 512 * j.val := by rw [k0_off2_eq]; rfl
    have e2 : k0_off2 j 2 = 0 := by rw [k0_off2_eq]; rfl
    simp only [e0, e1, e2]
    pointwise [qlo]
  have H1 : ∀ k : Fin 512, ∑ d : Fin 128, k0_pay2 (qhi xq) (ix2 r d) * View.ld xk (Rect.unit (k0_off3 j) S1x512x128.size (k0_off3_inb j)) (ix3 0 k d) = (s1 (512 * j + k) : EReal) := by
    intro k
    rw [← h1 ⟨512 * j + k, by omega⟩]
    pointwise [k0_pay2, score]
    have e0 : k0_off3 j 0 = 0 := by rw [k0_off3_eq]; rfl
    have e1 : k0_off3 j 1 = 512 * j.val := by rw [k0_off3_eq]; rfl
    have e2 : k0_off3 j 2 = 128 := by rw [k0_off3_eq]; rfl
    simp only [e0, e1, e2]
    pointwise [qhi]
  have HV : ∀ (d : Fin 128) (k : Fin 512), View.ld xv (Rect.unit (k0_off1 j) S1x512x128.size (k0_off1_inb j)) (ix3 0 k d) = v d (512 * j + k) := by
    intro d k
    rw [← hv d ⟨512 * j + k, by omega⟩]
    pointwise []
    have e0 : k0_off1 j 0 = 0 := by rw [k0_off1_eq]; rfl
    have e1 : k0_off1 j 1 = 512 * j.val := by rw [k0_off1_eq]; rfl
    have e2 : k0_off1 j 2 = 0 := by rw [k0_off1_eq]; rfl
    simp only [e0, e1, e2]
    simp only [Nat.zero_add]
    rfl
  unfold tripR_k0_t1 trip_k0_t1
  dsimp only
  frame_open
  simp only [View.readAt_eq_ld, harg4.read_unread, harg5.read_unread]
  rw [Nat.mul_add, Nat.mul_one]
  exact ⟨max0 _ _ _ r s0 _ H0 hst.m0, sum0 _ _ _ _ r s0 _ H0 hst.m0 hst.l0,
    fun d => acc0 _ _ _ _ _ r s0 v _ H0 hst.m0 d (HV d) (hst.a0 d),
    max1 _ _ _ r s1 _ H1 hst.m1, sum1 _ _ _ _ r s1 _ H1 hst.m1 hst.l1,
    fun d => acc1 _ _ _ _ _ r s1 v _ H1 hst.m1 d (HV d) (hst.a1 d)⟩

/-- After `j` passes the state is the running softmax of the first `512 * j` keys. -/
theorem running_loop (r : Fin 512) (s0 s1 : ℕ → ℝ) (v : Fin 128 → ℕ → EReal)
    (h0 : ∀ k : Fin 8192, score xq xk 0 r k = (s0 k : EReal)) (h1 : ∀ k : Fin 8192, score xq xk 128 r k = (s1 k : EReal))
    (hv : ∀ (d : Fin 128) (k : Fin 8192), xv (ix3 0 k d) = v d k) :
    ∀ j : ℕ, j ≤ k0_t1_loop.trips → Running r s0 s1 v (512 * j) (st_k0_t1 (F := Ideal) 𝒱 c bd i arg3 harg3 arg4 harg4 arg5 harg5 arg6 harg6 (qlo xq) (qhi xq) (harg4.unread xk) (harg5.unread xv) (k0_pay3, k0_pay4, k0_pay5, k0_pay6, k0_pay7, k0_pay8) j) := by
  intro j
  induction j with
  | zero => intro _; exact running_zero r s0 s1 v
  | succ j ih =>
    intro hj
    rw [st_k0_t1_succ (k := ⟨j, hj⟩)]
    exact running_step 𝒱 c bd i arg3 harg3 arg4 harg4 arg5 harg5 arg6 harg6 xq xk xv r s0 s1 v h0 h1 hv ⟨j, hj⟩ _ (ih (Nat.le_of_succ_le hj))

end loop

end Cert.KernelIdeal.Attn

end
-- ==== Proof.Attn.Array.lean ====
/- What the attention kernel's result array holds, when every score is a real number. -/
module

public import proofs.«01_k».proof.Proof.Gen.KernelIdeal.Value
public import proofs.«01_k».proof.Proof.Attn.Trip

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.Attn.Online

/-- The score of query `r` against key `k` in head `h` of batch `b`: the product over the head's 128 lanes. -/
def scoreAt (q k : Vec Ideal S4x8192x1024 .bf16) (b : Fin 4) (h : Fin 8) (r kk : Fin 8192) : EReal :=
  ∑ d : Fin 128, q (ix3 b r ⟨128 * h + d, by omega⟩) * k (ix3 b kk ⟨128 * h + d, by omega⟩)

/-- Lane `l` of the values of batch `b`, key by key. -/
def valueAt (v : Vec Ideal S4x8192x512 .bf16) (b : Fin 4) (l : Fin 512) (k : ℕ) : EReal := v (ix3 b (Fin.ofNat 8192 k) l)

theorem valueAt_coe (v : Vec Ideal S4x8192x512 .bf16) (b : Fin 4) (l : Fin 512) (k : Fin 8192) :
    valueAt v b l k = v (ix3 b k l) := by
  have h : Fin.ofNat 8192 k.val = k := Fin.ext (Nat.mod_eq_of_lt k.isLt)
  rw [valueAt, h]

/-- The attention at one index, for real scores `S`: the weighted sum of the values over the sum of the weights. -/
def attnAt (S : Fin 4 → Fin 8 → Fin 8192 → ℕ → ℝ) (v : Vec Ideal S4x8192x512 .bf16) (b : Fin 4) (r : Fin 8192) (l : Fin 512) : EReal :=
  Ideal.div (wsum (S b ⟨l / 64, by omega⟩ r) (valueAt v b l) 8192) (esum (S b ⟨l / 64, by omega⟩ r) 8192)

/-- The attention array. -/
def attnArr (S : Fin 4 → Fin 8 → Fin 8192 → ℕ → ℝ) (v : Vec Ideal S4x8192x512 .bf16) : Vec Ideal S4x8192x512 .f32 :=
  fun i => attnAt S v (i 0) (i 1) (i 2)

theorem attnArr_at (S : Fin 4 → Fin 8 → Fin 8192 → ℕ → ℝ) (v : Vec Ideal S4x8192x512 .bf16) (b : Fin 4) (r : Fin 8192) (l : Fin 512) :
    attnArr S v (ix3 b r l) = attnAt S v b r l := rfl

/-- Where each window stands at a grid point: batch `t / 64`, head pair `t / 16 % 4`, row block `t % 16`. -/
theorem idx : ∀ t : Fin cfg0.N,
    win0_0.index t = ![t.val / 64, t.val % 16, t.val / 16 % 4] ∧ win0_1.index t = ![t.val / 64, 0, t.val / 16 % 4]
    ∧ win0_2.index t = ![t.val / 64, 0, t.val / 16 % 4] ∧ win0_3.index t = ![t.val / 64, t.val % 16, t.val / 16 % 4] :=
  (by decide +kernel : ∀ t : Fin grid0.N,
    win0_0.index t = ![t.val / 64, t.val % 16, t.val / 16 % 4] ∧ win0_1.index t = ![t.val / 64, 0, t.val / 16 % 4]
    ∧ win0_2.index t = ![t.val / 64, 0, t.val / 16 % 4] ∧ win0_3.index t = ![t.val / 64, t.val % 16, t.val / 16 % 4])

variable (m : (ℓ : Loc nD τ sig) → Buf (Elt Ideal) ℓ)

/-- The queries, keys and values of a device. -/
abbrev argQ (c : Dev nD) : Vec Ideal S4x8192x1024 .bf16 := m ((c : Thread nD τ).loc main_arg0)
abbrev argK (c : Dev nD) : Vec Ideal S4x8192x1024 .bf16 := m ((c : Thread nD τ).loc main_arg1)
abbrev argV (c : Dev nD) : Vec Ideal S4x8192x512 .bf16 := m ((c : Thread nD τ).loc main_arg2)

theorem trips_eq : Scf.trips (0#32) (Scalar.addi 0#32 16#32) 1#32 = 16 := by decide +kernel

/-- The select by lane: the block's first head below lane 64, its second from there on. -/
theorem out_at (l0 l1 : FVec Ideal S512x1 .f32) (a0 a1 : FVec Ideal S512x128 .f32) (r : Fin 512) (d : Fin 128) :
    k0_pay10 l0 a0 l1 a1 (ix3 0 r d)
      = if d.val < 64 then Ideal.div (a0 (ix2 r d)) (l0 (ix2 r 0)) else Ideal.div (a1 (ix2 r d)) (l1 (ix2 r 0)) := by
  pointwise [k0_pay10]
  have h : IntOp.cmpi CmpIPredicate.slt (BitVec.ofNat 32 ↑d) 64#32 = if d.val < 64 then 1#1 else 0#1 := by
    revert d; decide +kernel
  rw [h]
  split <;> rfl

/-- The result array: the attention of the arguments, where `S` are the (real) scores. -/
theorem final (c : Dev nD) (S : Fin 4 → Fin 8 → Fin 8192 → ℕ → ℝ)
    (hS : ∀ b h r (k : Fin 8192), scoreAt (argQ m c) (argK m c) b h r k = (S b h r k : EReal)) :
    (dats m 0 c).arrAt 3 cfg0.N = attnArr S (argV m c) := by
  refine (dats m 0 c).arrAt_eq_of_covers 3 _ (by decide +kernel) fun t hf y => ?_
  blk_simp
  rw [after0_3]
  unfold outsAt0
  frame_out
  revert y
  intro (y : S1x512x128.Idx)
  idx_vars y
  have ht : t.val < 256 := t.isLt
  have hb : t.val / 64 < 4 := by omega
  have hr := running_loop Variants.none c none (grid0.coords t) (ms0_0 t) (hs0_0 t) (ms0_1 t) (hs0_1 t) (ms0_2 t) (hs0_2 t) (ms0_3 t) (hs0_3 t)
    (iblk m c 0 t) (iblk m c 1 t) (iblk m c 2 t) y1
    (S ⟨t / 64, by omega⟩ ⟨2 * (t / 16 % 4), by omega⟩ ⟨512 * (t % 16) + y1, by omega⟩)
    (S ⟨t / 64, by omega⟩ ⟨2 * (t / 16 % 4) + 1, by omega⟩ ⟨512 * (t % 16) + y1, by omega⟩)
    (fun d => valueAt (argV m c) ⟨t / 64, by omega⟩ ⟨128 * (t / 16 % 4) + d, by omega⟩)
    (by
      intro k
      rw [← hS]
      unfold score scoreAt
      refine Finset.sum_congr rfl fun x _ => ?_
      congr 1 <;> blk_ext [iblk, V, idx t])
    (by
      intro k
      rw [← hS]
      unfold score scoreAt
      refine Finset.sum_congr rfl fun x _ => ?_
      congr 1 <;> blk_ext [iblk, V, idx t])
    (by
      intro d k
      unfold valueAt
      blk_ext [iblk, V, idx t]
      exact (Nat.mod_eq_of_lt k.isLt).symm) 16 (by decide +kernel)
  rw [trips_eq]
  obtain rfl : y0 = 0 := Subsingleton.elim _ _
  have he : ((View.whole main_v0).slice (win0_3.rect t)).emb (ix3 0 y1 y2)
      = ix3 ⟨t / 64, by omega⟩ ⟨512 * (t % 16) + y1, by omega⟩ ⟨128 * (t / 16 % 4) + y2, by omega⟩ := by
    blk_ext [idx t]
  rw [he]
  refine (out_at _ _ _ _ _ _).trans ?_
  show _ = attnAt S (argV m c) ⟨t / 64, by omega⟩ ⟨512 * (t % 16) + y1, by omega⟩ ⟨128 * (t / 16 % 4) + y2, by omega⟩
  unfold attnAt
  split
  · rename_i hlt
    have hh : (⟨(128 * (t.val / 16 % 4) + y2.val) / 64, by omega⟩ : Fin 8) = ⟨2 * (t / 16 % 4), by omega⟩ :=
      Fin.ext (by show (128 * (t.val / 16 % 4) + y2.val) / 64 = 2 * (t.val / 16 % 4); omega)
    simp only [hh]
    exact congrArg₂ Ideal.div (hr.a0 y2) hr.l0
  · rename_i hlt
    have hh : (⟨(128 * (t.val / 16 % 4) + y2.val) / 64, by omega⟩ : Fin 8) = ⟨2 * (t / 16 % 4) + 1, by omega⟩ :=
      Fin.ext (by show (128 * (t.val / 16 % 4) + y2.val) / 64 = 2 * (t.val / 16 % 4) + 1; omega)
    simp only [hh]
    exact congrArg₂ Ideal.div (hr.a1 y2) hr.l1

end Cert.KernelIdeal.Attn

end
-- ==== Proof.Attn.Ref.lean ====
/- What the attention's reference computes at an index, when every score is a real number. -/
module

public import proofs.«01_k».proof.Proof.Gen.ReferenceIdeal.Run
public import proofs.«01_k».proof.Proof.Attn.Array

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen Cert.Attn.Online
open Cert.KernelIdeal.Attn (scoreAt valueAt attnAt attnArr ofBits_ninf)

variable (q k : FVec Ideal S4x8192x1024 .bf16) (v : FVec Ideal S4x8192x512 .bf16)

/-! ## The stages of the reference -/

/-- The scores of all queries against all keys. -/
def refS : FVec Ideal S4x8x8192x8192 .f32 :=
  Host.dotGeneral dot_S4x8192x8x128_S4x8192x8x128_S4x8x8192x8192_3_3_1_1_02_02 none
    (shapeCast _ (extf .f32 q bitsLt_bf16_f32) shapeCasts_S4x8192x1024_S4x8192x8x128)
    (shapeCast _ (extf .f32 k bitsLt_bf16_f32) shapeCasts_S4x8192x1024_S4x8192x8x128)

/-- The largest score of each query. -/
def refM (S : FVec Ideal S4x8x8192x8192 .f32) : FVec Ideal S4x8x8192 .f32 :=
  maximumf (broadcastInDim S4x8x8192 ![] bcast_S_S4x8x8192 (constant S_ .f32 0xFF800000#32))
    (Host.reduce FloatOps.maximumf S (constant S_ .f32 0xFF800000#32) reducesTo_S4x8x8192x8192_S4x8x8192_d3 h_S_)

/-- The exponentials of the scores, less the largest. -/
def refE (S : FVec Ideal S4x8x8192x8192 .f32) : FVec Ideal S4x8x8192x8192 .f32 :=
  Host.exp (subf S (broadcastInDim S4x8x8192x8192 ![0, 1, 2, 3] bcast_S4x8x8192x1_S4x8x8192x8192_0_1_2_3
    (broadcastInDim S4x8x8192x1 ![0, 1, 2] bcast_S4x8x8192_S4x8x8192x1_0_1_2 (refM S))))

/-- The sum of a query's exponentials. -/
def refL (S : FVec Ideal S4x8x8192x8192 .f32) : FVec Ideal S4x8x8192 .f32 :=
  Host.reduceAdd (refE S) (constant S_ .f32 0x00000000#32) reducesTo_S4x8x8192x8192_S4x8x8192_d3 h_S_

/-- The softmax weights. -/
def refP (S : FVec Ideal S4x8x8192x8192 .f32) : FVec Ideal S4x8x8192x8192 .f32 :=
  Host.divf (refE S) (broadcastInDim S4x8x8192x8192 ![0, 1, 2, 3] bcast_S4x8x8192x1_S4x8x8192x8192_0_1_2_3
    (broadcastInDim S4x8x8192x1 ![0, 1, 2] bcast_S4x8x8192_S4x8x8192x1_0_1_2 (refL S)))

/-- The attention: the weights on the values, the heads side by side. -/
def refO (P : FVec Ideal S4x8x8192x8192 .f32) : FVec Ideal S4x8192x512 .f32 :=
  shapeCast _ (transpose S4x8192x8x64 [0, 3, 1, 2] (Host.dotGeneral
    dot_S4x8192x8x64_S4x8x8192x8192_S4x8x64x8192_1_3_3_2_02_01 none
    (shapeCast _ (extf .f32 v bitsLt_bf16_f32) shapeCasts_S4x8192x512_S4x8192x8x64)
    (extf .f32 (truncf .bf16 P bitsLt_bf16_f32) bitsLt_bf16_f32)) transposes_S4x8x64x8192_S4x8192x8x64_0_3_1_2)
    shapeCasts_S4x8192x8x64_S4x8192x512

/-! ## The stages at an index -/

theorem refS_at (b : Fin 4) (h : Fin 8) (r kk : Fin 8192) : refS q k (ix4 b h r kk) = scoreAt q k b h r kk := by
  pointwise [refS, scoreAt]
  simp only [Nat.mul_comm]

/-- A maximum over the last of four axes, at any extents, read at an index: the fold over that axis. -/
theorem hostMax_at {n0 n1 n2 n3 : ℕ} {t u : Shape} (h : (⟨4, ![n0, n1, n2, n3]⟩ : Shape).ReducesTo [3] t) (hu : 0 < u.numel)
    (x : FVec Ideal ⟨4, ![n0, n1, n2, n3]⟩ .f32) (init : FVec Ideal u .f32) (j : t.Idx) (b : EReal)
    (hb : init (Shape.Idx.first hu) = b) (i0 : Fin n0) (i1 : Fin n1) (i2 : Fin n2)
    (h0 : (j ⟨0, h.lt_r4_a3_0⟩).val = i0.val) (h1 : (j ⟨1, h.lt_r4_a3_1⟩).val = i1.val) (h2 : (j ⟨2, h.lt_r4_a3_2⟩).val = i2.val) :
    Host.reduce FloatOps.maximumf x init h hu j = (Finset.univ : Finset (Fin n3)).fold max b fun k => x (ix4 i0 i1 i2 k) := by
  rw [Host.reduce_eq_fold, h.fold_fiber_r4_a3]
  simp only [h0, h1, h2, hb]
  rfl

/-- The larger of two arrays, read at an index. -/
theorem maximumf_at {s : Shape} (x y : FVec Ideal s .f32) (i : s.Idx) (a b : EReal) (ha : x i = a) (hb : y i = b) :
    maximumf x y i = max a b := by subst ha hb; rfl

/-- The printed −∞, spread over any shape. -/
theorem ninf_at {s : Shape} (h : S_.BroadcastsInDim s (![] : Fin 0 → Fin s.rank)) (i : s.Idx) :
    broadcastInDim s ![] h (constant (F := Ideal) S_ .f32 0xFF800000#32) i = (⊥ : EReal) := ofBits_ninf

theorem rowMax_at (S : FVec Ideal S4x8x8192x8192 .f32) (b : Fin 4) (h : Fin 8) (r : Fin 8192) :
    Host.reduce FloatOps.maximumf S (constant S_ .f32 0xFF800000#32) reducesTo_S4x8x8192x8192_S4x8x8192_d3 h_S_ (ix3 b h r)
      = (Finset.univ : Finset (Fin 8192)).fold max (⊥ : EReal) fun kk : Fin 8192 => S (ix4 b h r kk) :=
  hostMax_at reducesTo_S4x8x8192x8192_S4x8x8192_d3 h_S_ S (constant S_ .f32 0xFF800000#32) (ix3 b h r) ⊥
    ofBits_ninf b h r rfl rfl rfl

theorem refM_at (S : FVec Ideal S4x8x8192x8192 .f32) (b : Fin 4) (h : Fin 8) (r : Fin 8192) :
    refM S (ix3 b h r) = (Finset.univ : Finset (Fin 8192)).fold max (⊥ : EReal) fun kk : Fin 8192 => S (ix4 b h r kk) := by
  unfold refM
  rw [maximumf_at _ _ _ _ _ (ninf_at _ _) (rowMax_at S b h r)]
  exact bot_sup_eq _

theorem refE_at (S : FVec Ideal S4x8x8192x8192 .f32) (b : Fin 4) (h : Fin 8) (r kk : Fin 8192) :
    refE S (ix4 b h r kk) = Ideal.exp (S (ix4 b h r kk) - refM S (ix3 b h r)) := by
  pointwise [refE]

theorem refL_at (S : FVec Ideal S4x8x8192x8192 .f32) (b : Fin 4) (h : Fin 8) (r : Fin 8192) :
    refL S (ix3 b h r) = ∑ kk : Fin 8192, refE S (ix4 b h r kk) := by
  pointwise [refL]

theorem refP_at (S : FVec Ideal S4x8x8192x8192 .f32) (b : Fin 4) (h : Fin 8) (r kk : Fin 8192) :
    refP S (ix4 b h r kk) = Ideal.div (refE S (ix4 b h r kk)) (refL S (ix3 b h r)) := by
  pointwise [refP]

theorem refO_at (P : FVec Ideal S4x8x8192x8192 .f32) (b : Fin 4) (r : Fin 8192) (l : Fin 512) :
    refO v P (ix3 b r l) = ∑ kk : Fin 8192, P (ix4 b ⟨l / 64, by omega⟩ r kk) * v (ix3 b kk l) := by
  pointwise [refO]
  exact Finset.sum_congr rfl fun x _ => mul_comm _ _

/-- The reference is the attention of its arguments, where `S` are the (real) scores. -/
theorem ref_eq (S : Fin 4 → Fin 8 → Fin 8192 → ℕ → ℝ)
    (hS : ∀ b h r (kk : Fin 8192), scoreAt q k b h r kk = (S b h r kk : EReal)) :
    refO v (refP (refS q k)) = attnArr S v := by
  funext i
  obtain ⟨b, r, l, rfl⟩ : ∃ (b : Fin 4) (r : Fin 8192) (l : Fin 512), i = ix3 b r l := ⟨i 0, i 1, i 2, eq_ix3 i⟩
  have hM : refM (refS q k) (ix3 b ⟨l / 64, by omega⟩ r) = mx (S b ⟨l / 64, by omega⟩ r) 8192 := by
    rw [refM_at]
    simp only [refS_at, hS]
    have := mx_step (S b ⟨l / 64, by omega⟩ r) 0 8192
    simpa [mx_zero] using this
  have hE : ∀ kk, refE (refS q k) (ix4 b ⟨l / 64, by omega⟩ r kk)
      = Ideal.exp ((S b ⟨l / 64, by omega⟩ r kk : EReal) - mx (S b ⟨l / 64, by omega⟩ r) 8192) := fun kk => by
    rw [refE_at, hM, refS_at, hS]
  have hL : refL (refS q k) (ix3 b ⟨l / 64, by omega⟩ r) = esum (S b ⟨l / 64, by omega⟩ r) 8192 := by
    rw [refL_at, esum, Finset.sum_range]
    exact Finset.sum_congr rfl fun kk _ => hE kk
  rw [refO_at, Cert.KernelIdeal.Attn.attnArr_at, attnAt, wsum_div _ _ (by decide), Finset.sum_range]
  refine Finset.sum_congr rfl fun kk _ => ?_
  rw [refP_at, hE, hL, Cert.KernelIdeal.Attn.valueAt_coe]

/-- Of the printed run: the result is the composition of the stages, the arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22)
        = refO (m ((c.tc : Thread nD τ).loc main_arg2))
            (refP (refS (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run (F := Ideal) m ρ

end Cert.ReferenceIdeal.Attn

end
-- ==== Proof.Attn.Finite.lean ====
/- What the precondition gives: queries and keys that are real numbers, hence real scores. -/
module

public import proofs.«01_k».proof.Pre_finite_qk
public import proofs.«01_k».proof.Proof.Gen.Pre_finite_qk
public import proofs.«01_k».proof.Proof.Attn.Array

@[expose] public section

set_option maxRecDepth 16384

noncomputable section

open Idealize.ShloMosaic

namespace Cert.Attn.Finite

open Cert.KernelIdeal.Attn (scoreAt)

/-- The float word of +∞ is the largest extended real. -/
theorem ofBits_inf : Ideal.ofBits .f32 2139095040#32 = ⊤ := by simp [Ideal.ofBits, Ideal.ieee]

theorem real_of_abs_lt (x : EReal) (h : max x (-x) < ⊤) : ∃ r : ℝ, x = r := by
  induction x using EReal.rec with
  | bot => simp at h
  | top => simp at h
  | coe r => exact ⟨r, rfl⟩

theorem both_of_andi : ∀ p q : Bool, IntOp.andi (BitVec.ofBool p) (BitVec.ofBool q) = 1#1 → p = true ∧ q = true := by decide

/-- Under the precondition every query and every key is a real number. -/
theorem real_of_pre (q k : FVec Ideal Cert.Pre_finite_qk.S4x8192x1024 .bf16) (v : FVec Ideal Cert.Pre_finite_qk.S4x8192x512 .bf16)
    (h : Cert.Pre_finite_qk.fn (F := Ideal) q k v = fun _ => 1#1) (b : Fin 4) (r : Fin 8192) (l : Fin 1024) :
    (∃ a : ℝ, q (ix3 b r l) = a) ∧ ∃ a : ℝ, k (ix3 b r l) = a := by
  have h := congrFun h (ix3 b r l)
  pointwise [Cert.Pre_finite_qk.fn] at h
  rw [ofBits_inf] at h
  obtain ⟨h1, h2⟩ := both_of_andi _ _ h
  exact ⟨real_of_abs_lt _ (of_decide_eq_true h1), real_of_abs_lt _ (of_decide_eq_true h2)⟩

/-- So every score is a real number. -/
theorem scores (q k : Vec Ideal Cert.KernelIdeal.S4x8192x1024 .bf16) (hq : ∀ b r l, ∃ a : ℝ, q (ix3 b r l) = a)
    (hk : ∀ b r l, ∃ a : ℝ, k (ix3 b r l) = a) :
    ∃ S : Fin 4 → Fin 8 → Fin 8192 → ℕ → ℝ, ∀ b h r (kk : Fin 8192), scoreAt q k b h r kk = (S b h r kk : EReal) := by
  have H : ∀ b h r kk, ∃ a : ℝ, scoreAt q k b h r kk = a := fun b h r kk =>
    Cert.Attn.Online.sum_mul_real (fun d => hq _ _ _) (fun d => hk _ _ _)
  choose s hs using H
  refine ⟨fun b h r n => s b h r (Fin.ofNat 8192 n), fun b h r kk => ?_⟩
  have e : Fin.ofNat 8192 kk.val = kk := Fin.ext (Nat.mod_eq_of_lt kk.isLt)
  simp only [e]
  exact hs b h r kk

end Cert.Attn.Finite

end
-- ==== Proof.Attn.Claim.lean ====
/- The attention kernel and its reference compute the same array, where no query and no key is infinite. -/
module

public import proofs.«01_k».proof.Defs
public import proofs.«01_k».proof.Proof.Gen.KernelIdeal.Value
public import proofs.«01_k».proof.Proof.Gen.ReferenceIdeal.Run
public import proofs.«01_k».proof.Proof.Gen.Pre_finite_qk
public import proofs.«01_k».proof.Proof.Attn.Ref
public import proofs.«01_k».proof.Proof.Attn.Finite

@[expose] public section

set_option maxRecDepth 16384

noncomputable section

open Idealize.ShloMosaic Idealize.ShloMosaic.TcCoe Idealize.SL.Sem

namespace Cert.Attn

/-- The kernel's array is the reference's, for finite queries and keys. -/
theorem arrays_eq (m : (ℓ : Loc Cert.KernelIdeal.nD Cert.KernelIdeal.τ Cert.KernelIdeal.sig) → Buf (Elt Ideal) ℓ)
    (hpre : Cert.Pre_KernelIdeal_finite_qk m) (c : Dev Cert.KernelIdeal.nD) :
    (Cert.KernelIdeal.Gen.dats m 0 c).arrAt 3 Cert.KernelIdeal.cfg0.N
      = Cert.ReferenceIdeal.Attn.refO (Cert.KernelIdeal.Attn.argV m c)
          (Cert.ReferenceIdeal.Attn.refP (Cert.ReferenceIdeal.Attn.refS (Cert.KernelIdeal.Attn.argQ m c) (Cert.KernelIdeal.Attn.argK m c))) := by
  have hr := Cert.Attn.Finite.real_of_pre _ _ _ (hpre c)
  obtain ⟨S, hS⟩ := Cert.Attn.Finite.scores (Cert.KernelIdeal.Attn.argQ m c) (Cert.KernelIdeal.Attn.argK m c)
    (fun b r l => (hr b r l).1) (fun b r l => (hr b r l).2)
  rw [Cert.ReferenceIdeal.Attn.ref_eq _ _ _ S hS]
  exact Cert.KernelIdeal.Attn.final m c S hS

/-- The value claim of the attention. -/
theorem algebraic : Cert.algebraic_KernelIdeal_ReferenceIdeal_pre_finite_qk := by
  intro m ρ m' ρ' hpre hagree
  refine ⟨fun c => (Cert.KernelIdeal.Gen.dats m 0 c).arrAt 3 Cert.KernelIdeal.cfg0.N,
    Cert.KernelIdeal.Value.run_blocks m ρ,
    (θ_run _ _ _).mono (fun _ h c => ⟨(h c).1.trans (Eq.trans ?_ (arrays_eq m hpre c).symm), (h c).2⟩) (Cert.ReferenceIdeal.Attn.run m' ρ')⟩
  rw [(hagree c).1, (hagree c).2.1, (hagree c).2.2]

end Cert.Attn

end
-- ==== Proof.Tail.Row.lean ====
/- The layer's tail on one token: rows of extended reals, without tiles, blocks or formats. -/
module

public import Idealize.ShloMosaic.Lib.Pipeline.ValueKit
public import Idealize.ShloMosaic.Lib.Pointwise

@[expose] public section

noncomputable section

open Idealize.ShloMosaic

namespace Cert.Tail

/-- A row, normalised by its root mean square (`cnt` is the printed length) and weighted. -/
def rms {n : ℕ} (cnt : EReal) (x w : Fin n → EReal) (j : Fin n) : EReal :=
  x j * Ideal.rsqrt (Ideal.div (∑ k, x k * x k) cnt + Ideal.ofBits FTy.f32 0x358637BD#32) * w j

/-- The printed lengths 512 and 1024. -/
def len512 : EReal := Ideal.ofBits FTy.f32 0x44000000#32
def len1024 : EReal := Ideal.ofBits FTy.f32 0x44800000#32

/-- The token after the output projection of its two mixers. -/
def mix (x : Fin 1024 → EReal) (a b : Fin 512 → EReal) (wo : Fin 1024 → Fin 1024 → EReal) (j : Fin 1024) : EReal :=
  x j + (∑ k : Fin 512, a k * wo ⟨k, by omega⟩ j + ∑ k : Fin 512, b k * wo ⟨512 + k, by omega⟩ j)

/-- One hidden unit of the feed-forward part: the positive part of a projection, squared. -/
def unit (xn : Fin 1024 → EReal) (w1 : Fin 1024 → Fin 4096 → EReal) (f : Fin 4096) : EReal :=
  max (∑ k, xn k * w1 k f) 0 * max (∑ k, xn k * w1 k f) 0

/-- The token after the feed-forward part. -/
def ffn (x xn : Fin 1024 → EReal) (w1 : Fin 1024 → Fin 4096 → EReal) (w2 : Fin 4096 → Fin 1024 → EReal) (j : Fin 1024) : EReal :=
  x j + ∑ f : Fin 4096, unit xn w1 f * w2 f j

/-- The token after the gated embedding is added. -/
def gated (x : Fin 1024 → EReal) (p : Fin 256 → EReal) (wg : Fin 1024 → Fin 1024 → EReal) (wp : Fin 256 → Fin 1024 → EReal)
    (pnw : Fin 1024 → EReal) (j : Fin 1024) : EReal :=
  x j + Ideal.logistic (∑ k, x k * wg k j) * rms len1024 (fun j' => ∑ k, p k * wp k j') pnw j

/-- The token's first residual sum: the mixers' rows, each normalised, projected onto it. -/
def mixed (x : Fin 1024 → EReal) (yh om : Fin 512 → EReal) (hnw mnw : Fin 512 → EReal) (wo : Fin 1024 → Fin 1024 → EReal) :
    Fin 1024 → EReal :=
  mix x (rms len512 yh hnw) (rms len512 om mnw) wo

/-- The token's second residual sum. -/
def fed (x : Fin 1024 → EReal) (mlw : Fin 1024 → EReal) (w1 : Fin 1024 → Fin 4096 → EReal) (w2 : Fin 4096 → Fin 1024 → EReal) :
    Fin 1024 → EReal :=
  ffn x (rms len1024 x mlw) w1 w2

/-- The whole tail on one token. -/
def row (x : Fin 1024 → EReal) (yh om : Fin 512 → EReal) (p : Fin 256 → EReal) (hnw mnw : Fin 512 → EReal)
    (wo : Fin 1024 → Fin 1024 → EReal) (mlw : Fin 1024 → EReal) (w1 : Fin 1024 → Fin 4096 → EReal)
    (w2 : Fin 4096 → Fin 1024 → EReal) (wg : Fin 1024 → Fin 1024 → EReal) (wp : Fin 256 → Fin 1024 → EReal)
    (pnw : Fin 1024 → EReal) : Fin 1024 → EReal :=
  gated (fed (mixed x yh om hnw mnw wo) mlw w1 w2) p wg wp pnw

/-- Equal rows and equal weights have equal tails. -/
theorem row_congr {x x' yh yh' om om' p p' hnw hnw' mnw mnw' wo wo' mlw mlw' w1 w1' w2 w2' wg wg' wp wp' pnw pnw'}
    (h0 : x = x') (h1 : yh = yh') (h2 : om = om') (h3 : p = p') (h4 : hnw = hnw') (h5 : mnw = mnw') (h6 : wo = wo')
    (h7 : mlw = mlw') (h8 : w1 = w1') (h9 : w2 = w2') (h10 : wg = wg') (h11 : wp = wp') (h12 : pnw = pnw') :
    row x yh om p hnw mnw wo mlw w1 w2 wg wp pnw = row x' yh' om' p' hnw' mnw' wo' mlw' w1' w2' wg' wp' pnw' := by
  subst h0 h1 h2 h3 h4 h5 h6 h7 h8 h9 h10 h11 h12
  rfl

/-- A sum over 4096 places is the sum of its four quarters, from the left. -/
theorem sum_quarters (f : Fin 4096 → EReal) :
    ∑ k : Fin 4096, f k
      = ((∑ k : Fin 1024, f ⟨k, by omega⟩ + ∑ k : Fin 1024, f ⟨1024 + k, by omega⟩) + ∑ k : Fin 1024, f ⟨2048 + k, by omega⟩)
        + ∑ k : Fin 1024, f ⟨3072 + k, by omega⟩ := by
  rw [Fin.sum_univ_two_halves 3072 1024 rfl, Fin.sum_univ_two_halves 2048 1024 rfl, Fin.sum_univ_two_halves 1024 1024 rfl]

end Cert.Tail

end
-- ==== Proof.Tail.Block.lean ====
/- What one grid step of the tail kernel writes: on every token of its block, the tail of that token. -/
module

public import proofs.«01_k».proof.Proof.Gen.Kernel2Ideal.Value
public import proofs.«01_k».proof.Proof.Tail.Row

@[expose] public section

set_option maxRecDepth 16384

noncomputable section

open Idealize.ShloMosaic Idealize.ShloMosaic.TcCoe Idealize.SL.Sem
open Idealize.ShloMosaic.Pipeline (Dat)

namespace Cert.Kernel2Ideal.Tail

open Cert.Kernel2Ideal Cert.Kernel2Ideal.Gen Cert.Tail

/-! ## The body's values at an index -/

theorem pay2_at (v0 : Vec Ideal S1x512x512 .f32) (v2 : Vec Ideal S1x512 .f32) (r j : Fin 512) :
    k0_pay2 v0 v2 (ix2 r j) = rms len512 (fun k => v0 (ix3 0 r k)) (fun k => v2 (ix2 0 k)) j := by
  pointwise [k0_pay2, rms, len512]

theorem pay3_at (v0 : Vec Ideal S1x512x512 .f32) (v2 : Vec Ideal S1x512 .f32) (r j : Fin 512) :
    k0_pay3 v0 v2 (ix2 r j) = rms len512 (fun k => v0 (ix3 0 r k)) (fun k => v2 (ix2 0 k)) j := by
  pointwise [k0_pay3, rms, len512]

theorem pay4_at (v : Vec Ideal S1x512x1024 .f32) (r : Fin 512) (j : Fin 1024) : k0_pay4 v (ix2 r j) = v (ix3 0 r j) := by
  pointwise [k0_pay4]

theorem pay11_at (v : Vec Ideal S1x512x256 .f32) (r : Fin 512) (j : Fin 256) : k0_pay11 v (ix2 r j) = v (ix3 0 r j) := by
  pointwise [k0_pay11]

theorem pay5_at (v16 v33 : FVec Ideal S512x512 .bf16) (v35 : FVec Ideal S512x1024 .f32) (v36 v40 : Vec Ideal S512x1024 .bf16)
    (r : Fin 512) (j : Fin 1024) :
    k0_pay5 v16 v33 v35 v36 v40 (ix2 r j)
      = v35 (ix2 r j) + ∑ x, v16 (ix2 r x) * v36 (ix2 x j) + ∑ x, v33 (ix2 r x) * v40 (ix2 x j) := by
  pointwise [k0_pay5]

theorem pay6_at (v16 v33 : FVec Ideal S512x512 .bf16) (v35 : FVec Ideal S512x1024 .f32) (v36 v40 : Vec Ideal S512x1024 .bf16)
    (v44 : Vec Ideal S1x1024 .f32) (r : Fin 512) (j : Fin 1024) :
    k0_pay6 v16 v33 v35 v36 v40 v44 (ix2 r j)
      = rms len1024 (fun k => k0_pay5 v16 v33 v35 v36 v40 (ix2 r k)) (fun k => v44 (ix2 0 k)) j := by
  pointwise [k0_pay6, rms, len1024]

theorem pay7_at (v16 v33 : FVec Ideal S512x512 .bf16) (v35 : FVec Ideal S512x1024 .f32) (v36 v40 : Vec Ideal S512x1024 .bf16)
    (v44 : Vec Ideal S1x1024 .f32) (v60 v67 : Vec Ideal S1024x1024 .bf16) (r : Fin 512) (j : Fin 1024) :
    k0_pay7 v16 v33 v35 v36 v40 v44 v60 v67 (ix2 r j)
      = ∑ x, max (∑ k, k0_pay6 v16 v33 v35 v36 v40 v44 (ix2 r k) * v60 (ix2 k x)) 0
          * max (∑ k, k0_pay6 v16 v33 v35 v36 v40 v44 (ix2 r k) * v60 (ix2 k x)) 0 * v67 (ix2 x j) := by
  pointwise [k0_pay7]

theorem pay8_at (v16 v33 : FVec Ideal S512x512 .bf16) (v35 : FVec Ideal S512x1024 .f32) (v36 v40 : Vec Ideal S512x1024 .bf16)
    (v44 : Vec Ideal S1x1024 .f32) (v71 : Vec Ideal S1024x1024 .bf16) (r : Fin 512) (j : Fin 1024) :
    k0_pay8 v16 v33 v35 v36 v40 v44 v71 (ix2 r j)
      = max (∑ k, k0_pay6 v16 v33 v35 v36 v40 v44 (ix2 r k) * v71 (ix2 k j)) 0 := by
  pointwise [k0_pay8]

theorem pay9_at (v43 : FVec Ideal S512x1024 .f32) (v58 : FVec Ideal S512x1024 .bf16) (v70 v75 : FVec Ideal S512x1024 .f32)
    (v78 v82 v89 v93 v100 : Vec Ideal S1024x1024 .bf16) (r : Fin 512) (j : Fin 1024) :
    k0_pay9 v43 v58 v70 v75 v78 v82 v89 v93 v100 (ix2 r j)
      = v43 (ix2 r j) +
      (v70 (ix2 r j) + ∑ x, v75 (ix2 r x) * v75 (ix2 r x) * v78 (ix2 x j) +
          ∑ x, max (∑ k, v58 (ix2 r k) * v82 (ix2 k x)) 0 * max (∑ k, v58 (ix2 r k) * v82 (ix2 k x)) 0 * v89 (ix2 x j) +
        ∑ x, max (∑ k, v58 (ix2 r k) * v93 (ix2 k x)) 0 * max (∑ k, v58 (ix2 r k) * v93 (ix2 k x)) 0 * v100 (ix2 x j)) := by
  pointwise [k0_pay9]

theorem pay10_at (v43 : FVec Ideal S512x1024 .f32) (v58 : FVec Ideal S512x1024 .bf16) (v70 v75 : FVec Ideal S512x1024 .f32)
    (v78 v82 v89 v93 v100 v106 : Vec Ideal S1024x1024 .bf16) (r : Fin 512) (j : Fin 1024) :
    k0_pay10 v43 v58 v70 v75 v78 v82 v89 v93 v100 v106 (ix2 r j)
      = Ideal.logistic (∑ x, k0_pay9 v43 v58 v70 v75 v78 v82 v89 v93 v100 (ix2 r x) * v106 (ix2 x j)) := by
  pointwise [k0_pay10]

theorem pay1_at (v104 v109 : FVec Ideal S512x1024 .f32) (v112 : FVec Ideal S512x256 .bf16) (v113 : Vec Ideal S256x1024 .bf16)
    (v116 : Vec Ideal S1x1024 .f32) (r : Fin 512) (j : Fin 1024) :
    k0_pay1 v104 v109 v112 v113 v116 (ix3 0 r j)
      = v104 (ix2 r j) + v109 (ix2 r j)
        * rms len1024 (fun j' => ∑ k, v112 (ix2 r k) * v113 (ix2 k j')) (fun k => v116 (ix2 0 k)) j := by
  pointwise [k0_pay1, rms, len1024]

/-! ## The body on a token -/

variable (x0 : Vec Ideal S1x512x1024 .f32) (x1 x2 : Vec Ideal S1x512x512 .f32) (x3 : Vec Ideal S1x512x256 .f32)
  (x4 x5 : Vec Ideal S1x512 .f32) (x6 : Vec Ideal S1024x1024 .bf16) (x7 : Vec Ideal S1x1024 .f32) (x8 : Vec Ideal S1024x4096 .bf16)
  (x9 : Vec Ideal S4096x1024 .bf16) (x10 : Vec Ideal S1024x1024 .bf16) (x11 : Vec Ideal S256x1024 .bf16) (x12 : Vec Ideal S1x1024 .f32)

/-- The first residual sum of a block's token. -/
abbrev blkMixed (r : Fin 512) : Fin 1024 → EReal :=
  mixed (fun j => x0 (ix3 0 r j)) (fun j => x1 (ix3 0 r j)) (fun j => x2 (ix3 0 r j)) (fun j => x4 (ix2 0 j)) (fun j => x5 (ix2 0 j))
    (fun i j => x6 (ix2 i j))

theorem ld0 : View.ld x1 r0_0 = x1 := by funext i; idx_vars i; obtain rfl : i0 = 0 := Subsingleton.elim _ _; pointwise []
theorem ld1 : View.ld x4 r0_1 = x4 := by funext i; idx_vars i; obtain rfl : i0 = 0 := Subsingleton.elim _ _; pointwise []
theorem ld2 : View.ld x0 r0_2 = x0 := by funext i; idx_vars i; obtain rfl : i0 = 0 := Subsingleton.elim _ _; pointwise []
theorem ld5 : View.ld x7 r0_5 = x7 := by funext i; idx_vars i; obtain rfl : i0 = 0 := Subsingleton.elim _ _; pointwise []

theorem mixed_at (r : Fin 512) (j : Fin 1024) :
    k0_pay15 x0 x1 x2 x3 x4 x5 x6 x7 x8 x9 x10 x11 x12 (ix2 r j) = blkMixed x0 x1 x2 x4 x5 x6 r j := by
  unfold k0_pay15 k0_pay12 k0_pay13 k0_pay14
  rw [pay5_at]
  simp only [pay2_at, pay3_at, pay4_at, ld0, ld1, ld2]
  pointwise []
  rw [add_assoc]
  rfl

theorem norm_at (r : Fin 512) (j : Fin 1024) :
    k0_pay16 x0 x1 x2 x3 x4 x5 x6 x7 x8 x9 x10 x11 x12 (ix2 r j)
      = rms len1024 (blkMixed x0 x1 x2 x4 x5 x6 r) (fun k => x7 (ix2 0 k)) j := by
  unfold k0_pay16
  rw [pay6_at, ld5]
  have h : (fun k => k0_pay5 (k0_pay12 x0 x1 x2 x3 x4 x5 x6 x7 x8 x9 x10 x11 x12) (k0_pay13 x0 x1 x2 x3 x4 x5 x6 x7 x8 x9 x10 x11 x12)
      (k0_pay14 x0 x1 x2 x3 x4 x5 x6 x7 x8 x9 x10 x11 x12) (View.ld x6 r0_3) (View.ld x6 r0_4) (ix2 r k))
      = blkMixed x0 x1 x2 x4 x5 x6 r := funext fun k => mixed_at x0 x1 x2 x3 x4 x5 x6 x7 x8 x9 x10 x11 x12 r k
  rw [h]

/-- The feed-forward hidden units of a block's token. -/
abbrev blkUnit (r : Fin 512) : Fin 4096 → EReal :=
  unit (rms len1024 (blkMixed x0 x1 x2 x4 x5 x6 r) (fun k => x7 (ix2 0 k))) (fun i j => x8 (ix2 i j))

theorem chunk0_at (r : Fin 512) (j : Fin 1024) :
    k0_pay17 x0 x1 x2 x3 x4 x5 x6 x7 x8 x9 x10 x11 x12 (ix2 r j)
      = ∑ f : Fin 1024, blkUnit x0 x1 x2 x4 x5 x6 x7 x8 r ⟨f, by omega⟩ * x9 (ix2 ⟨f, by omega⟩ j) := by
  unfold k0_pay17
  rw [pay7_at]
  have h := fun k => norm_at x0 x1 x2 x3 x4 x5 x6 x7 x8 x9 x10 x11 x12 r k
  unfold k0_pay16 at h
  simp only [h]
  pointwise []
  rfl

theorem relu1_at (r : Fin 512) (f : Fin 1024) :
    k0_pay18 x0 x1 x2 x3 x4 x5 x6 x7 x8 x9 x10 x11 x12 (ix2 r f)
      = max (∑ k, rms len1024 (blkMixed x0 x1 x2 x4 x5 x6 r) (fun k => x7 (ix2 0 k)) k * x8 (ix2 k ⟨1024 + f, by omega⟩)) 0 := by
  unfold k0_pay18
  rw [pay8_at]
  have h := fun k => norm_at x0 x1 x2 x3 x4 x5 x6 x7 x8 x9 x10 x11 x12 r k
  unfold k0_pay16 at h
  simp only [h]
  pointwise []

/-- The second residual sum of a block's token. -/
abbrev blkFed (r : Fin 512) : Fin 1024 → EReal :=
  fed (blkMixed x0 x1 x2 x4 x5 x6 r) (fun j => x7 (ix2 0 j)) (fun i j => x8 (ix2 i j)) (fun i j => x9 (ix2 i j))

theorem fed_at (r : Fin 512) (j : Fin 1024) :
    k0_pay9 (k0_pay15 x0 x1 x2 x3 x4 x5 x6 x7 x8 x9 x10 x11 x12) (k0_pay16 x0 x1 x2 x3 x4 x5 x6 x7 x8 x9 x10 x11 x12)
      (k0_pay17 x0 x1 x2 x3 x4 x5 x6 x7 x8 x9 x10 x11 x12) (k0_pay18 x0 x1 x2 x3 x4 x5 x6 x7 x8 x9 x10 x11 x12)
      (View.ld x9 r0_9) (View.ld x8 r0_10) (View.ld x9 r0_11) (View.ld x8 r0_12) (View.ld x9 r0_13) (ix2 r j)
      = blkFed x0 x1 x2 x4 x5 x6 x7 x8 x9 r j := by
  rw [pay9_at]
  simp only [mixed_at, norm_at, chunk0_at, relu1_at]
  pointwise []
  unfold blkFed fed ffn
  rw [sum_quarters]
  rfl

/-- What the body writes at a token is the tail of that token. -/
theorem row_at (r : Fin 512) (j : Fin 1024) :
    k0_pay1 (k0_pay9 (k0_pay15 x0 x1 x2 x3 x4 x5 x6 x7 x8 x9 x10 x11 x12) (k0_pay16 x0 x1 x2 x3 x4 x5 x6 x7 x8 x9 x10 x11 x12)
        (k0_pay17 x0 x1 x2 x3 x4 x5 x6 x7 x8 x9 x10 x11 x12) (k0_pay18 x0 x1 x2 x3 x4 x5 x6 x7 x8 x9 x10 x11 x12)
        (View.ld x9 r0_9) (View.ld x8 r0_10) (View.ld x9 r0_11) (View.ld x8 r0_12) (View.ld x9 r0_13))
      (k0_pay10 (k0_pay15 x0 x1 x2 x3 x4 x5 x6 x7 x8 x9 x10 x11 x12) (k0_pay16 x0 x1 x2 x3 x4 x5 x6 x7 x8 x9 x10 x11 x12)
        (k0_pay17 x0 x1 x2 x3 x4 x5 x6 x7 x8 x9 x10 x11 x12) (k0_pay18 x0 x1 x2 x3 x4 x5 x6 x7 x8 x9 x10 x11 x12)
        (View.ld x9 r0_9) (View.ld x8 r0_10) (View.ld x9 r0_11) (View.ld x8 r0_12) (View.ld x9 r0_13) x10)
      (k0_pay11 x3) x11 x12 (ix3 0 r j)
      = row (fun j => x0 (ix3 0 r j)) (fun j => x1 (ix3 0 r j)) (fun j => x2 (ix3 0 r j)) (fun j => x3 (ix3 0 r j))
          (fun j => x4 (ix2 0 j)) (fun j => x5 (ix2 0 j)) (fun i j => x6 (ix2 i j)) (fun j => x7 (ix2 0 j))
          (fun i j => x8 (ix2 i j)) (fun i j => x9 (ix2 i j)) (fun i j => x10 (ix2 i j)) (fun i j => x11 (ix2 i j))
          (fun j => x12 (ix2 0 j)) j := by
  rw [pay1_at, pay10_at]
  simp only [fed_at, pay11_at]
  rfl

end Cert.Kernel2Ideal.Tail

end
-- ==== Proof.Tail.Array.lean ====
/- What the tail kernel's result array holds: at every token, the tail of that token. -/
module

public import proofs.«01_k».proof.Proof.Tail.Block

@[expose] public section

set_option maxRecDepth 16384

noncomputable section

open Idealize.ShloMosaic Idealize.ShloMosaic.TcCoe Idealize.SL.Sem
open Idealize.ShloMosaic.Pipeline (Dat)

namespace Cert.Kernel2Ideal.Tail

open Cert.Kernel2Ideal Cert.Kernel2Ideal.Gen Cert.Tail

/-- The tail of token `r` of batch `b`. -/
def tailAt (x : Vec Ideal S4x8192x1024 .f32) (yh om : Vec Ideal S4x8192x512 .f32) (p : Vec Ideal S4x8192x256 .f32)
    (hnw mnw : Vec Ideal S512 .f32) (wo : Vec Ideal S1024x1024 .f32) (mlw : Vec Ideal S1024 .f32) (w1 : Vec Ideal S1024x4096 .f32)
    (w2 : Vec Ideal S4096x1024 .f32) (wg : Vec Ideal S1024x1024 .f32) (wp : Vec Ideal S256x1024 .f32) (pnw : Vec Ideal S1024 .f32)
    (b : Fin 4) (r : Fin 8192) : Fin 1024 → EReal :=
  row (fun j => x (ix3 b r j)) (fun j => yh (ix3 b r j)) (fun j => om (ix3 b r j)) (fun j => p (ix3 b r j))
    (fun j => hnw (ix1 j)) (fun j => mnw (ix1 j)) (fun i j => wo (ix2 i j)) (fun j => mlw (ix1 j)) (fun i j => w1 (ix2 i j))
    (fun i j => w2 (ix2 i j)) (fun i j => wg (ix2 i j)) (fun i j => wp (ix2 i j)) (fun j => pnw (ix1 j))

/-- The tail array. -/
def tailArr (x : Vec Ideal S4x8192x1024 .f32) (yh om : Vec Ideal S4x8192x512 .f32) (p : Vec Ideal S4x8192x256 .f32)
    (hnw mnw : Vec Ideal S512 .f32) (wo : Vec Ideal S1024x1024 .f32) (mlw : Vec Ideal S1024 .f32) (w1 : Vec Ideal S1024x4096 .f32)
    (w2 : Vec Ideal S4096x1024 .f32) (wg : Vec Ideal S1024x1024 .f32) (wp : Vec Ideal S256x1024 .f32) (pnw : Vec Ideal S1024 .f32) :
    Vec Ideal S4x8192x1024 .f32 :=
  fun i => tailAt x yh om p hnw mnw wo mlw w1 w2 wg wp pnw (i 0) (i 1) (i 2)

/-- Where each token window stands at a grid point: batch `t / 16`, row block `t % 16`. -/
theorem idx : ∀ t : Fin cfg0.N,
    win0_0.index t = ![t.val / 16, t.val % 16, 0] ∧ win0_1.index t = ![t.val / 16, t.val % 16, 0]
    ∧ win0_2.index t = ![t.val / 16, t.val % 16, 0] ∧ win0_3.index t = ![t.val / 16, t.val % 16, 0]
    ∧ win0_13.index t = ![t.val / 16, t.val % 16, 0] :=
  (by decide +kernel : ∀ t : Fin grid0.N,
    win0_0.index t = ![t.val / 16, t.val % 16, 0] ∧ win0_1.index t = ![t.val / 16, t.val % 16, 0]
    ∧ win0_2.index t = ![t.val / 16, t.val % 16, 0] ∧ win0_3.index t = ![t.val / 16, t.val % 16, 0]
    ∧ win0_13.index t = ![t.val / 16, t.val % 16, 0])

/-- Every weight window stands at the origin. -/
theorem idxw : ∀ t : Fin cfg0.N,
    win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0] :=
  (by decide +kernel : ∀ t : Fin grid0.N,
    win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0])

variable (m : (ℓ : Loc nD τ sig) → Buf (Elt Ideal) ℓ)

/-- The array of a device's arguments. -/
abbrev argTail (c : Dev nD) : Vec Ideal S4x8192x1024 .f32 :=
  tailArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12))

/-- Every window's block, read where the body reads it, is the argument there. -/
theorem blk0 (c : Dev nD) (t : Fin cfg0.N) (r : Fin 512) (j : Fin 1024) : iblk m c 0 t (ix3 0 r j)
    = m ((c : Thread nD τ).loc main_arg0) (ix3 ⟨t / 16, by have : t.val < 64 := t.isLt; omega⟩ ⟨512 * (t % 16) + r, by omega⟩ j) := by
  blk_ext [iblk, V, idx t]
theorem blk1 (c : Dev nD) (t : Fin cfg0.N) (r : Fin 512) (j : Fin 512) : iblk m c 1 t (ix3 0 r j)
    = m ((c : Thread nD τ).loc main_arg1) (ix3 ⟨t / 16, by have : t.val < 64 := t.isLt; omega⟩ ⟨512 * (t % 16) + r, by omega⟩ j) := by
  blk_ext [iblk, V, idx t]
theorem blk2 (c : Dev nD) (t : Fin cfg0.N) (r : Fin 512) (j : Fin 512) : iblk m c 2 t (ix3 0 r j)
    = m ((c : Thread nD τ).loc main_arg2) (ix3 ⟨t / 16, by have : t.val < 64 := t.isLt; omega⟩ ⟨512 * (t % 16) + r, by omega⟩ j) := by
  blk_ext [iblk, V, idx t]
theorem blk3 (c : Dev nD) (t : Fin cfg0.N) (r : Fin 512) (j : Fin 256) : iblk m c 3 t (ix3 0 r j)
    = m ((c : Thread nD τ).loc main_arg3) (ix3 ⟨t / 16, by have : t.val < 64 := t.isLt; omega⟩ ⟨512 * (t % 16) + r, by omega⟩ j) := by
  blk_ext [iblk, V, idx t]
theorem blk4 (c : Dev nD) (t : Fin cfg0.N) (j : Fin 512) : iblk m c 4 t (ix2 0 j) = m ((c : Thread nD τ).loc main_arg4) (ix1 j) := by
  blk_point [iblk, V, idxw t]
theorem blk5 (c : Dev nD) (t : Fin cfg0.N) (j : Fin 512) : iblk m c 5 t (ix2 0 j) = m ((c : Thread nD τ).loc main_arg5) (ix1 j) := by
  blk_point [iblk, V, idxw t]
theorem blk6 (c : Dev nD) (t : Fin cfg0.N) (i j : Fin 1024) : iblk m c 6 t (ix2 i j) = m ((c : Thread nD τ).loc main_arg6) (ix2 i j) := by
  blk_point [iblk, V, idxw t]
theorem blk7 (c : Dev nD) (t : Fin cfg0.N) (j : Fin 1024) : iblk m c 7 t (ix2 0 j) = m ((c : Thread nD τ).loc main_arg7) (ix1 j) := by
  blk_point [iblk, V, idxw t]
theorem blk8 (c : Dev nD) (t : Fin cfg0.N) (i : Fin 1024) (j : Fin 4096) :
    iblk m c 8 t (ix2 i j) = m ((c : Thread nD τ).loc main_arg8) (ix2 i j) := by
  blk_point [iblk, V, idxw t]
theorem blk9 (c : Dev nD) (t : Fin cfg0.N) (i : Fin 4096) (j : Fin 1024) :
    iblk m c 9 t (ix2 i j) = m ((c : Thread nD τ).loc main_arg9) (ix2 i j) := by
  blk_point [iblk, V, idxw t]
theorem blk10 (c : Dev nD) (t : Fin cfg0.N) (i j : Fin 1024) : iblk m c 10 t (ix2 i j) = m ((c : Thread nD τ).loc main_arg10) (ix2 i j) := by
  blk_point [iblk, V, idxw t]
theorem blk11 (c : Dev nD) (t : Fin cfg0.N) (i : Fin 256) (j : Fin 1024) :
    iblk m c 11 t (ix2 i j) = m ((c : Thread nD τ).loc main_arg11) (ix2 i j) := by
  blk_point [iblk, V, idxw t]
theorem blk12 (c : Dev nD) (t : Fin cfg0.N) (j : Fin 1024) : iblk m c 12 t (ix2 0 j) = m ((c : Thread nD τ).loc main_arg12) (ix1 j) := by
  blk_point [iblk, V, idxw t]

/-- The result array is the tail of the arguments, token by token. -/
theorem final (c : Dev nD) : (dats m 0 c).arrAt 13 cfg0.N = argTail m c := by
  refine (dats m 0 c).arrAt_eq_of_covers 13 _ (by decide +kernel) fun t hf y => ?_
  blk_simp
  rw [after0_13]
  frame_out
  revert y
  intro (y : S1x512x1024.Idx)
  idx_vars y
  have ht : t.val < 64 := t.isLt
  obtain rfl : y0 = 0 := Subsingleton.elim _ _
  have he : ((View.whole main_v9).slice (win0_13.rect t)).emb (ix3 0 y1 y2)
      = ix3 ⟨t / 16, by omega⟩ ⟨512 * (t % 16) + y1, by omega⟩ y2 := by
    blk_ext [idx t]
  rw [he]
  refine (row_at _ _ _ _ _ _ _ _ _ _ _ _ _ _ _).trans ?_
  exact congrFun (row_congr (funext fun j => blk0 m c t y1 j) (funext fun j => blk1 m c t y1 j) (funext fun j => blk2 m c t y1 j)
    (funext fun j => blk3 m c t y1 j) (funext fun j => blk4 m c t j) (funext fun j => blk5 m c t j)
    (funext fun i => funext fun j => blk6 m c t i j) (funext fun j => blk7 m c t j)
    (funext fun i => funext fun j => blk8 m c t i j) (funext fun i => funext fun j => blk9 m c t i j)
    (funext fun i => funext fun j => blk10 m c t i j) (funext fun i => funext fun j => blk11 m c t i j)
    (funext fun j => blk12 m c t j)) y2

end Cert.Kernel2Ideal.Tail

end
-- ==== Proof.Tail.Ref.lean ====
/- What the tail's reference computes: at every token, the tail of that token. -/
module

public import proofs.«01_k».proof.Proof.Gen.Reference2Ideal.Run
public import proofs.«01_k».proof.Proof.Tail.Array

@[expose] public section

set_option maxRecDepth 16384

noncomputable section

open Idealize.ShloMosaic Idealize.ShloMosaic.TcCoe Idealize.SL.Sem

namespace Cert.Reference2Ideal.Tail

open Cert.Reference2Ideal Cert.Reference2Ideal.Gen Cert.Tail
open Cert.Kernel2Ideal.Tail (tailAt tailArr)

/-! ## The stages of the reference -/

/-- The normalisation of a mixer's output. -/
def refNormY (x : FVec Ideal S4x8192x512 .f32) (w : FVec Ideal S512 .f32) : FVec Ideal S4x8192x512 .f32 :=
  mulf (mulf x (broadcastInDim S4x8192x512 ![0, 1, 2] bcast_S4x8192x1_S4x8192x512_0_1_2 (Host.rsqrt (addf (Host.divf
    (broadcastInDim S4x8192x1 ![0, 1] bcast_S4x8192_S4x8192x1_0_1 (Host.reduceAdd (mulf x x) (constant S_ .f32 0x00000000#32)
      reducesTo_S4x8192x512_S4x8192_d2 h_S_))
    (broadcastInDim S4x8192x1 ![] bcast_S_S4x8192x1 (constant S_ .f32 0x44000000#32)))
    (broadcastInDim S4x8192x1 ![] bcast_S_S4x8192x1 (constant S_ .f32 0x358637BD#32))))))
    (broadcastInDim S4x8192x512 ![0, 1, 2] bcast_S1x1x512_S4x8192x512_0_1_2 (broadcastInDim S1x1x512 ![2] bcast_S512_S1x1x512_2 w))

/-- The normalisation of a token. -/
def refNorm (x : FVec Ideal S4x8192x1024 .f32) (w : FVec Ideal S1024 .f32) : FVec Ideal S4x8192x1024 .f32 :=
  mulf (mulf x (broadcastInDim S4x8192x1024 ![0, 1, 2] bcast_S4x8192x1_S4x8192x1024_0_1_2 (Host.rsqrt (addf (Host.divf
    (broadcastInDim S4x8192x1 ![0, 1] bcast_S4x8192_S4x8192x1_0_1 (Host.reduceAdd (mulf x x) (constant S_ .f32 0x00000000#32)
      reducesTo_S4x8192x1024_S4x8192_d2 h_S_))
    (broadcastInDim S4x8192x1 ![] bcast_S_S4x8192x1 (constant S_ .f32 0x44800000#32)))
    (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 w))

/-- The first residual sum, of the two mixers side by side. -/
def refMix (x : FVec Ideal S4x8192x1024 .f32) (a b : FVec Ideal S4x8192x512 .f32) (wo : FVec Ideal S1024x1024 .f32) :
    FVec Ideal S4x8192x1024 .f32 :=
  addf x (Host.dotGeneral dot_S4x8192x1024_S1024x1024_S4x8192x1024_2_0_01_1_n_n none
    (concatenate S4x8192x1024 2 [⟨S4x8192x512, a⟩, ⟨S4x8192x512, b⟩] concatenates_S4x8192x512_S4x8192x512_S4x8192x1024_d2) wo)

/-- The feed-forward part's hidden layer. -/
def refHid (xn : FVec Ideal S4x8192x1024 .f32) (w1 : FVec Ideal S1024x4096 .f32) : FVec Ideal S4x8192x4096 .f32 :=
  maximumf (Host.dotGeneral dot_S4x8192x1024_S1024x4096_S4x8192x4096_2_0_01_1_n_n none xn w1)
    (broadcastInDim S4x8192x4096 ![] bcast_S_S4x8192x4096 (constant S_ .f32 0x00000000#32))

/-- The second residual sum, of the hidden layer squared. -/
def refFfn (x : FVec Ideal S4x8192x1024 .f32) (h : FVec Ideal S4x8192x4096 .f32) (w2 : FVec Ideal S4096x1024 .f32) :
    FVec Ideal S4x8192x1024 .f32 :=
  addf x (Host.dotGeneral dot_S4x8192x4096_S4096x1024_S4x8192x1024_2_0_01_1_n_n none (mulf h h) w2)

/-- The projection of the per-layer embedding. -/
def refProj (p : FVec Ideal S4x8192x256 .f32) (wp : FVec Ideal S256x1024 .f32) : FVec Ideal S4x8192x1024 .f32 :=
  Host.dotGeneral dot_S4x8192x256_S256x1024_S4x8192x1024_2_0_01_1_n_n none p wp

/-- The last sum: the gate on the embedding `e`. -/
def refGated (x : FVec Ideal S4x8192x1024 .f32) (wg : FVec Ideal S1024x1024 .f32) (e : FVec Ideal S4x8192x1024 .f32) :
    FVec Ideal S4x8192x1024 .f32 :=
  addf x (mulf (Host.divf (broadcastInDim S4x8192x1024 ![] bcast_S_S4x8192x1024 (constant S_ .f32 0x3F800000#32))
    (addf (broadcastInDim S4x8192x1024 ![] bcast_S_S4x8192x1024 (constant S_ .f32 0x3F800000#32))
      (Host.exp (Host.negf (Host.dotGeneral dot_S4x8192x1024_S1024x1024_S4x8192x1024_2_0_01_1_n_n none x wg))))) e)

/-- The first and the second residual sums of the arguments. -/
def refX1 (x : FVec Ideal S4x8192x1024 .f32) (yh om : FVec Ideal S4x8192x512 .f32) (hnw mnw : FVec Ideal S512 .f32)
    (wo : FVec Ideal S1024x1024 .f32) : FVec Ideal S4x8192x1024 .f32 :=
  refMix x (refNormY yh hnw) (refNormY om mnw) wo
def refX2 (x : FVec Ideal S4x8192x1024 .f32) (mlw : FVec Ideal S1024 .f32) (w1 : FVec Ideal S1024x4096 .f32)
    (w2 : FVec Ideal S4096x1024 .f32) : FVec Ideal S4x8192x1024 .f32 :=
  refFfn x (refHid (refNorm x mlw) w1) w2

/-- The reference. -/
def refTail (x : FVec Ideal S4x8192x1024 .f32) (yh om : FVec Ideal S4x8192x512 .f32) (p : FVec Ideal S4x8192x256 .f32)
    (hnw mnw : FVec Ideal S512 .f32) (wo : FVec Ideal S1024x1024 .f32) (mlw : FVec Ideal S1024 .f32) (w1 : FVec Ideal S1024x4096 .f32)
    (w2 : FVec Ideal S4096x1024 .f32) (wg : FVec Ideal S1024x1024 .f32) (wp : FVec Ideal S256x1024 .f32) (pnw : FVec Ideal S1024 .f32) :
    FVec Ideal S4x8192x1024 .f32 :=
  refGated (refX2 (refX1 x yh om hnw mnw wo) mlw w1 w2) wg (refNorm (refProj p wp) pnw)

/-! ## The stages at a token -/

theorem refNormY_at (x : FVec Ideal S4x8192x512 .f32) (w : FVec Ideal S512 .f32) (b : Fin 4) (r : Fin 8192) (j : Fin 512) :
    refNormY x w (ix3 b r j) = rms len512 (fun k => x (ix3 b r k)) (fun k => w (ix1 k)) j := by
  pointwise [refNormY, rms, len512]

theorem refNorm_at (x : FVec Ideal S4x8192x1024 .f32) (w : FVec Ideal S1024 .f32) (b : Fin 4) (r : Fin 8192) (j : Fin 1024) :
    refNorm x w (ix3 b r j) = rms len1024 (fun k => x (ix3 b r k)) (fun k => w (ix1 k)) j := by
  pointwise [refNorm, rms, len1024]

theorem refMix_at (x : FVec Ideal S4x8192x1024 .f32) (a b : FVec Ideal S4x8192x512 .f32) (wo : FVec Ideal S1024x1024 .f32)
    (n : Fin 4) (r : Fin 8192) (j : Fin 1024) :
    refMix x a b wo (ix3 n r j)
      = mix (fun k => x (ix3 n r k)) (fun k => a (ix3 n r k)) (fun k => b (ix3 n r k)) (fun i k => wo (ix2 i k)) j := by
  pointwise [refMix, mix]

theorem refHid_at (xn : FVec Ideal S4x8192x1024 .f32) (w1 : FVec Ideal S1024x4096 .f32) (b : Fin 4) (r : Fin 8192) (f : Fin 4096) :
    refHid xn w1 (ix3 b r f) = max (∑ k : Fin 1024, xn (ix3 b r k) * w1 (ix2 k f)) 0 := by
  pointwise [refHid]

theorem refFfn_at (x : FVec Ideal S4x8192x1024 .f32) (h : FVec Ideal S4x8192x4096 .f32) (w2 : FVec Ideal S4096x1024 .f32)
    (b : Fin 4) (r : Fin 8192) (j : Fin 1024) :
    refFfn x h w2 (ix3 b r j) = x (ix3 b r j) + ∑ f : Fin 4096, h (ix3 b r f) * h (ix3 b r f) * w2 (ix2 f j) := by
  pointwise [refFfn]

theorem refProj_at (p : FVec Ideal S4x8192x256 .f32) (wp : FVec Ideal S256x1024 .f32) (b : Fin 4) (r : Fin 8192) (j : Fin 1024) :
    refProj p wp (ix3 b r j) = ∑ k : Fin 256, p (ix3 b r k) * wp (ix2 k j) := by
  pointwise [refProj]

theorem refGated_at (x : FVec Ideal S4x8192x1024 .f32) (wg : FVec Ideal S1024x1024 .f32) (e : FVec Ideal S4x8192x1024 .f32)
    (b : Fin 4) (r : Fin 8192) (j : Fin 1024) :
    refGated x wg e (ix3 b r j)
      = x (ix3 b r j) + Ideal.logistic (∑ k : Fin 1024, x (ix3 b r k) * wg (ix2 k j)) * e (ix3 b r j) := by
  pointwise [refGated, Ideal.logistic]

/-- The reference's array is the tail of its arguments, token by token. -/
theorem ref_eq (x : FVec Ideal S4x8192x1024 .f32) (yh om : FVec Ideal S4x8192x512 .f32) (p : FVec Ideal S4x8192x256 .f32)
    (hnw mnw : FVec Ideal S512 .f32) (wo : FVec Ideal S1024x1024 .f32) (mlw : FVec Ideal S1024 .f32) (w1 : FVec Ideal S1024x4096 .f32)
    (w2 : FVec Ideal S4096x1024 .f32) (wg : FVec Ideal S1024x1024 .f32) (wp : FVec Ideal S256x1024 .f32) (pnw : FVec Ideal S1024 .f32) :
    refTail x yh om p hnw mnw wo mlw w1 w2 wg wp pnw = tailArr x yh om p hnw mnw wo mlw w1 w2 wg wp pnw := by
  funext i
  obtain ⟨b, r, j, rfl⟩ : ∃ (b : Fin 4) (r : Fin 8192) (j : Fin 1024), i = ix3 b r j := ⟨i 0, i 1, i 2, eq_ix3 i⟩
  show _ = tailAt x yh om p hnw mnw wo mlw w1 w2 wg wp pnw b r j
  have h1 : ∀ j, refX1 x yh om hnw mnw wo (ix3 b r j)
      = mixed (fun j => x (ix3 b r j)) (fun j => yh (ix3 b r j)) (fun j => om (ix3 b r j)) (fun j => hnw (ix1 j)) (fun j => mnw (ix1 j))
          (fun i j => wo (ix2 i j)) j := fun j => by
    rw [refX1, refMix_at]
    simp only [refNormY_at]
    rfl
  have h2 : ∀ j, refX2 (refX1 x yh om hnw mnw wo) mlw w1 w2 (ix3 b r j)
      = fed (mixed (fun j => x (ix3 b r j)) (fun j => yh (ix3 b r j)) (fun j => om (ix3 b r j)) (fun j => hnw (ix1 j))
          (fun j => mnw (ix1 j)) (fun i j => wo (ix2 i j))) (fun j => mlw (ix1 j)) (fun i j => w1 (ix2 i j)) (fun i j => w2 (ix2 i j)) j := fun j => by
    rw [refX2, refFfn_at]
    simp only [refHid_at, refNorm_at, h1]
    rfl
  rw [refTail, refGated_at, refNorm_at]
  simp only [h2, refProj_at]
  rfl

/-- Of the printed run: the result is the composition of the stages, the arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v69)
        = refTail (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10)) (m ((c.tc : Thread nD τ).loc main_arg11))
            (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  Cert.Reference2Ideal.Value.run (F := Ideal) m ρ

end Cert.Reference2Ideal.Tail

end
-- ==== Proof.Tail.Sample.lean ====
/- What the tail kernel's result array holds for the sample: at every token, the tail of that token. -/
module

public import proofs.«01_k».proof.Proof.Gen.Kernel3Ideal.Value
public import proofs.«01_k».proof.Proof.Tail.Array

@[expose] public section

set_option maxRecDepth 16384

noncomputable section

open Idealize.ShloMosaic Idealize.ShloMosaic.TcCoe Idealize.SL.Sem
open Idealize.ShloMosaic.Pipeline (Dat)

namespace Cert.Kernel3Ideal.Tail

open Cert.Kernel3Ideal Cert.Kernel3Ideal.Gen Cert.Tail

/-- The tail of token `r` of batch `b`. -/
def tailAt (x : Vec Ideal S8x2048x1024 .f32) (yh om : Vec Ideal S8x2048x512 .f32) (p : Vec Ideal S8x2048x256 .f32)
    (hnw mnw : Vec Ideal S512 .f32) (wo : Vec Ideal S1024x1024 .f32) (mlw : Vec Ideal S1024 .f32) (w1 : Vec Ideal S1024x4096 .f32)
    (w2 : Vec Ideal S4096x1024 .f32) (wg : Vec Ideal S1024x1024 .f32) (wp : Vec Ideal S256x1024 .f32) (pnw : Vec Ideal S1024 .f32)
    (b : Fin 8) (r : Fin 2048) : Fin 1024 → EReal :=
  row (fun j => x (ix3 b r j)) (fun j => yh (ix3 b r j)) (fun j => om (ix3 b r j)) (fun j => p (ix3 b r j))
    (fun j => hnw (ix1 j)) (fun j => mnw (ix1 j)) (fun i j => wo (ix2 i j)) (fun j => mlw (ix1 j)) (fun i j => w1 (ix2 i j))
    (fun i j => w2 (ix2 i j)) (fun i j => wg (ix2 i j)) (fun i j => wp (ix2 i j)) (fun j => pnw (ix1 j))

/-- The tail array. -/
def tailArr (x : Vec Ideal S8x2048x1024 .f32) (yh om : Vec Ideal S8x2048x512 .f32) (p : Vec Ideal S8x2048x256 .f32)
    (hnw mnw : Vec Ideal S512 .f32) (wo : Vec Ideal S1024x1024 .f32) (mlw : Vec Ideal S1024 .f32) (w1 : Vec Ideal S1024x4096 .f32)
    (w2 : Vec Ideal S4096x1024 .f32) (wg : Vec Ideal S1024x1024 .f32) (wp : Vec Ideal S256x1024 .f32) (pnw : Vec Ideal S1024 .f32) :
    Vec Ideal S8x2048x1024 .f32 :=
  fun i => tailAt x yh om p hnw mnw wo mlw w1 w2 wg wp pnw (i 0) (i 1) (i 2)

/-- Where each token window stands at a grid point: batch `t / 4`, row block `t % 4`. -/
theorem idx : ∀ t : Fin cfg0.N,
    win0_0.index t = ![t.val / 4, t.val % 4, 0] ∧ win0_1.index t = ![t.val / 4, t.val % 4, 0]
    ∧ win0_2.index t = ![t.val / 4, t.val % 4, 0] ∧ win0_3.index t = ![t.val / 4, t.val % 4, 0]
    ∧ win0_13.index t = ![t.val / 4, t.val % 4, 0] :=
  (by decide +kernel : ∀ t : Fin grid0.N,
    win0_0.index t = ![t.val / 4, t.val % 4, 0] ∧ win0_1.index t = ![t.val / 4, t.val % 4, 0]
    ∧ win0_2.index t = ![t.val / 4, t.val % 4, 0] ∧ win0_3.index t = ![t.val / 4, t.val % 4, 0]
    ∧ win0_13.index t = ![t.val / 4, t.val % 4, 0])

/-- Every weight window stands at the origin. -/
theorem idxw : ∀ t : Fin cfg0.N,
    win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0] :=
  (by decide +kernel : ∀ t : Fin grid0.N,
    win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0])

variable (m : (ℓ : Loc nD τ sig) → Buf (Elt Ideal) ℓ)

/-- The array of a device's arguments. -/
abbrev argTail (c : Dev nD) : Vec Ideal S8x2048x1024 .f32 :=
  tailArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12))

/-- Every window's block, read where the body reads it, is the argument there. -/
theorem blk0 (c : Dev nD) (t : Fin cfg0.N) (r : Fin 512) (j : Fin 1024) : iblk m c 0 t (ix3 0 r j)
    = m ((c : Thread nD τ).loc main_arg0) (ix3 ⟨t / 4, by have : t.val < 32 := t.isLt; omega⟩ ⟨512 * (t % 4) + r, by omega⟩ j) := by
  blk_ext [iblk, V, idx t]
theorem blk1 (c : Dev nD) (t : Fin cfg0.N) (r : Fin 512) (j : Fin 512) : iblk m c 1 t (ix3 0 r j)
    = m ((c : Thread nD τ).loc main_arg1) (ix3 ⟨t / 4, by have : t.val < 32 := t.isLt; omega⟩ ⟨512 * (t % 4) + r, by omega⟩ j) := by
  blk_ext [iblk, V, idx t]
theorem blk2 (c : Dev nD) (t : Fin cfg0.N) (r : Fin 512) (j : Fin 512) : iblk m c 2 t (ix3 0 r j)
    = m ((c : Thread nD τ).loc main_arg2) (ix3 ⟨t / 4, by have : t.val < 32 := t.isLt; omega⟩ ⟨512 * (t % 4) + r, by omega⟩ j) := by
  blk_ext [iblk, V, idx t]
theorem blk3 (c : Dev nD) (t : Fin cfg0.N) (r : Fin 512) (j : Fin 256) : iblk m c 3 t (ix3 0 r j)
    = m ((c : Thread nD τ).loc main_arg3) (ix3 ⟨t / 4, by have : t.val < 32 := t.isLt; omega⟩ ⟨512 * (t % 4) + r, by omega⟩ j) := by
  blk_ext [iblk, V, idx t]
theorem blk4 (c : Dev nD) (t : Fin cfg0.N) (j : Fin 512) : iblk m c 4 t (ix2 0 j) = m ((c : Thread nD τ).loc main_arg4) (ix1 j) := by
  blk_point [iblk, V, idxw t]
theorem blk5 (c : Dev nD) (t : Fin cfg0.N) (j : Fin 512) : iblk m c 5 t (ix2 0 j) = m ((c : Thread nD τ).loc main_arg5) (ix1 j) := by
  blk_point [iblk, V, idxw t]
theorem blk6 (c : Dev nD) (t : Fin cfg0.N) (i j : Fin 1024) : iblk m c 6 t (ix2 i j) = m ((c : Thread nD τ).loc main_arg6) (ix2 i j) := by
  blk_point [iblk, V, idxw t]
theorem blk7 (c : Dev nD) (t : Fin cfg0.N) (j : Fin 1024) : iblk m c 7 t (ix2 0 j) = m ((c : Thread nD τ).loc main_arg7) (ix1 j) := by
  blk_point [iblk, V, idxw t]
theorem blk8 (c : Dev nD) (t : Fin cfg0.N) (i : Fin 1024) (j : Fin 4096) :
    iblk m c 8 t (ix2 i j) = m ((c : Thread nD τ).loc main_arg8) (ix2 i j) := by
  blk_point [iblk, V, idxw t]
theorem blk9 (c : Dev nD) (t : Fin cfg0.N) (i : Fin 4096) (j : Fin 1024) :
    iblk m c 9 t (ix2 i j) = m ((c : Thread nD τ).loc main_arg9) (ix2 i j) := by
  blk_point [iblk, V, idxw t]
theorem blk10 (c : Dev nD) (t : Fin cfg0.N) (i j : Fin 1024) : iblk m c 10 t (ix2 i j) = m ((c : Thread nD τ).loc main_arg10) (ix2 i j) := by
  blk_point [iblk, V, idxw t]
theorem blk11 (c : Dev nD) (t : Fin cfg0.N) (i : Fin 256) (j : Fin 1024) :
    iblk m c 11 t (ix2 i j) = m ((c : Thread nD τ).loc main_arg11) (ix2 i j) := by
  blk_point [iblk, V, idxw t]
theorem blk12 (c : Dev nD) (t : Fin cfg0.N) (j : Fin 1024) : iblk m c 12 t (ix2 0 j) = m ((c : Thread nD τ).loc main_arg12) (ix1 j) := by
  blk_point [iblk, V, idxw t]

/-- The result array is the tail of the arguments, token by token. -/
theorem final (c : Dev nD) : (dats m 0 c).arrAt 13 cfg0.N = argTail m c := by
  refine (dats m 0 c).arrAt_eq_of_covers 13 _ (by decide +kernel) fun t hf y => ?_
  blk_simp
  rw [after0_13]
  frame_out
  revert y
  intro (y : S1x512x1024.Idx)
  idx_vars y
  have ht : t.val < 32 := t.isLt
  obtain rfl : y0 = 0 := Subsingleton.elim _ _
  have he : ((View.whole main_v9).slice (win0_13.rect t)).emb (ix3 0 y1 y2)
      = ix3 ⟨t / 4, by omega⟩ ⟨512 * (t % 4) + y1, by omega⟩ y2 := by
    blk_ext [idx t]
  rw [he]
  refine (Cert.Kernel2Ideal.Tail.row_at _ _ _ _ _ _ _ _ _ _ _ _ _ _ _).trans ?_
  exact congrFun (row_congr (funext fun j => blk0 m c t y1 j) (funext fun j => blk1 m c t y1 j) (funext fun j => blk2 m c t y1 j)
    (funext fun j => blk3 m c t y1 j) (funext fun j => blk4 m c t j) (funext fun j => blk5 m c t j)
    (funext fun i => funext fun j => blk6 m c t i j) (funext fun j => blk7 m c t j)
    (funext fun i => funext fun j => blk8 m c t i j) (funext fun i => funext fun j => blk9 m c t i j)
    (funext fun i => funext fun j => blk10 m c t i j) (funext fun i => funext fun j => blk11 m c t i j)
    (funext fun j => blk12 m c t j)) y2

end Cert.Kernel3Ideal.Tail

end
-- ==== Proof.Tail.SampleRef.lean ====
/- What the tail's reference computes for the sample: at every token, the tail of that token. -/
module

public import proofs.«01_k».proof.Proof.Gen.Reference3Ideal.Run
public import proofs.«01_k».proof.Proof.Tail.Sample

@[expose] public section

set_option maxRecDepth 16384

noncomputable section

open Idealize.ShloMosaic Idealize.ShloMosaic.TcCoe Idealize.SL.Sem

namespace Cert.Reference3Ideal.Tail

open Cert.Reference3Ideal Cert.Reference3Ideal.Gen Cert.Tail
open Cert.Kernel3Ideal.Tail (tailAt tailArr)

/-! ## The stages of the reference -/

/-- The normalisation of a mixer's output. -/
def refNormY (x : FVec Ideal S8x2048x512 .f32) (w : FVec Ideal S512 .f32) : FVec Ideal S8x2048x512 .f32 :=
  mulf (mulf x (broadcastInDim S8x2048x512 ![0, 1, 2] bcast_S8x2048x1_S8x2048x512_0_1_2 (Host.rsqrt (addf (Host.divf
    (broadcastInDim S8x2048x1 ![0, 1] bcast_S8x2048_S8x2048x1_0_1 (Host.reduceAdd (mulf x x) (constant S_ .f32 0x00000000#32)
      reducesTo_S8x2048x512_S8x2048_d2 h_S_))
    (broadcastInDim S8x2048x1 ![] bcast_S_S8x2048x1 (constant S_ .f32 0x44000000#32)))
    (broadcastInDim S8x2048x1 ![] bcast_S_S8x2048x1 (constant S_ .f32 0x358637BD#32))))))
    (broadcastInDim S8x2048x512 ![0, 1, 2] bcast_S1x1x512_S8x2048x512_0_1_2 (broadcastInDim S1x1x512 ![2] bcast_S512_S1x1x512_2 w))

/-- The normalisation of a token. -/
def refNorm (x : FVec Ideal S8x2048x1024 .f32) (w : FVec Ideal S1024 .f32) : FVec Ideal S8x2048x1024 .f32 :=
  mulf (mulf x (broadcastInDim S8x2048x1024 ![0, 1, 2] bcast_S8x2048x1_S8x2048x1024_0_1_2 (Host.rsqrt (addf (Host.divf
    (broadcastInDim S8x2048x1 ![0, 1] bcast_S8x2048_S8x2048x1_0_1 (Host.reduceAdd (mulf x x) (constant S_ .f32 0x00000000#32)
      reducesTo_S8x2048x1024_S8x2048_d2 h_S_))
    (broadcastInDim S8x2048x1 ![] bcast_S_S8x2048x1 (constant S_ .f32 0x44800000#32)))
    (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2] bcast_S1024_S1x1x1024_2 w))

/-- The first residual sum, of the two mixers side by side. -/
def refMix (x : FVec Ideal S8x2048x1024 .f32) (a b : FVec Ideal S8x2048x512 .f32) (wo : FVec Ideal S1024x1024 .f32) :
    FVec Ideal S8x2048x1024 .f32 :=
  addf x (Host.dotGeneral dot_S8x2048x1024_S1024x1024_S8x2048x1024_2_0_01_1_n_n none
    (concatenate S8x2048x1024 2 [⟨S8x2048x512, a⟩, ⟨S8x2048x512, b⟩] concatenates_S8x2048x512_S8x2048x512_S8x2048x1024_d2) wo)

/-- The feed-forward part's hidden layer. -/
def refHid (xn : FVec Ideal S8x2048x1024 .f32) (w1 : FVec Ideal S1024x4096 .f32) : FVec Ideal S8x2048x4096 .f32 :=
  maximumf (Host.dotGeneral dot_S8x2048x1024_S1024x4096_S8x2048x4096_2_0_01_1_n_n none xn w1)
    (broadcastInDim S8x2048x4096 ![] bcast_S_S8x2048x4096 (constant S_ .f32 0x00000000#32))

/-- The second residual sum, of the hidden layer squared. -/
def refFfn (x : FVec Ideal S8x2048x1024 .f32) (h : FVec Ideal S8x2048x4096 .f32) (w2 : FVec Ideal S4096x1024 .f32) :
    FVec Ideal S8x2048x1024 .f32 :=
  addf x (Host.dotGeneral dot_S8x2048x4096_S4096x1024_S8x2048x1024_2_0_01_1_n_n none (mulf h h) w2)

/-- The projection of the per-layer embedding. -/
def refProj (p : FVec Ideal S8x2048x256 .f32) (wp : FVec Ideal S256x1024 .f32) : FVec Ideal S8x2048x1024 .f32 :=
  Host.dotGeneral dot_S8x2048x256_S256x1024_S8x2048x1024_2_0_01_1_n_n none p wp

/-- The last sum: the gate on the embedding `e`. -/
def refGated (x : FVec Ideal S8x2048x1024 .f32) (wg : FVec Ideal S1024x1024 .f32) (e : FVec Ideal S8x2048x1024 .f32) :
    FVec Ideal S8x2048x1024 .f32 :=
  addf x (mulf (Host.divf (broadcastInDim S8x2048x1024 ![] bcast_S_S8x2048x1024 (constant S_ .f32 0x3F800000#32))
    (addf (broadcastInDim S8x2048x1024 ![] bcast_S_S8x2048x1024 (constant S_ .f32 0x3F800000#32))
      (Host.exp (Host.negf (Host.dotGeneral dot_S8x2048x1024_S1024x1024_S8x2048x1024_2_0_01_1_n_n none x wg))))) e)

/-- The first and the second residual sums of the arguments. -/
def refX1 (x : FVec Ideal S8x2048x1024 .f32) (yh om : FVec Ideal S8x2048x512 .f32) (hnw mnw : FVec Ideal S512 .f32)
    (wo : FVec Ideal S1024x1024 .f32) : FVec Ideal S8x2048x1024 .f32 :=
  refMix x (refNormY yh hnw) (refNormY om mnw) wo
def refX2 (x : FVec Ideal S8x2048x1024 .f32) (mlw : FVec Ideal S1024 .f32) (w1 : FVec Ideal S1024x4096 .f32)
    (w2 : FVec Ideal S4096x1024 .f32) : FVec Ideal S8x2048x1024 .f32 :=
  refFfn x (refHid (refNorm x mlw) w1) w2

/-- The reference. -/
def refTail (x : FVec Ideal S8x2048x1024 .f32) (yh om : FVec Ideal S8x2048x512 .f32) (p : FVec Ideal S8x2048x256 .f32)
    (hnw mnw : FVec Ideal S512 .f32) (wo : FVec Ideal S1024x1024 .f32) (mlw : FVec Ideal S1024 .f32) (w1 : FVec Ideal S1024x4096 .f32)
    (w2 : FVec Ideal S4096x1024 .f32) (wg : FVec Ideal S1024x1024 .f32) (wp : FVec Ideal S256x1024 .f32) (pnw : FVec Ideal S1024 .f32) :
    FVec Ideal S8x2048x1024 .f32 :=
  refGated (refX2 (refX1 x yh om hnw mnw wo) mlw w1 w2) wg (refNorm (refProj p wp) pnw)

/-! ## The stages at a token -/

theorem refNormY_at (x : FVec Ideal S8x2048x512 .f32) (w : FVec Ideal S512 .f32) (b : Fin 8) (r : Fin 2048) (j : Fin 512) :
    refNormY x w (ix3 b r j) = rms len512 (fun k => x (ix3 b r k)) (fun k => w (ix1 k)) j := by
  pointwise [refNormY, rms, len512]

theorem refNorm_at (x : FVec Ideal S8x2048x1024 .f32) (w : FVec Ideal S1024 .f32) (b : Fin 8) (r : Fin 2048) (j : Fin 1024) :
    refNorm x w (ix3 b r j) = rms len1024 (fun k => x (ix3 b r k)) (fun k => w (ix1 k)) j := by
  pointwise [refNorm, rms, len1024]

theorem refMix_at (x : FVec Ideal S8x2048x1024 .f32) (a b : FVec Ideal S8x2048x512 .f32) (wo : FVec Ideal S1024x1024 .f32)
    (n : Fin 8) (r : Fin 2048) (j : Fin 1024) :
    refMix x a b wo (ix3 n r j)
      = mix (fun k => x (ix3 n r k)) (fun k => a (ix3 n r k)) (fun k => b (ix3 n r k)) (fun i k => wo (ix2 i k)) j := by
  pointwise [refMix, mix]

theorem refHid_at (xn : FVec Ideal S8x2048x1024 .f32) (w1 : FVec Ideal S1024x4096 .f32) (b : Fin 8) (r : Fin 2048) (f : Fin 4096) :
    refHid xn w1 (ix3 b r f) = max (∑ k : Fin 1024, xn (ix3 b r k) * w1 (ix2 k f)) 0 := by
  pointwise [refHid]

theorem refFfn_at (x : FVec Ideal S8x2048x1024 .f32) (h : FVec Ideal S8x2048x4096 .f32) (w2 : FVec Ideal S4096x1024 .f32)
    (b : Fin 8) (r : Fin 2048) (j : Fin 1024) :
    refFfn x h w2 (ix3 b r j) = x (ix3 b r j) + ∑ f : Fin 4096, h (ix3 b r f) * h (ix3 b r f) * w2 (ix2 f j) := by
  pointwise [refFfn]

theorem refProj_at (p : FVec Ideal S8x2048x256 .f32) (wp : FVec Ideal S256x1024 .f32) (b : Fin 8) (r : Fin 2048) (j : Fin 1024) :
    refProj p wp (ix3 b r j) = ∑ k : Fin 256, p (ix3 b r k) * wp (ix2 k j) := by
  pointwise [refProj]

theorem refGated_at (x : FVec Ideal S8x2048x1024 .f32) (wg : FVec Ideal S1024x1024 .f32) (e : FVec Ideal S8x2048x1024 .f32)
    (b : Fin 8) (r : Fin 2048) (j : Fin 1024) :
    refGated x wg e (ix3 b r j)
      = x (ix3 b r j) + Ideal.logistic (∑ k : Fin 1024, x (ix3 b r k) * wg (ix2 k j)) * e (ix3 b r j) := by
  pointwise [refGated, Ideal.logistic]

/-- The reference's array is the tail of its arguments, token by token. -/
theorem ref_eq (x : FVec Ideal S8x2048x1024 .f32) (yh om : FVec Ideal S8x2048x512 .f32) (p : FVec Ideal S8x2048x256 .f32)
    (hnw mnw : FVec Ideal S512 .f32) (wo : FVec Ideal S1024x1024 .f32) (mlw : FVec Ideal S1024 .f32) (w1 : FVec Ideal S1024x4096 .f32)
    (w2 : FVec Ideal S4096x1024 .f32) (wg : FVec Ideal S1024x1024 .f32) (wp : FVec Ideal S256x1024 .f32) (pnw : FVec Ideal S1024 .f32) :
    refTail x yh om p hnw mnw wo mlw w1 w2 wg wp pnw = tailArr x yh om p hnw mnw wo mlw w1 w2 wg wp pnw := by
  funext i
  obtain ⟨b, r, j, rfl⟩ : ∃ (b : Fin 8) (r : Fin 2048) (j : Fin 1024), i = ix3 b r j := ⟨i 0, i 1, i 2, eq_ix3 i⟩
  show _ = tailAt x yh om p hnw mnw wo mlw w1 w2 wg wp pnw b r j
  have h1 : ∀ j, refX1 x yh om hnw mnw wo (ix3 b r j)
      = mixed (fun j => x (ix3 b r j)) (fun j => yh (ix3 b r j)) (fun j => om (ix3 b r j)) (fun j => hnw (ix1 j)) (fun j => mnw (ix1 j))
          (fun i j => wo (ix2 i j)) j := fun j => by
    rw [refX1, refMix_at]
    simp only [refNormY_at]
    rfl
  have h2 : ∀ j, refX2 (refX1 x yh om hnw mnw wo) mlw w1 w2 (ix3 b r j)
      = fed (mixed (fun j => x (ix3 b r j)) (fun j => yh (ix3 b r j)) (fun j => om (ix3 b r j)) (fun j => hnw (ix1 j))
          (fun j => mnw (ix1 j)) (fun i j => wo (ix2 i j))) (fun j => mlw (ix1 j)) (fun i j => w1 (ix2 i j)) (fun i j => w2 (ix2 i j)) j := fun j => by
    rw [refX2, refFfn_at]
    simp only [refHid_at, refNorm_at, h1]
    rfl
  rw [refTail, refGated_at, refNorm_at]
  simp only [h2, refProj_at]
  rfl

/-- Of the printed run: the result is the composition of the stages, the arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v69)
        = refTail (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10)) (m ((c.tc : Thread nD τ).loc main_arg11))
            (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  Cert.Reference3Ideal.Value.run (F := Ideal) m ρ

end Cert.Reference3Ideal.Tail

end
-- ==== Proof.Tail.Claim.lean ====
/- The tail kernel and its reference compute the same array, at the prompt's shapes and at the sample's. -/
module

public import proofs.«01_k».proof.Defs
public import proofs.«01_k».proof.Proof.Gen.Kernel2Ideal.Value
public import proofs.«01_k».proof.Proof.Gen.Reference2Ideal.Run
public import proofs.«01_k».proof.Proof.Tail.Ref
public import proofs.«01_k».proof.Proof.Gen.Kernel3Ideal.Value
public import proofs.«01_k».proof.Proof.Gen.Reference3Ideal.Run
public import proofs.«01_k».proof.Proof.Tail.SampleRef

@[expose] public section

set_option maxRecDepth 16384

noncomputable section

open Idealize.ShloMosaic Idealize.ShloMosaic.TcCoe Idealize.SL.Sem

namespace Cert.Tail

/-- The value claim of the tail. -/
theorem algebraic : Cert.algebraic_Kernel2Ideal_Reference2Ideal := by
  intro m ρ m' ρ' _ hagree
  refine ⟨fun c => (Cert.Kernel2Ideal.Gen.dats m 0 c).arrAt 13 Cert.Kernel2Ideal.cfg0.N,
    Cert.Kernel2Ideal.Value.run_blocks m ρ,
    (θ_run _ _ _).mono (fun _ h c => ⟨(h c).1.trans (Eq.trans ?_ (Cert.Kernel2Ideal.Tail.final m c).symm), (h c).2⟩)
      (Cert.Reference2Ideal.Tail.run m' ρ')⟩
  obtain ⟨h0, h1, h2, h3, h4, h5, h6, h7, h8, h9, h10, h11, h12⟩ := hagree c
  rw [h0, h1, h2, h3, h4, h5, h6, h7, h8, h9, h10, h11, h12]
  exact Cert.Reference2Ideal.Tail.ref_eq _ _ _ _ _ _ _ _ _ _ _ _ _

/-- The value claim of the tail at the sample's shapes. -/
theorem algebraicSample : Cert.algebraic_Kernel3Ideal_Reference3Ideal := by
  intro m ρ m' ρ' _ hagree
  refine ⟨fun c => (Cert.Kernel3Ideal.Gen.dats m 0 c).arrAt 13 Cert.Kernel3Ideal.cfg0.N,
    Cert.Kernel3Ideal.Value.run_blocks m ρ,
    (θ_run _ _ _).mono (fun _ h c => ⟨(h c).1.trans (Eq.trans ?_ (Cert.Kernel3Ideal.Tail.final m c).symm), (h c).2⟩)
      (Cert.Reference3Ideal.Tail.run m' ρ')⟩
  obtain ⟨h0, h1, h2, h3, h4, h5, h6, h7, h8, h9, h10, h11, h12⟩ := hagree c
  rw [h0, h1, h2, h3, h4, h5, h6, h7, h8, h9, h10, h11, h12]
  exact Cert.Reference3Ideal.Tail.ref_eq _ _ _ _ _ _ _ _ _ _ _ _ _

end Cert.Tail

end
-- ==== Proof.Inproj.Row.lean ====
/- The input projection on one token: rows of extended reals, without tiles, blocks or formats. -/
module

public import proofs.«01_k».proof.Proof.Tail.Row

@[expose] public section

noncomputable section

open Idealize.ShloMosaic

namespace Cert.Inproj

open Cert.Tail (rms len1024)

/-- The printed lengths 96, 128 and 256, and the queries' scale. -/
def len96 : EReal := Ideal.ofBits FTy.f32 0x42C00000#32
def len128 : EReal := Ideal.ofBits FTy.f32 0x43000000#32
def len256 : EReal := Ideal.ofBits FTy.f32 0x43800000#32
def scale : EReal := Ideal.ofBits FTy.f32 0x3DD105EC#32

/-- A row, normalised with the weight `g`, times a column. -/
def through {n : Nat} (cnt : EReal) (x g w : Fin n → EReal) : EReal := ∑ k, rms cnt x g k * w k

/-- A head's 96 places on 128 lanes, the last 32 of them zero. -/
def lanes (f : Fin 96 → EReal) (l : Fin 128) : EReal := if h : l.val < 96 then f ⟨l, h⟩ else 0

/-- A row of the cosine table: one on the first 64 lanes, the cosines twice, zero. -/
def cosLanes (cs : Fin 16 → EReal) (l : Fin 128) : EReal :=
  if h0 : l.val < 64 then 1 else if h1 : l.val < 80 then cs ⟨l - 64, by omega⟩ else if h2 : l.val < 96 then cs ⟨l - 80, by omega⟩ else 0

/-- A row of the sine table: zero on the first 64 lanes, the negated sines, the sines, zero. -/
def sinLanes (sn : Fin 16 → EReal) (l : Fin 128) : EReal :=
  if h0 : l.val < 64 then 0 else if h1 : l.val < 80 then - sn ⟨l - 64, by omega⟩ else if h2 : l.val < 96 then sn ⟨l - 80, by omega⟩ else 0

/-- The rotary embedding of a head: the first 64 places stay, the two halves of the last 32 are rotated. -/
def rope (y : Fin 96 → EReal) (cs sn : Fin 16 → EReal) (l : Fin 96) : EReal :=
  if h0 : l.val < 64 then y l
  else if h1 : l.val < 80 then y l * cs ⟨l - 64, by omega⟩ - y ⟨l + 16, by omega⟩ * sn ⟨l - 64, by omega⟩
  else y ⟨l - 16, by omega⟩ * sn ⟨l - 80, by omega⟩ + y l * cs ⟨l - 80, by omega⟩

/-- A head on 128 lanes as the kernel has it: normalised, then each lane and a lane 16 away, weighted by the two tables. -/
def normRope (x w cs sn : Fin 128 → EReal) (l : Fin 128) : EReal :=
  rms len96 x w l * cs l
    + Scalar.select (IntOp.cmpi CmpIPredicate.slt (BitVec.ofNat 32 l) 80#32) (rms len96 x w ⟨(l + 128 - 112) % 128, by omega⟩)
        (rms len96 x w ⟨(l + 128 - 16) % 128, by omega⟩) * sn l

/-- The lanes below 80 take the first of the two. -/
theorem pick (l : Fin 128) (a b : EReal) :
    Scalar.select (IntOp.cmpi CmpIPredicate.slt (BitVec.ofNat 32 l) 80#32) a b = if l.val < 80 then a else b := by
  have h : ∀ l : Fin 128, IntOp.cmpi CmpIPredicate.slt (BitVec.ofNat 32 l) 80#32 = if l.val < 80 then 1#1 else 0#1 := by decide
  rw [h]
  split_ifs <;> rfl

/-- The norm of a padded head is the padded norm of the head. -/
theorem rms_lanes (x w : Fin 96 → EReal) (l : Fin 128) : rms len96 (lanes x) (lanes w) l = lanes (rms len96 x w) l := by
  have hs : ∑ k, lanes x k * lanes x k = ∑ k, x k * x k := by
    rw [Fin.sum_univ_two_halves 96 32 rfl]
    have h1 : ∑ k : Fin 32, lanes x ⟨96 + k, by omega⟩ * lanes x ⟨96 + k, by omega⟩ = 0 :=
      Finset.sum_eq_zero fun k _ => by simp [lanes]
    have h0 : ∑ k : Fin 96, lanes x ⟨k, by omega⟩ * lanes x ⟨k, by omega⟩ = ∑ k, x k * x k :=
      Finset.sum_congr rfl fun k _ => by simp [lanes]
    exact (congrArg₂ (· + ·) h0 h1).trans (add_zero _)
  unfold rms
  rw [hs]
  by_cases h : l.val < 96
  · simp [lanes, h]
  · simp [lanes, h]

/-- The kernel's head on padded rows and tables is the padded rotary embedding of the normalised head. -/
theorem normRope_lanes (x w : Fin 96 → EReal) (cs sn : Fin 16 → EReal) (l : Fin 128) :
    normRope (lanes x) (lanes w) (cosLanes cs) (sinLanes sn) l = lanes (rope (rms len96 x w) cs sn) l := by
  unfold normRope
  rw [pick]
  simp only [rms_lanes]
  generalize rms len96 x w = y
  by_cases h0 : l.val < 64
  · have h1 : l.val < 96 := by omega
    simp [lanes, rope, cosLanes, sinLanes, h0, h1]
  · by_cases h1 : l.val < 80
    · have h2 : l.val < 96 := by omega
      have h3 : (l.val + 128 - 112) % 128 = l.val + 16 := by omega
      have h4 : l.val + 16 < 96 := by omega
      simp only [lanes, rope, cosLanes, sinLanes, h0, h1, h2, h3, h4, dif_pos, dif_neg, not_false_eq_true, if_true, mul_neg, sub_eq_add_neg]
    · by_cases h2 : l.val < 96
      · have h3 : (l.val + 128 - 16) % 128 = l.val - 16 := by omega
        have h4 : l.val - 16 < 96 := by omega
        simp only [lanes, rope, cosLanes, sinLanes, h0, h1, h2, h3, h4, dif_pos, dif_neg, not_false_eq_true, if_false]
        exact add_comm _ _
      · simp [lanes, cosLanes, sinLanes, h0, h1, h2]

/-- The same with the rows and tables given lane by lane. -/
theorem normRope_of {x w cs sn : Fin 128 → EReal} {x' w' : Fin 96 → EReal} {cs' sn' : Fin 16 → EReal} (hx : ∀ j, x j = lanes x' j)
    (hw : ∀ j, w j = lanes w' j) (hc : ∀ j, cs j = cosLanes cs' j) (hs : ∀ j, sn j = sinLanes sn' j) (l : Fin 128) :
    normRope x w cs sn l = lanes (rope (rms len96 x' w') cs' sn') l := by
  obtain rfl : x = lanes x' := funext hx
  obtain rfl : w = lanes w' := funext hw
  obtain rfl : cs = cosLanes cs' := funext hc
  obtain rfl : sn = sinLanes sn' := funext hs
  exact normRope_lanes _ _ _ _ _

/-- The first product of a token: its normalised row `x` times the projection. -/
def proj (x g : Fin 1024 → EReal) (W : Fin 1024 → Fin 1952 → EReal) (c : Fin 1952) : EReal := through len1024 x g (fun k => W k c)

/-- A head of the queries: the normalised latent row times the head's 96 columns. -/
def qHead (p : Fin 1952 → EReal) (g : Fin 256 → EReal) (W : Fin 256 → Fin 768 → EReal) (h : Fin 8) (l : Fin 96) : EReal :=
  through len256 (fun k => p ⟨1536 + k, by omega⟩) g (fun k => W k ⟨96 * h + l, by omega⟩)

/-- A column of the keys and values: the normalised latent row times that column. -/
def kvCol (p : Fin 1952 → EReal) (g : Fin 128 → EReal) (W : Fin 128 → Fin 1024 → EReal) (c : Fin 1024) : EReal :=
  through len128 (fun k => p ⟨1792 + k, by omega⟩) g (fun k => W k c)

/-- A head of the keys: 64 columns of its own and the 32 that all heads share. -/
def kHead (p : Fin 1952 → EReal) (kv : Fin 1024 → EReal) (h : Fin 8) (l : Fin 96) : EReal :=
  if hl : l.val < 64 then kv ⟨128 * h + l, by omega⟩ else p ⟨1920 + (l - 64), by omega⟩

/-- The four results of a token, by their columns, from its first product `p`: the streams, the queries, the keys, the values. -/
def hyTok (p : Fin 1952 → EReal) (c : Fin 1536) : EReal := p ⟨c, by omega⟩
def qTok (p : Fin 1952 → EReal) (g : Fin 256 → EReal) (W : Fin 256 → Fin 768 → EReal) (w : Fin 96 → EReal) (cs sn : Fin 16 → EReal)
    (c : Fin 1024) : EReal :=
  lanes (rope (rms len96 (qHead p g W ⟨c / 128, by omega⟩) w) cs sn) ⟨c % 128, by omega⟩ * scale
def kTok (p : Fin 1952 → EReal) (g : Fin 128 → EReal) (W : Fin 128 → Fin 1024 → EReal) (w : Fin 96 → EReal) (cs sn : Fin 16 → EReal)
    (c : Fin 1024) : EReal :=
  lanes (rope (rms len96 (kHead p (kvCol p g W) ⟨c / 128, by omega⟩) w) cs sn) ⟨c % 128, by omega⟩
def vTok (p : Fin 1952 → EReal) (g : Fin 128 → EReal) (W : Fin 128 → Fin 1024 → EReal) (c : Fin 512) : EReal :=
  kvCol p g W ⟨128 * (c / 64) + (64 + c % 64), by omega⟩

/-- The integer zero that fills a pad is the real zero. -/
theorem fill_zero : (FloatOps.sitofp FTy.f32 0#32 : Ideal FTy.f32) = (0 : EReal) := by
  show (((0#32 : BitVec 32).toInt : ℝ) : EReal) = 0
  simp

/-- A factor goes through the padding. -/
theorem lanes_mul (f : Fin 96 → EReal) (s : EReal) (l : Fin 128) : lanes (fun k => f k * s) l = lanes f l * s := by
  unfold lanes
  split_ifs
  · rfl
  · exact (zero_mul s).symm

/-- Against a column of zeros a row gives zero. -/
theorem through_zero {n : Nat} (cnt : EReal) (x g : Fin n → EReal) : through cnt x g (fun _ => 0) = 0 :=
  Finset.sum_eq_zero fun k _ => mul_zero _

end Cert.Inproj

end
-- ==== Proof.Inproj.Prepared.lean ====
/- The arrays that the host prepares for the input projection: the weights laid out for 128 lanes a head, the rotary tables. -/
module

public import proofs.«01_k».proof.Proof.Gen.Kernel4Ideal.Value
public import proofs.«01_k».proof.Proof.Inproj.Row
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel4Ideal.Inproj

open Cert.Kernel4Ideal Cert.Kernel4Ideal.Gen Cert.Inproj

/-! ## The prepared arrays, as functions of the arguments -/

/-- Four arrays of 2048 columns side by side, cast. -/
def cat4 (a : FVec Ideal S1024x1920 .f32) (b : FVec Ideal S1024x64 .f32) (d e : FVec Ideal S1024x32 .f32) : FVec Ideal S1024x2048 .bf16 :=
  truncf .bf16 (concatenate S1024x2048 1 [⟨S1024x1920, a⟩, ⟨S1024x64, b⟩, ⟨S1024x32, d⟩, ⟨S1024x32, e⟩]
    concatenates_S1024x1920_S1024x64_S1024x32_S1024x32_S1024x2048_d1) bitsLt_bf16_f32

/-- The input weights, the rotary part moved to the lanes 64 to 95 of a head of its own. -/
def hWin (w : FVec Ideal S1024x1952 .f32) : FVec Ideal S1024x2048 .bf16 :=
  cat4 (extractStridedSlice S1024x1920 ![0, 0] w slices_S1024x1952_S1024x1920_0_0)
    (broadcastInDim S1024x64 ![] bcast_S_S1024x64 (constant S_ .f32 0x00000000#32))
    (extractStridedSlice S1024x32 ![0, 1920] w slices_S1024x1952_S1024x32_0_1920)
    (broadcastInDim S1024x32 ![] bcast_S_S1024x32 (constant S_ .f32 0x00000000#32))

/-- The queries' weights, each head padded to 128 lanes. -/
def hWqb (w : FVec Ideal S256x768 .f32) : FVec Ideal S256x1024 .bf16 :=
  truncf .bf16 (shapeCast S256x1024 (pad S256x8x128 ![0, 0, 0] ![0, 0, 32] ![0, 0, 0] (shapeCast S256x8x96 w shapeCasts_S256x768_S256x8x96)
    (sitofp .f32 (constantI S_ 32 0#32)) pads_S256x8x96_S256x8x128_000_000_0320 h_S_ : FVec Ideal S256x8x128 .f32) shapeCasts_S256x8x128_S256x1024) bitsLt_bf16_f32

/-- The keys' and values' weights: each head's keys padded to 128 lanes, then the values of all heads. -/
def hWkvb (w : FVec Ideal S128x1024 .f32) : FVec Ideal S128x1536 .bf16 :=
  truncf .bf16 (concatenate S128x1536 1
    [⟨S128x1024, (shapeCast S128x1024 (pad S128x8x128 ![0, 0, 0] ![0, 0, 64] ![0, 0, 0]
        (shapeCast S128x8x64 (shapeCast S128x512 (extractStridedSlice S128x8x64 ![0, 0, 0] (shapeCast S128x8x128 w shapeCasts_S128x1024_S128x8x128)
          slices_S128x8x128_S128x8x64_0_0_0) shapeCasts_S128x8x64_S128x512) shapeCasts_S128x512_S128x8x64)
        (sitofp .f32 (constantI S_ 32 0#32)) pads_S128x8x64_S128x8x128_000_000_0640 h_S_ : FVec Ideal S128x8x128 .f32)
        shapeCasts_S128x8x128_S128x1024 : FVec Ideal S128x1024 .f32)⟩,
     ⟨S128x512, (shapeCast S128x512 (extractStridedSlice S128x8x64 ![0, 0, 64] (shapeCast S128x8x128 w shapeCasts_S128x1024_S128x8x128)
        slices_S128x8x128_S128x8x64_0_0_64) shapeCasts_S128x8x64_S128x512 : FVec Ideal S128x512 .f32)⟩]
    concatenates_S128x1024_S128x512_S128x1536_d1) bitsLt_bf16_f32

/-- A head's norm weights, padded to 128 lanes. -/
def hPadw (w : FVec Ideal S96 .f32) : FVec Ideal S1x128 .f32 :=
  broadcastInDim S1x128 ![1] bcast_S128_S1x128_1
    (pad S128 ![0] ![32] ![0] w (sitofp .f32 (constantI S_ 32 0#32)) pads_S96_S128_0320 h_S_ : FVec Ideal S128 .f32)

/-- The rotary angles: position by inverse frequency. -/
def hAng : FVec Ideal S8192x16 .f32 :=
  mulf (broadcastInDim S8192x16 ![0, 1] bcast_S8192x1_S8192x16_0_1 (broadcastInDim S8192x1 ![0] bcast_S8192_S8192x1_0 (sitofp .f32 (iotaInDim S8192 32 0))))
    (broadcastInDim S8192x16 ![0, 1] bcast_S1x16_S8192x16_0_1 (broadcastInDim S1x16 ![1] bcast_S16_S1x16_1
      (Host.powf (broadcastInDim S16 ![] bcast_S_S16 (constant S_ .f32 0x461C4000#32))
        (Host.divf (Host.negf (mulf (broadcastInDim S16 ![] bcast_S_S16 (constant S_ .f32 0x40000000#32)) (sitofp .f32 (iotaInDim S16 32 0))))
          (broadcastInDim S16 ![] bcast_S_S16 (constant S_ .f32 0x42000000#32))))))

/-- Four parts of a table of 128 lanes, side by side. -/
def tab4 (a : FVec Ideal S8192x64 .f32) (b d : FVec Ideal S8192x16 .f32) (e : FVec Ideal S8192x32 .f32) : FVec Ideal S8192x128 .f32 :=
  concatenate S8192x128 1 [⟨S8192x64, a⟩, ⟨S8192x16, b⟩, ⟨S8192x16, d⟩, ⟨S8192x32, e⟩]
    concatenates_S8192x64_S8192x16_S8192x16_S8192x32_S8192x128_d1

/-- The cosine table: one on the first 64 lanes, the cosines twice, zero. -/
def hCos : FVec Ideal S8192x128 .f32 :=
  tab4 (broadcastInDim S8192x64 ![] bcast_S_S8192x64 (constant S_ .f32 0x3F800000#32)) (Host.cos hAng) (Host.cos hAng)
    (broadcastInDim S8192x32 ![] bcast_S_S8192x32 (constant S_ .f32 0x00000000#32))

/-- The sine table: zero on the first 64 lanes, the negated sines, the sines, zero. -/
def hSin : FVec Ideal S8192x128 .f32 :=
  tab4 (mulf (broadcastInDim S8192x64 ![] bcast_S_S8192x64 (constant S_ .f32 0x00000000#32))
      (broadcastInDim S8192x64 ![] bcast_S_S8192x64 (constant S_ .f32 0x3F800000#32))) (Host.negf (Host.sin hAng)) (Host.sin hAng)
    (broadcastInDim S8192x32 ![] bcast_S_S8192x32 (constant S_ .f32 0x00000000#32))

/-! ## The host computes them -/

section entry

variable (m : (ℓ : Loc nD τ sig) → Buf (Elt Ideal) ℓ) (c : Dev nD)

theorem v5_eq : V m c main_v5 = hWin (m ((c : Thread nD τ).loc main_arg2)) := by
  after_reads_simp
  show cat4 _ _ _ _ = _
  after_reads_simp
  rfl
theorem v9_eq : V m c main_v9 = hWqb (m ((c : Thread nD τ).loc main_arg4)) := by
  after_reads_simp
  rfl
theorem v19_eq : V m c main_v19 = hWkvb (m ((c : Thread nD τ).loc main_arg6)) := by
  after_reads_simp
  rfl
theorem v20_eq : V m c main_v20 = broadcastInDim S1x1024 ![1] bcast_S1024_S1x1024_1 (m ((c : Thread nD τ).loc main_arg1)) := by
  after_reads_simp
theorem v21_eq : V m c main_v21 = broadcastInDim S1x256 ![1] bcast_S256_S1x256_1 (m ((c : Thread nD τ).loc main_arg3)) := by
  after_reads_simp
theorem v22_eq : V m c main_v22 = broadcastInDim S1x128 ![1] bcast_S128_S1x128_1 (m ((c : Thread nD τ).loc main_arg5)) := by
  after_reads_simp
theorem v24_eq : V m c main_v24 = hPadw (m ((c : Thread nD τ).loc main_arg7)) := by
  after_reads_simp
  rfl
theorem v26_eq : V m c main_v26 = hPadw (m ((c : Thread nD τ).loc main_arg8)) := by
  after_reads_simp
  rfl
theorem v45_eq : V m c main_v45 = hCos := by
  after_reads_simp
  show tab4 _ _ _ _ = _
  after_reads_simp
  rfl
theorem v49_eq : V m c main_v49 = hSin := by
  after_reads_simp
  show tab4 _ _ _ _ = _
  after_reads_simp
  rfl

end entry

/-! ## The prepared arrays at an index -/

theorem hWin_lo (w : FVec Ideal S1024x1952 .f32) (k : Fin 1024) (j : Fin 1920) : hWin w (ix2 k ⟨j, by omega⟩) = w (ix2 k ⟨j, by omega⟩) := by
  pointwise [hWin, cat4]
theorem hWin_gap (w : FVec Ideal S1024x1952 .f32) (k : Fin 1024) (j : Fin 64) : hWin w (ix2 k ⟨1920 + j, by omega⟩) = 0 := by
  pointwise [hWin, cat4]
theorem hWin_rope (w : FVec Ideal S1024x1952 .f32) (k : Fin 1024) (j : Fin 32) : hWin w (ix2 k ⟨1984 + j, by omega⟩) = w (ix2 k ⟨1920 + j, by omega⟩) := by
  pointwise [hWin, cat4]
  rw [dif_neg (by omega), dif_neg (by omega), dif_pos (by omega)]
  congr 3
  omega
theorem hWin_end (w : FVec Ideal S1024x1952 .f32) (k : Fin 1024) (j : Fin 32) : hWin w (ix2 k ⟨2016 + j, by omega⟩) = 0 := by
  pointwise [hWin, cat4]
  rw [dif_neg (by omega), dif_neg (by omega), dif_neg (by omega)]
theorem hWqb_at (w : FVec Ideal S256x768 .f32) (k : Fin 256) (h : Fin 8) (l : Fin 128) :
    hWqb w (ix2 k ⟨128 * h + l, by omega⟩) = if hl : l.val < 96 then w (ix2 k ⟨96 * h + l, by omega⟩) else 0 := by
  pointwise [hWqb]
  rw [fill_zero]
  by_cases hl : l.val < 96
  · rw [dif_pos (by omega), dif_pos hl]
    congr 3
    omega
  · rw [dif_neg (by omega), dif_neg hl]
theorem hWkvb_at (w : FVec Ideal S128x1024 .f32) (k : Fin 128) (h : Fin 8) (l : Fin 128) :
    hWkvb w (ix2 k ⟨128 * h + l, by omega⟩) = if hl : l.val < 64 then w (ix2 k ⟨128 * h + l, by omega⟩) else 0 := by
  pointwise [hWkvb]
  rw [fill_zero, dif_pos (by omega)]
  by_cases hl : l.val < 64
  · rw [dif_pos (by omega), dif_pos hl]
    congr 3
    omega
  · rw [dif_neg (by omega), dif_neg hl]
theorem hWkvb_v (w : FVec Ideal S128x1024 .f32) (k : Fin 128) (c : Fin 512) :
    hWkvb w (ix2 k ⟨1024 + c, by omega⟩) = w (ix2 k ⟨128 * (c / 64) + (64 + c % 64), by omega⟩) := by
  pointwise [hWkvb]
  congr 3
  omega
theorem hPadw_at (w : FVec Ideal S96 .f32) (l : Fin 128) : hPadw w (ix2 0 l) = lanes (fun j => w (ix1 j)) l := by
  pointwise [hPadw, lanes]
  rw [fill_zero]
theorem hCos_at (r : Fin 8192) (l : Fin 128) : hCos (ix2 r l) = cosLanes (fun j => Ideal.cos (hAng (ix2 r j))) l := by
  pointwise [hCos, tab4]
  unfold cosLanes
  by_cases h0 : l.val < 64
  · rw [dif_pos h0, dif_pos h0]
  · by_cases h1 : l.val < 80
    · rw [dif_neg h0, dif_neg h0, dif_pos h1, dif_pos (by omega)]
    · by_cases h2 : l.val < 96
      · rw [dif_neg h0, dif_neg h0, dif_neg h1, dif_pos h2, dif_neg (by omega), dif_pos (by omega)]
        rfl
      · rw [dif_neg h0, dif_neg h0, dif_neg h1, dif_neg h2, dif_neg (by omega), dif_neg (by omega)]
theorem hSin_at (r : Fin 8192) (l : Fin 128) : hSin (ix2 r l) = sinLanes (fun j => Ideal.sin (hAng (ix2 r j))) l := by
  pointwise [hSin, tab4]
  unfold sinLanes
  by_cases h0 : l.val < 64
  · rw [dif_pos h0, dif_pos h0]
  · by_cases h1 : l.val < 80
    · rw [dif_neg h0, dif_neg h0, dif_pos h1, dif_pos (by omega)]
    · by_cases h2 : l.val < 96
      · rw [dif_neg h0, dif_neg h0, dif_neg h1, dif_pos h2, dif_neg (by omega), dif_pos (by omega)]
        rfl
      · rw [dif_neg h0, dif_neg h0, dif_neg h1, dif_neg h2, dif_neg (by omega), dif_neg (by omega)]

end Cert.Kernel4Ideal.Inproj

end
-- ==== Proof.Inproj.Blocks.lean ====
/- The input projection's blocks, read where the body reads them, are the arguments there: padded lanes are zero. -/
module

public import proofs.«01_k».proof.Proof.Gen.Kernel4Ideal.Value
public import proofs.«01_k».proof.Proof.Inproj.Prepared
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel4Ideal.Inproj

open Cert.Kernel4Ideal Cert.Kernel4Ideal.Gen Cert.Inproj

/-- Where each token window stands at a grid point: batch `t / 16`, row block `t % 16`; the tables at the row block. -/
theorem idx : ∀ t : Fin cfg0.N,
    win0_0.index t = ![t.val / 16, t.val % 16, 0] ∧ win0_9.index t = ![t.val % 16, 0]
    ∧ win0_10.index t = ![t.val % 16, 0] ∧ win0_11.index t = ![t.val / 16, t.val % 16, 0]
    ∧ win0_12.index t = ![t.val / 16, t.val % 16, 0] ∧ win0_13.index t = ![t.val / 16, t.val % 16, 0]
    ∧ win0_14.index t = ![t.val / 16, t.val % 16, 0] :=
  (by decide +kernel : ∀ t : Fin grid0.N,
    win0_0.index t = ![t.val / 16, t.val % 16, 0] ∧ win0_9.index t = ![t.val % 16, 0]
    ∧ win0_10.index t = ![t.val % 16, 0] ∧ win0_11.index t = ![t.val / 16, t.val % 16, 0]
    ∧ win0_12.index t = ![t.val / 16, t.val % 16, 0] ∧ win0_13.index t = ![t.val / 16, t.val % 16, 0]
    ∧ win0_14.index t = ![t.val / 16, t.val % 16, 0])

/-- Every weight window stands at the origin. -/
theorem idxw : ∀ t : Fin cfg0.N,
    win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] :=
  (by decide +kernel : ∀ t : Fin grid0.N,
    win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0])

variable (m : (ℓ : Loc nD τ sig) → Buf (Elt Ideal) ℓ)

theorem blk0 (c : Dev nD) (t : Fin cfg0.N) (r : Fin 512) (j : Fin 1024) : iblk m c 0 t (ix3 0 r j)
    = m ((c : Thread nD τ).loc main_arg0) (ix3 ⟨t / 16, by have : t.val < 64 := t.isLt; omega⟩ ⟨512 * (t % 16) + r, by omega⟩ j) := by
  blk_ext [iblk, V, idx t]
theorem blk1 (c : Dev nD) (t : Fin cfg0.N) (j : Fin 1024) : iblk m c 1 t (ix2 0 j) = m ((c : Thread nD τ).loc main_arg1) (ix1 j) := by
  have e : iblk m c 1 t (ix2 0 j) = V m c main_v20 (ix2 0 j) := by blk_ext [iblk, idxw t]
  rw [e, v20_eq]
  pointwise []
theorem blk3 (c : Dev nD) (t : Fin cfg0.N) (j : Fin 256) : iblk m c 3 t (ix2 0 j) = m ((c : Thread nD τ).loc main_arg3) (ix1 j) := by
  have e : iblk m c 3 t (ix2 0 j) = V m c main_v21 (ix2 0 j) := by blk_ext [iblk, idxw t]
  rw [e, v21_eq]
  pointwise []
theorem blk5 (c : Dev nD) (t : Fin cfg0.N) (j : Fin 128) : iblk m c 5 t (ix2 0 j) = m ((c : Thread nD τ).loc main_arg5) (ix1 j) := by
  have e : iblk m c 5 t (ix2 0 j) = V m c main_v22 (ix2 0 j) := by blk_ext [iblk, idxw t]
  rw [e, v22_eq]
  pointwise []
theorem blk2 (c : Dev nD) (t : Fin cfg0.N) (i : Fin 1024) (j : Fin 2048) :
    iblk m c 2 t (ix2 i j) = hWin (m ((c : Thread nD τ).loc main_arg2)) (ix2 i j) := by
  have e : iblk m c 2 t (ix2 i j) = V m c main_v5 (ix2 i j) := by blk_ext [iblk, idxw t]
  rw [e, v5_eq]
theorem blk4 (c : Dev nD) (t : Fin cfg0.N) (i : Fin 256) (j : Fin 1024) :
    iblk m c 4 t (ix2 i j) = hWqb (m ((c : Thread nD τ).loc main_arg4)) (ix2 i j) := by
  have e : iblk m c 4 t (ix2 i j) = V m c main_v9 (ix2 i j) := by blk_ext [iblk, idxw t]
  rw [e, v9_eq]
theorem blk6 (c : Dev nD) (t : Fin cfg0.N) (i : Fin 128) (j : Fin 1536) :
    iblk m c 6 t (ix2 i j) = hWkvb (m ((c : Thread nD τ).loc main_arg6)) (ix2 i j) := by
  have e : iblk m c 6 t (ix2 i j) = V m c main_v19 (ix2 i j) := by blk_ext [iblk, idxw t]
  rw [e, v19_eq]
theorem blk7 (c : Dev nD) (t : Fin cfg0.N) (j : Fin 128) :
    iblk m c 7 t (ix2 0 j) = lanes (fun k => m ((c : Thread nD τ).loc main_arg7) (ix1 k)) j := by
  have e : iblk m c 7 t (ix2 0 j) = V m c main_v24 (ix2 0 j) := by blk_ext [iblk, idxw t]
  rw [e, v24_eq]
  exact hPadw_at _ j
theorem blk8 (c : Dev nD) (t : Fin cfg0.N) (j : Fin 128) :
    iblk m c 8 t (ix2 0 j) = lanes (fun k => m ((c : Thread nD τ).loc main_arg8) (ix1 k)) j := by
  have e : iblk m c 8 t (ix2 0 j) = V m c main_v26 (ix2 0 j) := by blk_ext [iblk, idxw t]
  rw [e, v26_eq]
  exact hPadw_at _ j
theorem blk9 (c : Dev nD) (t : Fin cfg0.N) (r : Fin 512) (j : Fin 128) :
    iblk m c 9 t (ix2 r j) = cosLanes (fun k => Ideal.cos (hAng (ix2 ⟨512 * (t % 16) + r, by omega⟩ k))) j := by
  have e : iblk m c 9 t (ix2 r j) = V m c main_v45 (ix2 ⟨512 * (t % 16) + r, by omega⟩ j) := by blk_ext [iblk, idx t]
  rw [e, v45_eq]
  exact hCos_at _ j
theorem blk10 (c : Dev nD) (t : Fin cfg0.N) (r : Fin 512) (j : Fin 128) :
    iblk m c 10 t (ix2 r j) = sinLanes (fun k => Ideal.sin (hAng (ix2 ⟨512 * (t % 16) + r, by omega⟩ k))) j := by
  have e : iblk m c 10 t (ix2 r j) = V m c main_v49 (ix2 ⟨512 * (t % 16) + r, by omega⟩ j) := by blk_ext [iblk, idx t]
  rw [e, v49_eq]
  exact hSin_at _ j

end Cert.Kernel4Ideal.Inproj

end
-- ==== Proof.Inproj.Payload.lean ====
/- The input projection's payloads at an index, as rows of extended reals. -/
module

public import proofs.«01_k».proof.Proof.Gen.Kernel4Ideal.Frame
public import proofs.«01_k».proof.Proof.Inproj.Row
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.Inproj

open Cert.Kernel4Ideal Cert.Kernel4Ideal.Gen Cert.Inproj
open Cert.Tail (rms len1024)

section
variable (x : FVec Ideal S1x512x1024 .f32) (g : FVec Ideal S1x1024 .f32) (W : FVec Ideal S1024x2048 .bf16) (r : Fin 512)

/-- The first product's column `c` of a block's row `r`. -/
def projB (c : Fin 2048) : EReal := through len1024 (fun k => x (ix3 0 r k)) (fun k => g (ix2 0 k)) (fun k => W (ix2 k c))
/-- The second product's column `c`, for the queries. -/
def qfB (qg : FVec Ideal S1x256 .f32) (wq : FVec Ideal S256x1024 .bf16) (c : Fin 1024) : EReal :=
  through len256 (fun k => projB x g W r ⟨1536 + k, by omega⟩) (fun k => qg (ix2 0 k)) (fun k => wq (ix2 k c))
/-- The second product's column `c`, for the keys and values. -/
def kvfB (kg : FVec Ideal S1x128 .f32) (wk : FVec Ideal S128x1536 .bf16) (c : Fin 1536) : EReal :=
  through len128 (fun k => projB x g W r ⟨1792 + k, by omega⟩) (fun k => kg (ix2 0 k)) (fun k => wk (ix2 k c))

theorem pay3_at (c : Fin 1536) : k0_pay3 (F := Ideal) x g W (ix3 0 r c) = projB x g W r ⟨c, by omega⟩ := by
  pointwise [k0_pay3, k0_pay2, projB, through, rms, len1024]
theorem pay6_at (l : Fin 128) : k0_pay6 (F := Ideal) x g W (ix2 r l) = projB x g W r ⟨1920 + l, by omega⟩ := by
  pointwise [k0_pay6, k0_pay2, projB, through, rms, len1024]
theorem pay4_at (c : Fin 256) : k0_pay4 (F := Ideal) x g W (ix2 r c) = projB x g W r ⟨1536 + c, by omega⟩ := by
  pointwise [k0_pay4, k0_pay2, projB, through, rms, len1024]
theorem pay5_at (c : Fin 128) : k0_pay5 (F := Ideal) x g W (ix2 r c) = projB x g W r ⟨1792 + c, by omega⟩ := by
  pointwise [k0_pay5, k0_pay2, projB, through, rms, len1024]
theorem pay8_at (c : Fin 256) : k0_pay8 (F := Ideal) x g W (ix2 r c)
    = Ideal.rsqrt (Ideal.div (∑ k : Fin 256, projB x g W r ⟨1536 + k, by omega⟩ * projB x g W r ⟨1536 + k, by omega⟩) len256
        + Ideal.ofBits FTy.f32 0x358637BD#32) := by
  pointwise [k0_pay8, pay4_at, len256]
theorem pay9_at (qg : FVec Ideal S1x256 .f32) (wq : FVec Ideal S256x1024 .bf16) (c : Fin 1024) :
    k0_pay9 (F := Ideal) (k0_pay4 x g W) (k0_pay7 qg) (k0_pay8 x g W) wq (ix2 r c) = qfB x g W r qg wq c := by
  pointwise [k0_pay9, k0_pay7, qfB, through, rms, pay8_at, pay4_at]
theorem pay10_at (kg : FVec Ideal S1x128 .f32) (wk : FVec Ideal S128x1536 .bf16) (c : Fin 1536) :
    k0_pay10 (F := Ideal) (k0_pay5 x g W) kg wk (ix2 r c) = kvfB x g W r kg wk c := by
  pointwise [k0_pay10, kvfB, through, rms, pay5_at, len128]
theorem pay11_at (kg : FVec Ideal S1x128 .f32) (wk : FVec Ideal S128x1536 .bf16) (c : Fin 512) :
    k0_pay11 (F := Ideal) (k0_pay5 x g W) kg wk (ix3 0 r c) = kvfB x g W r kg wk ⟨1024 + c, by omega⟩ := by
  pointwise [k0_pay11, kvfB, through, rms, k0_pay10, pay5_at, len128]
theorem pay12_at (v : FVec Ideal S512x128 .f32) (l : Fin 128) : k0_pay12 (F := Ideal) v (ix2 r l) = v (ix2 r l) := by
  pointwise [k0_pay12]
theorem pay13_at (v : FVec Ideal S512x128 .f32) (l : Fin 128) : k0_pay13 (F := Ideal) v (ix2 r l) = v (ix2 r l) := by
  pointwise [k0_pay13]
end

section
variable (v44 : FVec Ideal S512x1024 .f32) (v69 v71 : FVec Ideal S512x128 .f32) (w : FVec Ideal S1x128 .f32) (r : Fin 512) (l : Fin 128)

/-- A head of the queries on lane `l`, from column `o` on: the padded head, normalised and rotated, times the scale. -/
def qHeadB (o : Nat) (ho : o + 128 ≤ 1024) : EReal :=
  normRope (fun j => v44 (ix2 r ⟨o + j, by omega⟩)) (fun j => w (ix2 0 j)) (fun j => v69 (ix2 r j)) (fun j => v71 (ix2 r j)) l * scale

theorem q0_at : k0_pay17 v44 v69 v71 k0_pay14 w (ix3 0 r l) = qHeadB v44 v69 v71 w r l 0 (by omega) := by
  pointwise [k0_pay17, k0_pay15, k0_pay14, qHeadB, normRope, rms, len96, scale]
theorem q1_at : k0_pay21 v44 v69 v71 k0_pay14 (k0_pay15 w) (ix3 0 r l) = qHeadB v44 v69 v71 w r l 128 (by omega) := by
  pointwise [k0_pay21, k0_pay15, k0_pay14, qHeadB, normRope, rms, len96, scale]
theorem q2_at : k0_pay25 v44 v69 v71 k0_pay14 (k0_pay15 w) (ix3 0 r l) = qHeadB v44 v69 v71 w r l 256 (by omega) := by
  pointwise [k0_pay25, k0_pay15, k0_pay14, qHeadB, normRope, rms, len96, scale]
theorem q3_at : k0_pay30 (k0_pay29 v44 v69 v71 k0_pay14 (k0_pay15 w)) (ix3 0 r l) = qHeadB v44 v69 v71 w r l 384 (by omega) := by
  pointwise [k0_pay30, k0_pay29, k0_pay15, k0_pay14, qHeadB, normRope, rms, len96, scale]
theorem q4_at : k0_pay35 (k0_pay33 v44 v69 (k0_pay15 w)) (k0_pay34 v44 v71 k0_pay14 (k0_pay15 w)) (ix3 0 r l) = qHeadB v44 v69 v71 w r l 512 (by omega) := by
  pointwise [k0_pay35, k0_pay33, k0_pay34, k0_pay32, k0_pay15, k0_pay14, qHeadB, normRope, rms, len96, scale]
theorem q5_at : k0_pay39 v69 v71 k0_pay14 (k0_pay37 v44) (k0_pay38 (k0_pay15 w)) (ix3 0 r l) = qHeadB v44 v69 v71 w r l 640 (by omega) := by
  pointwise [k0_pay39, k0_pay37, k0_pay38, k0_pay15, k0_pay14, qHeadB, normRope, rms, len96, scale]
theorem q6_at : k0_pay44 v69 v71 k0_pay14 (k0_pay15 w) (k0_pay41 v44) (k0_pay42 v44) k0_pay43 (ix3 0 r l) = qHeadB v44 v69 v71 w r l 768 (by omega) := by
  pointwise [k0_pay44, k0_pay41, k0_pay42, k0_pay43, k0_pay15, k0_pay14, qHeadB, normRope, rms, len96, scale]
theorem q7_at : k0_pay46 v44 v69 v71 k0_pay14 (k0_pay15 w) (ix3 0 r l) = qHeadB v44 v69 v71 w r l 896 (by omega) := by
  pointwise [k0_pay46, k0_pay15, k0_pay14, qHeadB, normRope, rms, len96, scale]
end

section
variable (v26 v69 v71 : FVec Ideal S512x128 .f32) (v62 : FVec Ideal S512x1536 .f32) (w : FVec Ideal S1x128 .f32) (r : Fin 512) (l : Fin 128)

/-- A head of the keys on lane `l`, from column `o` on, with the shared rotary lanes added, normalised and rotated. -/
def kHeadB (o : Nat) (ho : o + 128 ≤ 1024) : EReal :=
  normRope (fun j => v62 (ix2 r ⟨o + j, by omega⟩) + v26 (ix2 r j)) (fun j => w (ix2 0 j)) (fun j => v69 (ix2 r j)) (fun j => v71 (ix2 r j)) l

theorem k0_at : k0_pay20 v69 v71 k0_pay14 (k0_pay18 v26 v62 w) (k0_pay19 v26 v62 w) 16#32 (ix3 0 r l) = kHeadB v26 v69 v71 v62 w r l 0 (by omega) := by
  pointwise [k0_pay20, k0_pay18, k0_pay19, k0_pay16, k0_pay14, kHeadB, normRope, rms, len96]
theorem k1_at : k0_pay24 v69 v71 k0_pay14 (k0_pay16 w) (k0_pay22 v26 v62) (k0_pay23 v26 v62) (ix3 0 r l) = kHeadB v26 v69 v71 v62 w r l 128 (by omega) := by
  pointwise [k0_pay24, k0_pay22, k0_pay23, k0_pay16, k0_pay14, kHeadB, normRope, rms, len96]
theorem k2_at : k0_pay28 v69 v71 k0_pay14 (k0_pay16 w) (k0_pay26 v26 v62) (k0_pay27 v26 v62) (ix3 0 r l) = kHeadB v26 v69 v71 v62 w r l 256 (by omega) := by
  pointwise [k0_pay28, k0_pay26, k0_pay27, k0_pay16, k0_pay14, kHeadB, normRope, rms, len96]
theorem k3_at : k0_pay31 v26 v62 v69 v71 k0_pay14 (k0_pay16 w) (ix3 0 r l) = kHeadB v26 v69 v71 v62 w r l 384 (by omega) := by
  pointwise [k0_pay31, k0_pay16, k0_pay14, kHeadB, normRope, rms, len96]
theorem k4_at : k0_pay36 v26 v62 v69 v71 k0_pay14 (k0_pay16 w) (ix3 0 r l) = kHeadB v26 v69 v71 v62 w r l 512 (by omega) := by
  pointwise [k0_pay36, k0_pay16, k0_pay14, kHeadB, normRope, rms, len96]
theorem k5_at : k0_pay40 v26 v62 v69 v71 k0_pay14 (k0_pay16 w) (ix3 0 r l) = kHeadB v26 v69 v71 v62 w r l 640 (by omega) := by
  pointwise [k0_pay40, k0_pay16, k0_pay14, kHeadB, normRope, rms, len96]
theorem k6_at : k0_pay45 v26 v62 v69 v71 k0_pay14 (k0_pay16 w) (ix3 0 r l) = kHeadB v26 v69 v71 v62 w r l 768 (by omega) := by
  pointwise [k0_pay45, k0_pay16, k0_pay14, kHeadB, normRope, rms, len96]
theorem k7_at : k0_pay1 (k0_pay48 v26 v62 v69 (k0_pay16 w)) (k0_pay49 v26 v62 v71 k0_pay14 (k0_pay16 w)) (ix3 0 r l) = kHeadB v26 v69 v71 v62 w r l 896 (by omega) := by
  pointwise [k0_pay1, k0_pay48, k0_pay49, k0_pay47, k0_pay16, k0_pay14, kHeadB, normRope, rms, len96]
end

end Cert.Kernel4Ideal.Inproj

end
-- ==== Proof.Inproj.Out.lean ====
/- The input projection's four stored blocks at an index, from the blocks the body reads. -/
module

public import proofs.«01_k».proof.Proof.Inproj.Payload

@[expose] public section

set_option maxRecDepth 16384

noncomputable section

open Idealize.ShloMosaic Idealize.ShloMosaic.TcCoe Idealize.SL.Sem
open Idealize.ShloMosaic.Pipeline (Dat)

namespace Cert.Kernel4Ideal.Inproj

open Cert.Kernel4Ideal Cert.Kernel4Ideal.Gen Cert.Inproj

/- A load of a whole block is the block. -/
theorem ld0 (x : Vec Ideal S1x512x1024 .f32) : View.ld x r0_0 = x := by
  funext i; idx_vars i; obtain rfl : i0 = 0 := Subsingleton.elim _ _; pointwise []
theorem ld1 (x : Vec Ideal S1x1024 .f32) : View.ld x r0_1 = x := by
  funext i; idx_vars i; obtain rfl : i0 = 0 := Subsingleton.elim _ _; pointwise []
theorem ld2 (x : Vec Ideal S1024x2048 .bf16) : View.ld x r0_2 = x := by funext i; idx_vars i; pointwise []
theorem ld4 (x : Vec Ideal S1x256 .f32) : View.ld x r0_4 = x := by
  funext i; idx_vars i; obtain rfl : i0 = 0 := Subsingleton.elim _ _; pointwise []
theorem ld5 (x : Vec Ideal S256x1024 .bf16) : View.ld x r0_5 = x := by funext i; idx_vars i; pointwise []
theorem ld6 (x : Vec Ideal S1x128 .f32) : View.ld x r0_6 = x := by
  funext i; idx_vars i; obtain rfl : i0 = 0 := Subsingleton.elim _ _; pointwise []
theorem ld7 (x : Vec Ideal S128x1536 .bf16) : View.ld x r0_7 = x := by funext i; idx_vars i; pointwise []
theorem ld9 (x : Vec Ideal S512x128 .f32) : View.ld x r0_9 = x := by funext i; idx_vars i; pointwise []

variable (x0 : FVec Ideal S1x512x1024 .f32) (x1 : FVec Ideal S1x1024 .f32) (x2 : FVec Ideal S1024x2048 .bf16) (x3 : FVec Ideal S1x256 .f32)
  (x4 : FVec Ideal S256x1024 .bf16) (x5 : FVec Ideal S1x128 .f32) (x6 : FVec Ideal S128x1536 .bf16) (x7 x8 : FVec Ideal S1x128 .f32)
  (x9 x10 : FVec Ideal S512x128 .f32) (r : Fin 512)

/-- A head of the queries from the blocks, on lane `l`. -/
def qOutB (h : Fin 8) (l : Fin 128) : EReal :=
  normRope (fun j => qfB x0 x1 x2 r x3 x4 ⟨128 * h + j, by omega⟩) (fun j => x7 (ix2 0 j)) (fun j => x9 (ix2 r j)) (fun j => x10 (ix2 r j)) l * scale
/-- A head of the keys from the blocks, on lane `l`. -/
def kOutB (h : Fin 8) (l : Fin 128) : EReal :=
  normRope (fun j => kvfB x0 x1 x2 r x5 x6 ⟨128 * h + j, by omega⟩ + projB x0 x1 x2 r ⟨1920 + j, by omega⟩) (fun j => x8 (ix2 0 j))
    (fun j => x9 (ix2 r j)) (fun j => x10 (ix2 r j)) l

theorem qHeadB_eq (o : Nat) (ho : o + 128 ≤ 1024) (h : Fin 8) (e : o = 128 * h) (l : Fin 128) :
    qHeadB (k0_pay9 (k0_pay4 x0 x1 x2) (k0_pay7 x3) (k0_pay8 x0 x1 x2) x4) (k0_pay12 x9) (k0_pay13 x10) x7 r l o ho
      = qOutB x0 x1 x2 x3 x4 x7 x9 x10 r h l := by
  subst e
  simp only [qHeadB, qOutB, pay9_at, pay12_at, pay13_at]
theorem kHeadB_eq (o : Nat) (ho : o + 128 ≤ 1024) (h : Fin 8) (e : o = 128 * h) (l : Fin 128) :
    kHeadB (k0_pay6 x0 x1 x2) (k0_pay12 x9) (k0_pay13 x10) (k0_pay10 (k0_pay5 x0 x1 x2) x5 x6) x8 r l o ho
      = kOutB x0 x1 x2 x5 x6 x8 x9 x10 r h l := by
  subst e
  simp only [kHeadB, kOutB, pay10_at, pay12_at, pay13_at, pay6_at]

/-- One of eight stored heads, read where a column of the whole row lies in it. -/
theorem piece (F : Fin 8 → Fin 128 → EReal) (pay : S1x512x128.Idx → EReal) (x : S1x512x128.Idx) (k h : Fin 8) (l : Fin 128)
    (e1 : r.val = (x 1).val) (e2 : 128 * h.val + l.val = 128 * k.val + (x 2).val) (hp : ∀ l, pay (ix3 0 r l) = F k l) : pay x = F h l := by
  have b : (x 2).val < 128 := (x 2).isLt
  obtain rfl : k = h := Fin.ext (by omega)
  have e : x = ix3 0 r l := by
    rw [eq_ix3 x]
    congr 1
    · exact Subsingleton.elim (α := Fin 1) _ _
    · exact Fin.ext e1.symm
    · exact Fin.ext (by omega)
  rw [e, hp]

theorem out11_at (c : Fin 1536) : out0_11 (F := Ideal) x0 x1 x2 x3 x4 x5 x6 x7 x8 x9 x10 (ix3 0 r c) = projB x0 x1 x2 r ⟨c, by omega⟩ := by
  unfold_out out0_11
  canon_tiles x g
  rw [ld0, ld1, ld2]
  have e : x = ix3 0 r c := by
    rw [eq_ix3 x]
    congr 1
    · exact Subsingleton.elim (α := Fin 1) _ _
    · exact Fin.ext g1.symm
    · exact Fin.ext g2.symm
  rw [e, pay3_at]
theorem out14_at (c : Fin 512) : out0_14 (F := Ideal) x0 x1 x2 x3 x4 x5 x6 x7 x8 x9 x10 (ix3 0 r c) = kvfB x0 x1 x2 r x5 x6 ⟨1024 + c, by omega⟩ := by
  unfold_out out0_14
  simp only [ld0, ld1, ld2, ld6, ld7]
  canon_tiles x g
  have e : x = ix3 0 r c := by
    rw [eq_ix3 x]
    congr 1
    · exact Subsingleton.elim (α := Fin 1) _ _
    · exact Fin.ext g1.symm
    · exact Fin.ext g2.symm
  rw [e, pay11_at]
theorem out12_at (h : Fin 8) (l : Fin 128) :
    out0_12 (F := Ideal) x0 x1 x2 x3 x4 x5 x6 x7 x8 x9 x10 (ix3 0 r ⟨128 * h + l, by omega⟩) = qOutB x0 x1 x2 x3 x4 x7 x9 x10 r h l := by
  unfold_out out0_12
  simp only [ld0, ld1, ld2, ld4, ld5, ld6, ld9]
  canon_tiles x g
  · refine piece r (qOutB x0 x1 x2 x3 x4 x7 x9 x10 r) _ x 7 h l g1 g2 fun l => ?_
    rw [q7_at, qHeadB_eq (o := 896) (h := 7) (e := rfl)]
  · refine piece r (qOutB x0 x1 x2 x3 x4 x7 x9 x10 r) _ x 6 h l g1 g2 fun l => ?_
    rw [q6_at, qHeadB_eq (o := 768) (h := 6) (e := rfl)]
  · refine piece r (qOutB x0 x1 x2 x3 x4 x7 x9 x10 r) _ x 5 h l g1 g2 fun l => ?_
    rw [q5_at, qHeadB_eq (o := 640) (h := 5) (e := rfl)]
  · refine piece r (qOutB x0 x1 x2 x3 x4 x7 x9 x10 r) _ x 4 h l g1 g2 fun l => ?_
    rw [q4_at, qHeadB_eq (o := 512) (h := 4) (e := rfl)]
  · refine piece r (qOutB x0 x1 x2 x3 x4 x7 x9 x10 r) _ x 3 h l g1 g2 fun l => ?_
    rw [q3_at, qHeadB_eq (o := 384) (h := 3) (e := rfl)]
  · refine piece r (qOutB x0 x1 x2 x3 x4 x7 x9 x10 r) _ x 2 h l g1 g2 fun l => ?_
    rw [q2_at, qHeadB_eq (o := 256) (h := 2) (e := rfl)]
  · refine piece r (qOutB x0 x1 x2 x3 x4 x7 x9 x10 r) _ x 1 h l g1 g2 fun l => ?_
    rw [q1_at, qHeadB_eq (o := 128) (h := 1) (e := rfl)]
  · refine piece r (qOutB x0 x1 x2 x3 x4 x7 x9 x10 r) _ x 0 h l g1 (g2.trans (Nat.zero_add _).symm) fun l => ?_
    rw [q0_at, qHeadB_eq (o := 0) (h := 0) (e := rfl)]
theorem out13_at (h : Fin 8) (l : Fin 128) :
    out0_13 (F := Ideal) x0 x1 x2 x3 x4 x5 x6 x7 x8 x9 x10 (ix3 0 r ⟨128 * h + l, by omega⟩) = kOutB x0 x1 x2 x5 x6 x8 x9 x10 r h l := by
  unfold_out out0_13
  simp only [ld0, ld1, ld2, ld6, ld7, ld9]
  canon_tiles x g
  · refine piece r (kOutB x0 x1 x2 x5 x6 x8 x9 x10 r) _ x 7 h l g1 g2 fun l => ?_
    rw [k7_at, kHeadB_eq (o := 896) (h := 7) (e := rfl)]
  · refine piece r (kOutB x0 x1 x2 x5 x6 x8 x9 x10 r) _ x 6 h l g1 g2 fun l => ?_
    rw [k6_at, kHeadB_eq (o := 768) (h := 6) (e := rfl)]
  · refine piece r (kOutB x0 x1 x2 x5 x6 x8 x9 x10 r) _ x 5 h l g1 g2 fun l => ?_
    rw [k5_at, kHeadB_eq (o := 640) (h := 5) (e := rfl)]
  · refine piece r (kOutB x0 x1 x2 x5 x6 x8 x9 x10 r) _ x 4 h l g1 g2 fun l => ?_
    rw [k4_at, kHeadB_eq (o := 512) (h := 4) (e := rfl)]
  · refine piece r (kOutB x0 x1 x2 x5 x6 x8 x9 x10 r) _ x 3 h l g1 g2 fun l => ?_
    rw [k3_at, kHeadB_eq (o := 384) (h := 3) (e := rfl)]
  · refine piece r (kOutB x0 x1 x2 x5 x6 x8 x9 x10 r) _ x 2 h l g1 g2 fun l => ?_
    rw [k2_at, kHeadB_eq (o := 256) (h := 2) (e := rfl)]
  · refine piece r (kOutB x0 x1 x2 x5 x6 x8 x9 x10 r) _ x 1 h l g1 g2 fun l => ?_
    rw [k1_at, kHeadB_eq (o := 128) (h := 1) (e := rfl)]
  · refine piece r (kOutB x0 x1 x2 x5 x6 x8 x9 x10 r) _ x 0 h l g1 (g2.trans (Nat.zero_add _).symm) fun l => ?_
    rw [k0_at, kHeadB_eq (o := 0) (h := 0) (e := rfl)]

end Cert.Kernel4Ideal.Inproj

end
-- ==== Proof.Inproj.Array.lean ====
/- The input projection's four result arrays, token by token. -/
module

public import proofs.«01_k».proof.Proof.Inproj.Blocks
public import proofs.«01_k».proof.Proof.Inproj.Out

@[expose] public section

set_option maxRecDepth 16384

noncomputable section

open Idealize.ShloMosaic Idealize.ShloMosaic.TcCoe Idealize.SL.Sem
open Idealize.ShloMosaic.Pipeline (Dat)

namespace Cert.Kernel4Ideal.Inproj

open Cert.Kernel4Ideal Cert.Kernel4Ideal.Gen Cert.Inproj

variable (m : (ℓ : Loc nD τ sig) → Buf (Elt Ideal) ℓ) (c : Dev nD)

/-- The first product of token `i` of batch `b`, from the arguments. -/
def argP (b : Fin 4) (i : Fin 8192) : Fin 1952 → EReal :=
  proj (fun k => m ((c : Thread nD τ).loc main_arg0) (ix3 b i k)) (fun k => m ((c : Thread nD τ).loc main_arg1) (ix1 k))
    (fun k j => m ((c : Thread nD τ).loc main_arg2) (ix2 k j))
/-- The cosines and the sines of a position. -/
def posCos (i : Fin 8192) : Fin 16 → EReal := fun k => Ideal.cos (hAng (ix2 i k))
def posSin (i : Fin 8192) : Fin 16 → EReal := fun k => Ideal.sin (hAng (ix2 i k))

/-- The four results of the arguments. -/
def argHy : FVec Ideal S4x8192x1536 .f32 := fun i => hyTok (argP m c (i 0) (i 1)) (i 2)
def argQ : FVec Ideal S4x8192x1024 .bf16 := fun i =>
  qTok (argP m c (i 0) (i 1)) (fun k => m ((c : Thread nD τ).loc main_arg3) (ix1 k)) (fun k j => m ((c : Thread nD τ).loc main_arg4) (ix2 k j))
    (fun k => m ((c : Thread nD τ).loc main_arg7) (ix1 k)) (posCos (i 1)) (posSin (i 1)) (i 2)
def argK : FVec Ideal S4x8192x1024 .bf16 := fun i =>
  kTok (argP m c (i 0) (i 1)) (fun k => m ((c : Thread nD τ).loc main_arg5) (ix1 k)) (fun k j => m ((c : Thread nD τ).loc main_arg6) (ix2 k j))
    (fun k => m ((c : Thread nD τ).loc main_arg8) (ix1 k)) (posCos (i 1)) (posSin (i 1)) (i 2)
def argV : FVec Ideal S4x8192x512 .bf16 := fun i =>
  vTok (argP m c (i 0) (i 1)) (fun k => m ((c : Thread nD τ).loc main_arg5) (ix1 k)) (fun k j => m ((c : Thread nD τ).loc main_arg6) (ix2 k j)) (i 2)

theorem argQ_at (b : Fin 4) (i : Fin 8192) (j : Fin 1024) : argQ m c (ix3 b i j)
    = qTok (argP m c b i) (fun k => m ((c : Thread nD τ).loc main_arg3) (ix1 k)) (fun k j => m ((c : Thread nD τ).loc main_arg4) (ix2 k j))
        (fun k => m ((c : Thread nD τ).loc main_arg7) (ix1 k)) (posCos i) (posSin i) j := rfl
theorem argK_at (b : Fin 4) (i : Fin 8192) (j : Fin 1024) : argK m c (ix3 b i j)
    = kTok (argP m c b i) (fun k => m ((c : Thread nD τ).loc main_arg5) (ix1 k)) (fun k j => m ((c : Thread nD τ).loc main_arg6) (ix2 k j))
        (fun k => m ((c : Thread nD τ).loc main_arg8) (ix1 k)) (posCos i) (posSin i) j := rfl

section
variable (t : Fin cfg0.N) (r : Fin 512)

/-- The batch and the position of a block's row. -/
def tokB : Fin 4 := ⟨t / 16, by have : t.val < 64 := t.isLt; omega⟩
def tokI : Fin 8192 := ⟨512 * (t % 16) + r, by omega⟩

theorem proj_col (j : Fin 2048) : projB (iblk m c 0 t) (iblk m c 1 t) (iblk m c 2 t) r j
    = through Cert.Tail.len1024 (fun k => m ((c : Thread nD τ).loc main_arg0) (ix3 (tokB t) (tokI t r) k))
        (fun k => m ((c : Thread nD τ).loc main_arg1) (ix1 k)) (fun k => hWin (m ((c : Thread nD τ).loc main_arg2)) (ix2 k j)) := by
  simp only [projB, blk0, blk1, blk2]
  rfl

/-- The columns of the padded first product: the first 1920 are the product's own. -/
theorem proj_lo (j : Fin 1920) : projB (iblk m c 0 t) (iblk m c 1 t) (iblk m c 2 t) r ⟨j, by omega⟩
    = argP m c (tokB t) (tokI t r) ⟨j, by omega⟩ := by
  rw [proj_col]
  simp only [hWin_lo]
  rfl
/-- Then 64 of zeros, the last 32 of the product, and 32 of zeros. -/
theorem proj_gap (j : Fin 64) : projB (iblk m c 0 t) (iblk m c 1 t) (iblk m c 2 t) r ⟨1920 + j, by omega⟩ = 0 := by
  rw [proj_col]
  simp only [hWin_gap]
  exact through_zero _ _ _
theorem proj_rope (j : Fin 32) : projB (iblk m c 0 t) (iblk m c 1 t) (iblk m c 2 t) r ⟨1984 + j, by omega⟩
    = argP m c (tokB t) (tokI t r) ⟨1920 + j, by omega⟩ := by
  rw [proj_col]
  simp only [hWin_rope]
  rfl
theorem proj_end (j : Fin 32) : projB (iblk m c 0 t) (iblk m c 1 t) (iblk m c 2 t) r ⟨2016 + j, by omega⟩ = 0 := by
  rw [proj_col]
  simp only [hWin_end]
  exact through_zero _ _ _

theorem lat_q (k : Fin 256) : projB (iblk m c 0 t) (iblk m c 1 t) (iblk m c 2 t) r ⟨1536 + k, by omega⟩
    = argP m c (tokB t) (tokI t r) ⟨1536 + k, by omega⟩ := proj_lo m c t r ⟨1536 + k, by omega⟩
theorem lat_kv (k : Fin 128) : projB (iblk m c 0 t) (iblk m c 1 t) (iblk m c 2 t) r ⟨1792 + k, by omega⟩
    = argP m c (tokB t) (tokI t r) ⟨1792 + k, by omega⟩ := proj_lo m c t r ⟨1792 + k, by omega⟩

/-- A head of the padded queries is the padded head. -/
theorem q_lane (h : Fin 8) (l : Fin 128) :
    qfB (iblk m c 0 t) (iblk m c 1 t) (iblk m c 2 t) r (iblk m c 3 t) (iblk m c 4 t) ⟨128 * h + l, by omega⟩
      = lanes (qHead (argP m c (tokB t) (tokI t r)) (fun k => m ((c : Thread nD τ).loc main_arg3) (ix1 k))
          (fun k j => m ((c : Thread nD τ).loc main_arg4) (ix2 k j)) h) l := by
  simp only [qfB, lat_q, blk3, blk4, hWqb_at]
  by_cases hl : l.val < 96
  · simp only [hl, dif_pos, lanes]
    rfl
  · simp only [hl, dif_neg, not_false_eq_true, lanes]
    exact through_zero _ _ _

/-- A head of the padded keys, the shared lanes added, is the padded head. -/
theorem k_lane (h : Fin 8) (l : Fin 128) :
    kvfB (iblk m c 0 t) (iblk m c 1 t) (iblk m c 2 t) r (iblk m c 5 t) (iblk m c 6 t) ⟨128 * h + l, by omega⟩
        + projB (iblk m c 0 t) (iblk m c 1 t) (iblk m c 2 t) r ⟨1920 + l, by omega⟩
      = lanes (kHead (argP m c (tokB t) (tokI t r)) (kvCol (argP m c (tokB t) (tokI t r)) (fun k => m ((c : Thread nD τ).loc main_arg5) (ix1 k))
          (fun k j => m ((c : Thread nD τ).loc main_arg6) (ix2 k j))) h) l := by
  simp only [kvfB, lat_kv, blk5, blk6, hWkvb_at]
  by_cases hl : l.val < 64
  · have h2 : l.val < 96 := by omega
    have e := proj_gap m c t r ⟨l, hl⟩
    simp only at e
    rw [e, add_zero]
    simp only [hl, h2, dif_pos, lanes, kHead]
    rfl
  · simp only [hl, dif_neg, not_false_eq_true, lanes, kHead]
    rw [through_zero, zero_add]
    by_cases h2 : l.val < 96
    · rw [dif_pos h2]
      have e := proj_rope m c t r ⟨l - 64, by omega⟩
      refine Eq.trans (congrArg _ (Fin.ext ?_)) e
      show 1920 + l.val = 1984 + (l.val - 64)
      omega
    · rw [dif_neg h2]
      have e := proj_end m c t r ⟨l - 96, by omega⟩
      refine Eq.trans (congrArg _ (Fin.ext ?_)) e
      show 1920 + l.val = 2016 + (l.val - 96)
      omega

theorem v_col (j : Fin 512) :
    kvfB (iblk m c 0 t) (iblk m c 1 t) (iblk m c 2 t) r (iblk m c 5 t) (iblk m c 6 t) ⟨1024 + j, by omega⟩
      = vTok (argP m c (tokB t) (tokI t r)) (fun k => m ((c : Thread nD τ).loc main_arg5) (ix1 k))
          (fun k j => m ((c : Thread nD τ).loc main_arg6) (ix2 k j)) j := by
  simp only [kvfB, lat_kv, blk5, blk6, hWkvb_v]
  rfl

theorem q_out (j : Fin 1024) : qOutB (iblk m c 0 t) (iblk m c 1 t) (iblk m c 2 t) (iblk m c 3 t) (iblk m c 4 t) (iblk m c 7 t) (iblk m c 9 t)
      (iblk m c 10 t) r ⟨j / 128, by omega⟩ ⟨j % 128, by omega⟩ = argQ m c (ix3 (tokB t) (tokI t r) j) := by
  unfold qOutB
  rw [normRope_of (q_lane m c t r _) (blk7 m c t) (blk9 m c t r) (blk10 m c t r), argQ_at]
  rfl

theorem k_out (j : Fin 1024) : kOutB (iblk m c 0 t) (iblk m c 1 t) (iblk m c 2 t) (iblk m c 5 t) (iblk m c 6 t) (iblk m c 8 t) (iblk m c 9 t)
      (iblk m c 10 t) r ⟨j / 128, by omega⟩ ⟨j % 128, by omega⟩ = argK m c (ix3 (tokB t) (tokI t r) j) := by
  unfold kOutB
  rw [normRope_of (k_lane m c t r _) (blk8 m c t) (blk9 m c t r) (blk10 m c t r), argK_at]
  rfl
end

/-- A column by its head and lane. -/
theorem col_eq (j : Fin 1024) : j = ⟨128 * (⟨j / 128, by omega⟩ : Fin 8).val + (⟨j % 128, by omega⟩ : Fin 128).val, by simp only; omega⟩ :=
  Fin.ext (by simp only; omega)

/-- The first result array: the streams. -/
theorem final11 : (dats m 0 c).arrAt 11 cfg0.N = argHy m c := by
  refine (dats m 0 c).arrAt_eq_of_covers 11 _ (by decide +kernel) fun t hf y => ?_
  blk_simp
  rw [after0_11]
  revert y
  intro (y : S1x512x1536.Idx)
  idx_vars y
  have ht : t.val < 64 := t.isLt
  obtain rfl : y0 = 0 := Subsingleton.elim _ _
  have he : ((View.whole main_v50_0).slice (win0_11.rect t)).emb (ix3 0 y1 y2) = ix3 (tokB t) (tokI t y1) y2 := by
    blk_ext [idx t, tokB, tokI]
  rw [he]
  exact (out11_at _ _ _ _ _ _ _ _ _ _ _ _ _).trans (proj_lo m c t y1 ⟨y2, by omega⟩)

/-- The second result array: the queries. -/
theorem final12 : (dats m 0 c).arrAt 12 cfg0.N = argQ m c := by
  refine (dats m 0 c).arrAt_eq_of_covers 12 _ (by decide +kernel) fun t hf y => ?_
  blk_simp
  rw [after0_12]
  revert y
  intro (y : S1x512x1024.Idx)
  idx_vars y
  have ht : t.val < 64 := t.isLt
  obtain rfl : y0 = 0 := Subsingleton.elim _ _
  have he : ((View.whole main_v50_1).slice (win0_12.rect t)).emb (ix3 0 y1 y2) = ix3 (tokB t) (tokI t y1) y2 := by
    blk_ext [idx t, tokB, tokI]
  rw [he, ← q_out]
  conv_lhs => rw [col_eq y2]
  exact out12_at _ _ _ _ _ _ _ _ _ _ _ _ _ _

/-- The third result array: the keys. -/
theorem final13 : (dats m 0 c).arrAt 13 cfg0.N = argK m c := by
  refine (dats m 0 c).arrAt_eq_of_covers 13 _ (by decide +kernel) fun t hf y => ?_
  blk_simp
  rw [after0_13]
  revert y
  intro (y : S1x512x1024.Idx)
  idx_vars y
  have ht : t.val < 64 := t.isLt
  obtain rfl : y0 = 0 := Subsingleton.elim _ _
  have he : ((View.whole main_v50_2).slice (win0_13.rect t)).emb (ix3 0 y1 y2) = ix3 (tokB t) (tokI t y1) y2 := by
    blk_ext [idx t, tokB, tokI]
  rw [he, ← k_out]
  conv_lhs => rw [col_eq y2]
  exact out13_at _ _ _ _ _ _ _ _ _ _ _ _ _ _

/-- The fourth result array: the values. -/
theorem final14 : (dats m 0 c).arrAt 14 cfg0.N = argV m c := by
  refine (dats m 0 c).arrAt_eq_of_covers 14 _ (by decide +kernel) fun t hf y => ?_
  blk_simp
  rw [after0_14]
  revert y
  intro (y : S1x512x512.Idx)
  idx_vars y
  have ht : t.val < 64 := t.isLt
  obtain rfl : y0 = 0 := Subsingleton.elim _ _
  have he : ((View.whole main_v50_3).slice (win0_14.rect t)).emb (ix3 0 y1 y2) = ix3 (tokB t) (tokI t y1) y2 := by
    blk_ext [idx t, tokB, tokI]
  rw [he]
  exact (out14_at _ _ _ _ _ _ _ _ _ _ _ _ _).trans (v_col m c t y1 y2)

end Cert.Kernel4Ideal.Inproj

end
-- ==== Proof.Inproj.Ref.lean ====
/- What the input projection's reference computes: at every token, the four results of that token. -/
module

public import proofs.«01_k».proof.Proof.Gen.Reference4Ideal.Run
public import proofs.«01_k».proof.Proof.Inproj.Row
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Reference4Ideal.Inproj

open Cert.Reference4Ideal Cert.Reference4Ideal.Gen Cert.Inproj
open Cert.Tail (rms len1024)

/-! ## The stages of the reference -/

/-- The normalisation of a token. -/
def refNorm (x : FVec Ideal S4x8192x1024 .f32) (w : FVec Ideal S1024 .f32) : FVec Ideal S4x8192x1024 .f32 :=
  mulf (mulf x (broadcastInDim S4x8192x1024 ![0, 1, 2] bcast_S4x8192x1_S4x8192x1024_0_1_2 (Host.rsqrt (addf (Host.divf
    (broadcastInDim S4x8192x1 ![0, 1] bcast_S4x8192_S4x8192x1_0_1 (Host.reduceAdd (mulf x x) (constant S_ .f32 0x00000000#32)
      reducesTo_S4x8192x1024_S4x8192_d2 h_S_))
    (broadcastInDim S4x8192x1 ![] bcast_S_S4x8192x1 (constant S_ .f32 0x44800000#32)))
    (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 w))

/-- The normalisation of the queries' latent row. -/
def refNormQ (x : FVec Ideal S4x8192x256 .f32) (w : FVec Ideal S256 .f32) : FVec Ideal S4x8192x256 .f32 :=
  mulf (mulf x (broadcastInDim S4x8192x256 ![0, 1, 2] bcast_S4x8192x1_S4x8192x256_0_1_2 (Host.rsqrt (addf (Host.divf
    (broadcastInDim S4x8192x1 ![0, 1] bcast_S4x8192_S4x8192x1_0_1 (Host.reduceAdd (mulf x x) (constant S_ .f32 0x00000000#32)
      reducesTo_S4x8192x256_S4x8192_d2 h_S_))
    (broadcastInDim S4x8192x1 ![] bcast_S_S4x8192x1 (constant S_ .f32 0x43800000#32)))
    (broadcastInDim S4x8192x1 ![] bcast_S_S4x8192x1 (constant S_ .f32 0x358637BD#32))))))
    (broadcastInDim S4x8192x256 ![0, 1, 2] bcast_S1x1x256_S4x8192x256_0_1_2 (broadcastInDim S1x1x256 ![2] bcast_S256_S1x1x256_2 w))

/-- The normalisation of the keys' and values' latent row. -/
def refNormKV (x : FVec Ideal S4x8192x128 .f32) (w : FVec Ideal S128 .f32) : FVec Ideal S4x8192x128 .f32 :=
  mulf (mulf x (broadcastInDim S4x8192x128 ![0, 1, 2] bcast_S4x8192x1_S4x8192x128_0_1_2 (Host.rsqrt (addf (Host.divf
    (broadcastInDim S4x8192x1 ![0, 1] bcast_S4x8192_S4x8192x1_0_1 (Host.reduceAdd (mulf x x) (constant S_ .f32 0x00000000#32)
      reducesTo_S4x8192x128_S4x8192_d2 h_S_))
    (broadcastInDim S4x8192x1 ![] bcast_S_S4x8192x1 (constant S_ .f32 0x43000000#32)))
    (broadcastInDim S4x8192x1 ![] bcast_S_S4x8192x1 (constant S_ .f32 0x358637BD#32))))))
    (broadcastInDim S4x8192x128 ![0, 1, 2] bcast_S1x1x128_S4x8192x128_0_1_2 (broadcastInDim S1x1x128 ![2] bcast_S128_S1x1x128_2 w))

/-- The normalisation of a head. -/
def refNormH (x : FVec Ideal S4x8192x8x96 .f32) (w : FVec Ideal S96 .f32) : FVec Ideal S4x8192x8x96 .f32 :=
  mulf (mulf x (broadcastInDim S4x8192x8x96 ![0, 1, 2, 3] bcast_S4x8192x8x1_S4x8192x8x96_0_1_2_3 (Host.rsqrt (addf (Host.divf
    (broadcastInDim S4x8192x8x1 ![0, 1, 2] bcast_S4x8192x8_S4x8192x8x1_0_1_2 (Host.reduceAdd (mulf x x) (constant S_ .f32 0x00000000#32)
      reducesTo_S4x8192x8x96_S4x8192x8_d3 h_S_))
    (broadcastInDim S4x8192x8x1 ![] bcast_S_S4x8192x8x1 (constant S_ .f32 0x42C00000#32)))
    (broadcastInDim S4x8192x8x1 ![] bcast_S_S4x8192x8x1 (constant S_ .f32 0x358637BD#32))))))
    (broadcastInDim S4x8192x8x96 ![0, 1, 2, 3] bcast_S1x1x1x96_S4x8192x8x96_0_1_2_3 (broadcastInDim S1x1x1x96 ![3] bcast_S96_S1x1x1x96_3 w))

/-- The first product. -/
def refProj (x : FVec Ideal S4x8192x1024 .f32) (g : FVec Ideal S1024 .f32) (W : FVec Ideal S1024x1952 .f32) : FVec Ideal S4x8192x1952 .f32 :=
  Host.dotGeneral dot_S4x8192x1024_S1024x1952_S4x8192x1952_2_0_01_1_n_n none (refNorm x g) W

/-- The heads of the queries, from the first product. -/
def refQ (p : FVec Ideal S4x8192x1952 .f32) (g : FVec Ideal S256 .f32) (W : FVec Ideal S256x768 .f32) : FVec Ideal S4x8192x8x96 .f32 :=
  shapeCast _ (Host.dotGeneral dot_S4x8192x256_S256x768_S4x8192x768_2_0_01_1_n_n none
    (refNormQ (extractStridedSlice S4x8192x256 ![0, 0, 1536] p slices_S4x8192x1952_S4x8192x256_0_0_1536) g) W) shapeCasts_S4x8192x768_S4x8192x8x96

/-- The heads of the keys and values, from the first product. -/
def refKV (p : FVec Ideal S4x8192x1952 .f32) (g : FVec Ideal S128 .f32) (W : FVec Ideal S128x1024 .f32) : FVec Ideal S4x8192x8x128 .f32 :=
  shapeCast _ (Host.dotGeneral dot_S4x8192x128_S128x1024_S4x8192x1024_2_0_01_1_n_n none
    (refNormKV (extractStridedSlice S4x8192x128 ![0, 0, 1792] p slices_S4x8192x1952_S4x8192x128_0_0_1792) g) W) shapeCasts_S4x8192x1024_S4x8192x8x128

/-- The heads of the keys: 64 places of each head's own, 32 shared by all. -/
def refK (p : FVec Ideal S4x8192x1952 .f32) (kv : FVec Ideal S4x8192x8x128 .f32) : FVec Ideal S4x8192x8x96 .f32 :=
  concatenate S4x8192x8x96 3 [⟨S4x8192x8x64, (extractStridedSlice S4x8192x8x64 ![0, 0, 0, 0] kv slices_S4x8192x8x128_S4x8192x8x64_0_0_0_0)⟩,
    ⟨S4x8192x8x32, (broadcastInDim S4x8192x8x32 ![0, 1, 2, 3] bcast_S4x8192x1x32_S4x8192x8x32_0_1_2_3
      (broadcastInDim S4x8192x1x32 ![0, 1, 3] bcast_S4x8192x32_S4x8192x1x32_0_1_3
        (extractStridedSlice S4x8192x32 ![0, 0, 1920] p slices_S4x8192x1952_S4x8192x32_0_0_1920)))⟩]
    concatenates_S4x8192x8x64_S4x8192x8x32_S4x8192x8x96_d3

/-- The angle of a position and a frequency. -/
def refAng : FVec Ideal S8192x16 .f32 :=
  mulf (broadcastInDim S8192x16 ![0, 1] bcast_S8192x1_S8192x16_0_1 (broadcastInDim S8192x1 ![0] bcast_S8192_S8192x1_0 (sitofp .f32 (iotaInDim S8192 32 0))))
    (broadcastInDim S8192x16 ![0, 1] bcast_S1x16_S8192x16_0_1 (broadcastInDim S1x16 ![1] bcast_S16_S1x16_1
      (Host.powf (broadcastInDim S16 ![] bcast_S_S16 (constant S_ .f32 0x461C4000#32))
        (Host.divf (Host.negf (mulf (broadcastInDim S16 ![] bcast_S_S16 (constant S_ .f32 0x40000000#32)) (sitofp .f32 (iotaInDim S16 32 0))))
          (broadcastInDim S16 ![] bcast_S_S16 (constant S_ .f32 0x42000000#32))))))

/-- A table of positions over every batch and head. -/
def refTab (a : FVec Ideal S8192x16 .f32) : FVec Ideal S4x8192x8x16 .f32 :=
  broadcastInDim S4x8192x8x16 ![0, 1, 2, 3] bcast_S1x8192x1x16_S4x8192x8x16_0_1_2_3
    (broadcastInDim S1x8192x1x16 ![1, 3] bcast_S8192x16_S1x8192x1x16_1_3 a)

/-- The two halves of a head's last 32 places. -/
def refLo (y : FVec Ideal S4x8192x8x96 .f32) : FVec Ideal S4x8192x8x16 .f32 :=
  extractStridedSlice S4x8192x8x16 ![0, 0, 0, 0] (extractStridedSlice S4x8192x8x32 ![0, 0, 0, 64] y slices_S4x8192x8x96_S4x8192x8x32_0_0_0_64)
    slices_S4x8192x8x32_S4x8192x8x16_0_0_0_0
def refHi (y : FVec Ideal S4x8192x8x96 .f32) : FVec Ideal S4x8192x8x16 .f32 :=
  extractStridedSlice S4x8192x8x16 ![0, 0, 0, 16] (extractStridedSlice S4x8192x8x32 ![0, 0, 0, 64] y slices_S4x8192x8x96_S4x8192x8x32_0_0_0_64)
    slices_S4x8192x8x32_S4x8192x8x16_0_0_0_16

/-- The rotary embedding of a head. -/
def refRope (y : FVec Ideal S4x8192x8x96 .f32) : FVec Ideal S4x8192x8x96 .f32 :=
  concatenate S4x8192x8x96 3 [⟨S4x8192x8x64, (extractStridedSlice S4x8192x8x64 ![0, 0, 0, 0] y slices_S4x8192x8x96_S4x8192x8x64_0_0_0_0)⟩,
    ⟨S4x8192x8x32, (concatenate S4x8192x8x32 3
      [⟨S4x8192x8x16, (subf (mulf (refLo y) (refTab (Host.cos refAng))) (mulf (refHi y) (refTab (Host.sin refAng))))⟩,
       ⟨S4x8192x8x16, (addf (mulf (refLo y) (refTab (Host.sin refAng))) (mulf (refHi y) (refTab (Host.cos refAng))))⟩]
      concatenates_S4x8192x8x16_S4x8192x8x16_S4x8192x8x32_d3)⟩]
    concatenates_S4x8192x8x64_S4x8192x8x32_S4x8192x8x96_d3

/-- Heads on 128 lanes each, side by side. -/
def refLanes (y : FVec Ideal S4x8192x8x96 .f32) : FVec Ideal S4x8192x1024 .bf16 :=
  truncf .bf16 (shapeCast S4x8192x1024 (pad S4x8192x8x128 ![0, 0, 0, 0] ![0, 0, 0, 32] ![0, 0, 0, 0] y
    (sitofp .f32 (constantI S_ 32 0#32)) pads_S4x8192x8x96_S4x8192x8x128_000_000_000_0320 h_S_) shapeCasts_S4x8192x8x128_S4x8192x1024) bitsLt_bf16_f32

/-- The scaling of the queries. -/
def refScale (y : FVec Ideal S4x8192x8x96 .f32) : FVec Ideal S4x8192x8x96 .f32 :=
  mulf y (broadcastInDim S4x8192x8x96 ![] bcast_S_S4x8192x8x96 (constant S_ .f32 0x3DD105EC#32))

/-- The four results, from the first product. -/
def outHy (p : FVec Ideal S4x8192x1952 .f32) : FVec Ideal S4x8192x1536 .f32 :=
  extractStridedSlice S4x8192x1536 ![0, 0, 0] p slices_S4x8192x1952_S4x8192x1536_0_0_0
def outQ (p : FVec Ideal S4x8192x1952 .f32) (g : FVec Ideal S256 .f32) (W : FVec Ideal S256x768 .f32) (w : FVec Ideal S96 .f32) :
    FVec Ideal S4x8192x1024 .bf16 := refLanes (refScale (refRope (refNormH (refQ p g W) w)))
def outK (p : FVec Ideal S4x8192x1952 .f32) (g : FVec Ideal S128 .f32) (W : FVec Ideal S128x1024 .f32) (w : FVec Ideal S96 .f32) :
    FVec Ideal S4x8192x1024 .bf16 := refLanes (refRope (refNormH (refK p (refKV p g W)) w))
def outV (p : FVec Ideal S4x8192x1952 .f32) (g : FVec Ideal S128 .f32) (W : FVec Ideal S128x1024 .f32) : FVec Ideal S4x8192x512 .bf16 :=
  truncf .bf16 (shapeCast S4x8192x512 (extractStridedSlice S4x8192x8x64 ![0, 0, 0, 64] (refKV p g W) slices_S4x8192x8x128_S4x8192x8x64_0_0_0_64)
    shapeCasts_S4x8192x8x64_S4x8192x512) bitsLt_bf16_f32

/-! ## The stages at a token -/

section
variable (b : Fin 4) (i : Fin 8192) (h : Fin 8)

theorem refNorm_at (x : FVec Ideal S4x8192x1024 .f32) (w : FVec Ideal S1024 .f32) (j : Fin 1024) :
    refNorm x w (ix3 b i j) = rms len1024 (fun k => x (ix3 b i k)) (fun k => w (ix1 k)) j := by
  pointwise [refNorm, rms, len1024]
theorem refNormQ_at (x : FVec Ideal S4x8192x256 .f32) (w : FVec Ideal S256 .f32) (j : Fin 256) :
    refNormQ x w (ix3 b i j) = rms len256 (fun k => x (ix3 b i k)) (fun k => w (ix1 k)) j := by
  pointwise [refNormQ, rms, len256]
theorem refNormKV_at (x : FVec Ideal S4x8192x128 .f32) (w : FVec Ideal S128 .f32) (j : Fin 128) :
    refNormKV x w (ix3 b i j) = rms len128 (fun k => x (ix3 b i k)) (fun k => w (ix1 k)) j := by
  pointwise [refNormKV, rms, len128]
theorem refNormH_at (x : FVec Ideal S4x8192x8x96 .f32) (w : FVec Ideal S96 .f32) (j : Fin 96) :
    refNormH x w (ix4 b i h j) = rms len96 (fun k => x (ix4 b i h k)) (fun k => w (ix1 k)) j := by
  pointwise [refNormH, rms, len96]
theorem refProj_at (x : FVec Ideal S4x8192x1024 .f32) (g : FVec Ideal S1024 .f32) (W : FVec Ideal S1024x1952 .f32) (j : Fin 1952) :
    refProj x g W (ix3 b i j) = proj (fun k => x (ix3 b i k)) (fun k => g (ix1 k)) (fun k j => W (ix2 k j)) j := by
  pointwise [refProj, proj, through, refNorm_at]
theorem refQ_at (p : FVec Ideal S4x8192x1952 .f32) (g : FVec Ideal S256 .f32) (W : FVec Ideal S256x768 .f32) (l : Fin 96) :
    refQ p g W (ix4 b i h l) = qHead (fun k => p (ix3 b i k)) (fun k => g (ix1 k)) (fun k j => W (ix2 k j)) h l := by
  pointwise [refQ, qHead, through, refNormQ_at]
  simp only [Nat.mul_comm h.val 96]
theorem refKV_at (p : FVec Ideal S4x8192x1952 .f32) (g : FVec Ideal S128 .f32) (W : FVec Ideal S128x1024 .f32) (l : Fin 128) :
    refKV p g W (ix4 b i h l) = kvCol (fun k => p (ix3 b i k)) (fun k => g (ix1 k)) (fun k j => W (ix2 k j)) ⟨128 * h + l, by omega⟩ := by
  pointwise [refKV, kvCol, through, refNormKV_at]
  simp only [Nat.mul_comm h.val 128]
theorem refK_at (p : FVec Ideal S4x8192x1952 .f32) (kv : FVec Ideal S4x8192x8x128 .f32) (l : Fin 96) :
    refK p kv (ix4 b i h l) = if hl : l.val < 64 then kv (ix4 b i h ⟨l, by omega⟩) else p (ix3 b i ⟨1920 + (l - 64), by omega⟩) := by
  pointwise [refK]
theorem refTab_at (a : FVec Ideal S8192x16 .f32) (k : Fin 16) : refTab a (ix4 b i h k) = a (ix2 i k) := by
  pointwise [refTab]
theorem refLo_at (y : FVec Ideal S4x8192x8x96 .f32) (k : Fin 16) : refLo y (ix4 b i h k) = y (ix4 b i h ⟨64 + k, by omega⟩) := by
  pointwise [refLo]
theorem refHi_at (y : FVec Ideal S4x8192x8x96 .f32) (k : Fin 16) : refHi y (ix4 b i h k) = y (ix4 b i h ⟨80 + k, by omega⟩) := by
  pointwise [refHi]
  exact congrArg (fun z => y (ix4 b i h z)) (Fin.ext (by simp only; omega))
theorem refRope_at (y : FVec Ideal S4x8192x8x96 .f32) (l : Fin 96) : refRope y (ix4 b i h l)
    = rope (fun k => y (ix4 b i h k)) (fun k => Ideal.cos (refAng (ix2 i k))) (fun k => Ideal.sin (refAng (ix2 i k))) l := by
  pointwise [refRope, refLo_at, refHi_at, refTab_at]
  unfold rope
  by_cases h0 : l.val < 64
  · rw [dif_pos h0, dif_pos h0]
  · by_cases h1 : l.val < 80
    · rw [dif_neg h0, dif_neg h0, dif_pos h1, dif_pos (by omega)]
      have e1 : (⟨64 + (l.val - 64), by omega⟩ : Fin 96) = l := Fin.ext (by simp only; omega)
      have e2 : (⟨80 + (l.val - 64), by omega⟩ : Fin 96) = ⟨l.val + 16, by omega⟩ := Fin.ext (by simp only; omega)
      rw [e1, e2]
    · rw [dif_neg h0, dif_neg h0, dif_neg h1, dif_neg (by omega)]
      have e1 : (⟨64 + (l.val - 64 - 16), by omega⟩ : Fin 96) = ⟨l.val - 16, by omega⟩ := Fin.ext (by simp only; omega)
      have e2 : (⟨80 + (l.val - 64 - 16), by omega⟩ : Fin 96) = l := Fin.ext (by simp only; omega)
      rw [e1, e2]
      rfl
theorem refScale_at (y : FVec Ideal S4x8192x8x96 .f32) (l : Fin 96) : refScale y (ix4 b i h l) = y (ix4 b i h l) * scale := by
  pointwise [refScale, scale]
theorem refLanes_at (y : FVec Ideal S4x8192x8x96 .f32) (c : Fin 1024) : refLanes y (ix3 b i c)
    = lanes (fun k => y (ix4 b i ⟨c / 128, by omega⟩ k)) ⟨c % 128, by omega⟩ := by
  pointwise [refLanes, lanes]
  rw [fill_zero]
  by_cases hl : c.val % 128 < 96
  · rw [dif_pos hl, dif_pos ⟨by omega, hl⟩]
  · rw [dif_neg hl, dif_neg fun e => hl e.2]

/-! ## The results at a token -/

variable (p : FVec Ideal S4x8192x1952 .f32)

theorem outHy_at (c : Fin 1536) : outHy p (ix3 b i c) = hyTok (fun k => p (ix3 b i k)) c := by
  pointwise [outHy, hyTok]
theorem outQ_at (g : FVec Ideal S256 .f32) (W : FVec Ideal S256x768 .f32) (w : FVec Ideal S96 .f32) (c : Fin 1024) :
    outQ p g W w (ix3 b i c) = qTok (fun k => p (ix3 b i k)) (fun k => g (ix1 k)) (fun k j => W (ix2 k j)) (fun k => w (ix1 k))
      (fun k => Ideal.cos (refAng (ix2 i k))) (fun k => Ideal.sin (refAng (ix2 i k))) c := by
  rw [outQ, refLanes_at]
  simp only [refScale_at, refRope_at, refNormH_at, refQ_at]
  exact lanes_mul _ _ _
theorem outK_at (g : FVec Ideal S128 .f32) (W : FVec Ideal S128x1024 .f32) (w : FVec Ideal S96 .f32) (c : Fin 1024) :
    outK p g W w (ix3 b i c) = kTok (fun k => p (ix3 b i k)) (fun k => g (ix1 k)) (fun k j => W (ix2 k j)) (fun k => w (ix1 k))
      (fun k => Ideal.cos (refAng (ix2 i k))) (fun k => Ideal.sin (refAng (ix2 i k))) c := by
  rw [outK, refLanes_at]
  simp only [refRope_at, refNormH_at, refK_at, refKV_at]
  rfl
theorem outV_at (g : FVec Ideal S128 .f32) (W : FVec Ideal S128x1024 .f32) (c : Fin 512) :
    outV p g W (ix3 b i c) = vTok (fun k => p (ix3 b i k)) (fun k => g (ix1 k)) (fun k j => W (ix2 k j)) c := by
  pointwise [outV, refKV_at, vTok]
end

section
variable (x : FVec Ideal S4x8192x1024 .f32) (a : FVec Ideal S1024 .f32) (A : FVec Ideal S1024x1952 .f32)

/-- The first product of a token of the arguments. -/
def tokP (b : Fin 4) (i : Fin 8192) : Fin 1952 → EReal := proj (fun k => x (ix3 b i k)) (fun k => a (ix1 k)) (fun k j => A (ix2 k j))

theorem row_eq (b : Fin 4) (i : Fin 8192) : (fun k => refProj x a A (ix3 b i k)) = tokP x a A b i := funext fun k => refProj_at b i x a A k

/-- The reference's four arrays are the four results, token by token. -/
theorem hy_eq : outHy (refProj x a A) = fun z => hyTok (tokP x a A (z 0) (z 1)) (z 2) := by
  funext z
  obtain ⟨b, i, c, rfl⟩ : ∃ (b : Fin 4) (i : Fin 8192) (c : Fin 1536), z = ix3 b i c := ⟨z 0, z 1, z 2, eq_ix3 z⟩
  rw [outHy_at, row_eq]
  rfl
theorem q_eq (g : FVec Ideal S256 .f32) (W : FVec Ideal S256x768 .f32) (w : FVec Ideal S96 .f32) : outQ (refProj x a A) g W w = fun z =>
    qTok (tokP x a A (z 0) (z 1)) (fun k => g (ix1 k)) (fun k j => W (ix2 k j)) (fun k => w (ix1 k))
      (fun k => Ideal.cos (refAng (ix2 (z 1) k))) (fun k => Ideal.sin (refAng (ix2 (z 1) k))) (z 2) := by
  funext z
  obtain ⟨b, i, c, rfl⟩ : ∃ (b : Fin 4) (i : Fin 8192) (c : Fin 1024), z = ix3 b i c := ⟨z 0, z 1, z 2, eq_ix3 z⟩
  rw [outQ_at, row_eq]
  rfl
theorem k_eq (g : FVec Ideal S128 .f32) (W : FVec Ideal S128x1024 .f32) (w : FVec Ideal S96 .f32) : outK (refProj x a A) g W w = fun z =>
    kTok (tokP x a A (z 0) (z 1)) (fun k => g (ix1 k)) (fun k j => W (ix2 k j)) (fun k => w (ix1 k))
      (fun k => Ideal.cos (refAng (ix2 (z 1) k))) (fun k => Ideal.sin (refAng (ix2 (z 1) k))) (z 2) := by
  funext z
  obtain ⟨b, i, c, rfl⟩ : ∃ (b : Fin 4) (i : Fin 8192) (c : Fin 1024), z = ix3 b i c := ⟨z 0, z 1, z 2, eq_ix3 z⟩
  rw [outK_at, row_eq]
  rfl
theorem v_eq (g : FVec Ideal S128 .f32) (W : FVec Ideal S128x1024 .f32) : outV (refProj x a A) g W = fun z =>
    vTok (tokP x a A (z 0) (z 1)) (fun k => g (ix1 k)) (fun k j => W (ix2 k j)) (z 2) := by
  funext z
  obtain ⟨b, i, c, rfl⟩ : ∃ (b : Fin 4) (i : Fin 8192) (c : Fin 512), z = ix3 b i c := ⟨z 0, z 1, z 2, eq_ix3 z⟩
  rw [outV_at, row_eq]
  rfl
end

/-- Of the printed run: the results are the compositions of the stages, the arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14)
        = outHy (refProj (m ((c.tc : Thread nD τ).loc main_arg0)) (m ((c.tc : Thread nD τ).loc main_arg1)) (m ((c.tc : Thread nD τ).loc main_arg2)))
      ∧ r.2.mem ((c.tc : Thread nD τ).loc main_v151)
        = outQ (refProj (m ((c.tc : Thread nD τ).loc main_arg0)) (m ((c.tc : Thread nD τ).loc main_arg1)) (m ((c.tc : Thread nD τ).loc main_arg2)))
            (m ((c.tc : Thread nD τ).loc main_arg3)) (m ((c.tc : Thread nD τ).loc main_arg4)) (m ((c.tc : Thread nD τ).loc main_arg7))
      ∧ r.2.mem ((c.tc : Thread nD τ).loc main_v154)
        = outK (refProj (m ((c.tc : Thread nD τ).loc main_arg0)) (m ((c.tc : Thread nD τ).loc main_arg1)) (m ((c.tc : Thread nD τ).loc main_arg2)))
            (m ((c.tc : Thread nD τ).loc main_arg5)) (m ((c.tc : Thread nD τ).loc main_arg6)) (m ((c.tc : Thread nD τ).loc main_arg8))
      ∧ r.2.mem ((c.tc : Thread nD τ).loc main_v156)
        = outV (refProj (m ((c.tc : Thread nD τ).loc main_arg0)) (m ((c.tc : Thread nD τ).loc main_arg1)) (m ((c.tc : Thread nD τ).loc main_arg2)))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  Cert.Reference4Ideal.Value.run (F := Ideal) m ρ

end Cert.Reference4Ideal.Inproj

end
-- ==== Proof.Inproj.Claim.lean ====
/- The input projection and its reference compute the same four arrays. -/
module

public import proofs.«01_k».proof.Defs
public import proofs.«01_k».proof.Proof.Inproj.Array
public import proofs.«01_k».proof.Proof.Inproj.Ref

@[expose] public section

set_option maxRecDepth 16384

noncomputable section

open Idealize.ShloMosaic Idealize.ShloMosaic.TcCoe Idealize.SL.Sem

namespace Cert.Inproj

/-- Both programs take the same angles. -/
theorem ang_eq : Cert.Reference4Ideal.Inproj.refAng = Cert.Kernel4Ideal.Inproj.hAng := rfl

/-- The value claim of the input projection. -/
theorem algebraic : Cert.algebraic_Kernel4Ideal_Reference4Ideal := by
  intro m ρ m' ρ' _ hagree
  refine ⟨fun c => (Cert.Kernel4Ideal.Gen.dats m 0 c).arrAt 11 Cert.Kernel4Ideal.cfg0.N,
    fun c => (Cert.Kernel4Ideal.Gen.dats m 0 c).arrAt 12 Cert.Kernel4Ideal.cfg0.N,
    fun c => (Cert.Kernel4Ideal.Gen.dats m 0 c).arrAt 13 Cert.Kernel4Ideal.cfg0.N,
    fun c => (Cert.Kernel4Ideal.Gen.dats m 0 c).arrAt 14 Cert.Kernel4Ideal.cfg0.N,
    Cert.Kernel4Ideal.Value.run_blocks m ρ,
    (θ_run _ _ _).mono (fun _ h c => ⟨(h c).1.trans (Eq.trans ?_ (Cert.Kernel4Ideal.Inproj.final11 m c).symm),
      (h c).2.1.trans (Eq.trans ?_ (Cert.Kernel4Ideal.Inproj.final12 m c).symm),
      (h c).2.2.1.trans (Eq.trans ?_ (Cert.Kernel4Ideal.Inproj.final13 m c).symm),
      (h c).2.2.2.1.trans (Eq.trans ?_ (Cert.Kernel4Ideal.Inproj.final14 m c).symm), (h c).2.2.2.2⟩)
      (Cert.Reference4Ideal.Inproj.run m' ρ')⟩
  all_goals obtain ⟨h0, h1, h2, h3, h4, h5, h6, h7, h8⟩ := hagree c
  · rw [h0, h1, h2]
    exact Cert.Reference4Ideal.Inproj.hy_eq _ _ _
  · rw [h0, h1, h2, h3, h4, h7, Cert.Reference4Ideal.Inproj.q_eq, ang_eq]
    rfl
  · rw [h0, h1, h2, h5, h6, h8, Cert.Reference4Ideal.Inproj.k_eq, ang_eq]
    rfl
  · rw [h0, h1, h2, h5, h6]
    exact Cert.Reference4Ideal.Inproj.v_eq _ _ _ _ _

end Cert.Inproj

end
-- ==== Proof.Gate.Array.lean ====
/- The short convolution of three taps at one token and column: the scalar form, the kernel's two blocks and its result arrays. -/
module

public import proofs.«01_k».proof.Proof.Gen.Kernel5Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Gate

/-- The short convolution of a column: the bias and three taps, at the token before, the token and the token after; outside the
    sequence of 8192 tokens the column is zero. -/
def conv (x : Fin 8192 → EReal) (w : Fin 3 → EReal) (b : EReal) (i : Fin 8192) : EReal :=
  b + (if h : 0 < i.val then x ⟨i - 1, by omega⟩ else 0) * w 0 + x i * w 1
    + (if h : i.val + 1 < 8192 then x ⟨i + 1, h⟩ else 0) * w 2

/-- The first row of a block takes the first of the two. -/
theorem pickFirst (r : Fin 512) (a b : EReal) :
    Scalar.select (IntOp.cmpi CmpIPredicate.eq (BitVec.ofNat 32 r) 0#32) a b = if r.val = 0 then a else b := by
  have h : ∀ r : Fin 512, IntOp.cmpi CmpIPredicate.eq (BitVec.ofNat 32 r) 0#32 = if r.val = 0 then 1#1 else 0#1 := by decide +kernel
  rw [h]
  split_ifs <;> rfl

/-- The last row of a block takes the first of the two. -/
theorem pickLast (r : Fin 512) (a b : EReal) :
    Scalar.select (IntOp.cmpi CmpIPredicate.eq (BitVec.ofNat 32 r) 511#32) a b = if r.val = 511 then a else b := by
  have h : ∀ r : Fin 512, IntOp.cmpi CmpIPredicate.eq (BitVec.ofNat 32 r) 511#32 = if r.val = 511 then 1#1 else 0#1 := by decide +kernel
  rw [h]
  split_ifs <;> rfl

end Cert.Gate

namespace Cert.Kernel5Ideal.Gate

open Cert.Kernel5Ideal Cert.Kernel5Ideal.Gen Cert.Gate

/-! ## The two stored blocks -/

section
variable (x0 : Vec Ideal S1x8x1536 .f32) (x1 : Vec Ideal S1x512x1536 .f32) (x2 : Vec Ideal S1x8x1536 .f32) (x3 : Vec Ideal S3x1536 .f32)
  (x4 : Vec Ideal S1x1536 .f32)

/-- A column of the short convolution as the body has it: the block rolled by one row either way, its open end filled from the
    neighbouring block, times a factor that is zero at the ends of the sequence. -/
def convB (hp hn : EReal) (r : Fin 512) (j : Fin 1536) : EReal :=
  x4 (ix2 0 j)
    + Scalar.select (IntOp.cmpi CmpIPredicate.eq (BitVec.ofNat 32 r) 0#32) (x0 (ix3 0 7 j) * hp) (x1 (ix3 0 ⟨(r + 512 - 1) % 512, by omega⟩ j))
      * x3 (ix2 0 j)
    + x1 (ix3 0 r j) * x3 (ix2 1 j)
    + Scalar.select (IntOp.cmpi CmpIPredicate.eq (BitVec.ofNat 32 r) 511#32) (x2 (ix3 0 0 j) * hn) (x1 (ix3 0 ⟨(r + 512 - 511) % 512, by omega⟩ j))
      * x3 (ix2 2 j)

/-- The first stored block: the first 512 columns. -/
theorem out5_at (i : grid0.Coords) (r c : Fin 512) : out0_5 (F := Ideal) i x0 x1 x2 x3 x4 (ix3 0 r c)
    = convB x0 x1 x2 x3 x4 (k0_pay2 (F := Ideal) i) (k0_pay3 (F := Ideal) i) r ⟨c, by omega⟩ := by
  unfold_out out0_5
  canon_tiles x g
  have e : x = ix3 0 r c := by
    rw [eq_ix3 x]
    congr 1
    · exact Subsingleton.elim (α := Fin 1) _ _
    · exact Fin.ext g1.symm
    · exact Fin.ext g2.symm
  rw [e]
  pointwise [k0_pay7, k0_pay4, k0_pay5, k0_pay6, convB]

/-- The second stored block: the last 512 columns times the middle ones. -/
theorem out6_at (i : grid0.Coords) (r c : Fin 512) : out0_6 (F := Ideal) i x0 x1 x2 x3 x4 (ix3 0 r c)
    = convB x0 x1 x2 x3 x4 (k0_pay2 (F := Ideal) i) (k0_pay3 (F := Ideal) i) r ⟨1024 + c, by omega⟩
      * convB x0 x1 x2 x3 x4 (k0_pay2 (F := Ideal) i) (k0_pay3 (F := Ideal) i) r ⟨512 + c, by omega⟩ := by
  unfold_out out0_6
  canon_tiles x g
  have e : x = ix3 0 r c := by
    rw [eq_ix3 x]
    congr 1
    · exact Subsingleton.elim (α := Fin 1) _ _
    · exact Fin.ext g1.symm
    · exact Fin.ext g2.symm
  rw [e]
  pointwise [k0_pay1, k0_pay8, k0_pay9, k0_pay10, k0_pay11, k0_pay12, k0_pay13, k0_pay14, k0_pay15, convB]

end

/-! ## The grid and the windows -/

/-- Where each window stands at a grid point: batch `t / 16`, row block `t % 16`, and the eight rows before and after it. -/
theorem idx : ∀ t : Fin cfg0.N,
    win0_0.index t = ![t.val / 16, t.val % 16 * 64 - 1, 0] ∧ win0_1.index t = ![t.val / 16, t.val % 16, 0]
    ∧ win0_2.index t = ![t.val / 16, min ((t.val % 16 + 1) * 64) 1023, 0] ∧ win0_3.index t = ![0, 0] ∧ win0_4.index t = ![0, 0]
    ∧ win0_5.index t = ![t.val / 16, t.val % 16, 0] ∧ win0_6.index t = ![t.val / 16, t.val % 16, 0] :=
  (by decide +kernel : ∀ t : Fin grid0.N,
    win0_0.index t = ![t.val / 16, t.val % 16 * 64 - 1, 0] ∧ win0_1.index t = ![t.val / 16, t.val % 16, 0]
    ∧ win0_2.index t = ![t.val / 16, min ((t.val % 16 + 1) * 64) 1023, 0] ∧ win0_3.index t = ![0, 0] ∧ win0_4.index t = ![0, 0]
    ∧ win0_5.index t = ![t.val / 16, t.val % 16, 0] ∧ win0_6.index t = ![t.val / 16, t.val % 16, 0])

/-- The grid's second coordinate is the row block. -/
theorem coord1 : ∀ t : Fin cfg0.N, ((grid0.coords t) 1).val = t.val % 16 :=
  (by decide +kernel : ∀ t : Fin grid0.N, ((grid0.coords t) 1).val = t.val % 16)

/-- The factor of the row before the block is zero at the first block, else one. -/
theorem hasPrev (t : Fin cfg0.N) : (k0_pay2 (F := Ideal) (grid0.coords t) : EReal) = if t.val % 16 = 0 then 0 else 1 := by
  have h : ∀ a : Fin 16, (Scalar.extui (Scalar.cmpi .sgt (BitVec.ofNat 32 a.val) 0#32) : BitVec 32) = if a.val = 0 then 0#32 else 1#32 := by
    decide
  have h' := h ⟨t.val % 16, by omega⟩
  show (((Scalar.extui (Scalar.cmpi .sgt (BitVec.ofNat 32 ((grid0.coords t) 1).val) 0#32) : BitVec 32).toInt : ℝ) : EReal) = _
  rw [coord1, h']
  dsimp only
  split_ifs <;> simp

/-- The factor of the row after the block is zero at the last block, else one. -/
theorem hasNext (t : Fin cfg0.N) : (k0_pay3 (F := Ideal) (grid0.coords t) : EReal) = if t.val % 16 = 15 then 0 else 1 := by
  have h : ∀ a : Fin 16, (Scalar.extui (Scalar.cmpi .slt (BitVec.ofNat 32 a.val) 15#32) : BitVec 32) = if a.val = 15 then 0#32 else 1#32 := by
    decide
  have h' := h ⟨t.val % 16, by omega⟩
  show (((Scalar.extui (Scalar.cmpi .slt (BitVec.ofNat 32 ((grid0.coords t) 1).val) 15#32) : BitVec 32).toInt : ℝ) : EReal) = _
  rw [coord1, h']
  dsimp only
  split_ifs <;> simp

variable (m : (ℓ : Loc nD τ sig) → Buf (Elt Ideal) ℓ)

section
variable (t : Fin cfg0.N) (r : Fin 512)
/-- The batch and the token of row `r` of the blocks at grid point `t`. -/
def tokB : Fin 4 := ⟨t / 16, by have : t.val < 64 := t.isLt; omega⟩
def tokI : Fin 8192 := ⟨512 * (t % 16) + r, by omega⟩
end

/-- The rows at the ends of the neighbouring blocks, the block's own rows, the taps and the bias. -/
theorem blk0 (c : Dev nD) (t : Fin cfg0.N) (h : t.val % 16 ≠ 0) (j : Fin 1536) : iblk m c 0 t (ix3 0 7 j)
    = m ((c : Thread nD τ).loc main_arg0) (ix3 (tokB t) ⟨512 * (t % 16) - 1, by omega⟩ j) := by
  blk_ext [iblk, V, idx t, tokB]
theorem blk1 (c : Dev nD) (t : Fin cfg0.N) (r : Fin 512) (j : Fin 1536) : iblk m c 1 t (ix3 0 r j)
    = m ((c : Thread nD τ).loc main_arg0) (ix3 (tokB t) (tokI t r) j) := by
  blk_ext [iblk, V, idx t, tokB, tokI]
theorem blk2 (c : Dev nD) (t : Fin cfg0.N) (h : t.val % 16 ≠ 15) (j : Fin 1536) : iblk m c 2 t (ix3 0 0 j)
    = m ((c : Thread nD τ).loc main_arg0) (ix3 (tokB t) ⟨512 * (t % 16) + 512, by omega⟩ j) := by
  blk_ext [iblk, V, idx t, tokB]
theorem blk3 (c : Dev nD) (t : Fin cfg0.N) (i : Fin 3) (j : Fin 1536) : iblk m c 3 t (ix2 i j)
    = m ((c : Thread nD τ).loc main_arg1) (ix2 i j) := by
  blk_point [iblk, V, idx t]
theorem blk4 (c : Dev nD) (t : Fin cfg0.N) (j : Fin 1536) : iblk m c 4 t (ix2 0 j) = m ((c : Thread nD τ).loc main_arg2) (ix1 j) := by
  blk_point [iblk, V, idx t]

/-! ## The result arrays -/

/-- The short convolution of a batch's token, at a column. -/
def convAt (hy : Vec Ideal S4x8192x1536 .f32) (w : Vec Ideal S3x1536 .f32) (b : Vec Ideal S1536 .f32) (p : Fin 4) (i : Fin 8192)
    (j : Fin 1536) : EReal :=
  conv (fun i => hy (ix3 p i j)) (fun k => w (ix2 k j)) (b (ix1 j)) i

/-- The first result: the first 512 columns of the short convolution. -/
def gateX (hy : Vec Ideal S4x8192x1536 .f32) (w : Vec Ideal S3x1536 .f32) (b : Vec Ideal S1536 .f32) : Vec Ideal S4x8192x512 .f32 :=
  fun z => convAt hy w b (z 0) (z 1) ⟨(z 2).val, by have : (z 2).val < 512 := (z 2).isLt; omega⟩

/-- The second result: its last 512 columns times the middle ones. -/
def gateZ (hy : Vec Ideal S4x8192x1536 .f32) (w : Vec Ideal S3x1536 .f32) (b : Vec Ideal S1536 .f32) : Vec Ideal S4x8192x512 .f32 :=
  fun z => convAt hy w b (z 0) (z 1) ⟨1024 + (z 2).val, by have : (z 2).val < 512 := (z 2).isLt; omega⟩
    * convAt hy w b (z 0) (z 1) ⟨512 + (z 2).val, by have : (z 2).val < 512 := (z 2).isLt; omega⟩

/-- What the body computes from its blocks is the short convolution of the arguments. -/
theorem conv_eq (c : Dev nD) (t : Fin cfg0.N) (r : Fin 512) (j : Fin 1536) :
    convB (iblk m c 0 t) (iblk m c 1 t) (iblk m c 2 t) (iblk m c 3 t) (iblk m c 4 t) (k0_pay2 (F := Ideal) (grid0.coords t)) (k0_pay3 (F := Ideal) (grid0.coords t)) r j
      = convAt (m ((c : Thread nD τ).loc main_arg0)) (m ((c : Thread nD τ).loc main_arg1)) (m ((c : Thread nD τ).loc main_arg2))
          (tokB t) (tokI t r) j := by
  unfold convB convAt conv
  rw [pickFirst, pickLast, hasPrev, hasNext, blk4, blk3, blk3, blk3, blk1, blk1, blk1]
  let X : Fin 8192 → EReal := fun i => m ((c : Thread nD τ).loc main_arg0) (ix3 (tokB t) i j)
  let P : EReal := iblk m c 0 t (ix3 0 7 j)
  let N : EReal := iblk m c 2 t (ix3 0 0 j)
  have hd : (if r.val = 0 then P * (if t.val % 16 = 0 then 0 else 1) else X (tokI t ⟨(r + 512 - 1) % 512, by omega⟩))
      = if h : 0 < (tokI t r).val then X ⟨tokI t r - 1, by omega⟩ else 0 := by
    by_cases h0 : r.val = 0
    · by_cases h1 : t.val % 16 = 0
      · rw [if_pos h0, if_pos h1, mul_zero, dif_neg (by simp only [tokI]; omega)]
      · rw [if_pos h0, if_neg h1, mul_one, dif_pos (by simp only [tokI]; omega)]
        exact (blk0 m c t h1 j).trans (congrArg X (Fin.ext (by simp only [tokI]; omega)))
    · rw [if_neg h0, dif_pos (by simp only [tokI]; omega)]
      exact congrArg X (Fin.ext (by simp only [tokI]; omega))
  have hu : (if r.val = 511 then N * (if t.val % 16 = 15 then 0 else 1) else X (tokI t ⟨(r + 512 - 511) % 512, by omega⟩))
      = if h : (tokI t r).val + 1 < 8192 then X ⟨tokI t r + 1, h⟩ else 0 := by
    by_cases h0 : r.val = 511
    · by_cases h1 : t.val % 16 = 15
      · rw [if_pos h0, if_pos h1, mul_zero, dif_neg (by simp only [tokI]; omega)]
      · rw [if_pos h0, if_neg h1, mul_one, dif_pos (by simp only [tokI]; omega)]
        exact (blk2 m c t h1 j).trans (congrArg X (Fin.ext (by simp only [tokI]; omega)))
    · rw [if_neg h0, dif_pos (by simp only [tokI]; omega)]
      exact congrArg X (Fin.ext (by simp only [tokI]; omega))
  exact congrArg₂ (· + ·) (congrArg₂ (· + ·) (congrArg₂ (· + ·) rfl (congrArg (· * _) hd)) rfl) (congrArg (· * _) hu)

/-- The first result array. -/
theorem final5 (c : Dev nD) : (dats m 0 c).arrAt 5 cfg0.N
    = gateX (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  revert y
  intro (y : S1x512x512.Idx)
  idx_vars y
  have ht : t.val < 64 := t.isLt
  obtain rfl : y0 = 0 := Subsingleton.elim _ _
  have he : ((View.whole main_v1_0).slice (win0_5.rect t)).emb (ix3 0 y1 y2) = ix3 (tokB t) (tokI t y1) y2 := by
    blk_ext [idx t, tokB, tokI]
  rw [he]
  exact (out5_at _ _ _ _ _ _ _ _).trans (conv_eq m c t y1 ⟨y2, by omega⟩)

/-- The second result array. -/
theorem final6 (c : Dev nD) : (dats m 0 c).arrAt 6 cfg0.N
    = gateZ (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  revert y
  intro (y : S1x512x512.Idx)
  idx_vars y
  have ht : t.val < 64 := t.isLt
  obtain rfl : y0 = 0 := Subsingleton.elim _ _
  have he : ((View.whole main_v1_1).slice (win0_6.rect t)).emb (ix3 0 y1 y2) = ix3 (tokB t) (tokI t y1) y2 := by
    blk_ext [idx t, tokB, tokI]
  rw [he]
  exact (out6_at _ _ _ _ _ _ _ _).trans (congrArg₂ (· * ·) (conv_eq m c t y1 ⟨1024 + y2, by omega⟩) (conv_eq m c t y1 ⟨512 + y2, by omega⟩))

end Cert.Kernel5Ideal.Gate

end
-- ==== Proof.Gate.Claim.lean ====
/- The plain short convolution and gating computes the same scalar form; the value claim. -/
module

public import proofs.«01_k».proof.Defs
public import proofs.«01_k».proof.Proof.Gate.Array
public import proofs.«01_k».proof.Proof.Inproj.Row
public import proofs.«01_k».proof.Proof.Gen.Reference5Ideal.Run

@[expose] public section

set_option maxRecDepth 16384

noncomputable section

open Idealize.ShloMosaic Idealize.ShloMosaic.TcCoe Idealize.SL.Sem
open Idealize.ShloMosaic.Pipeline (Dat)

namespace Cert.Reference5Ideal.Gate

open Cert.Reference5Ideal Cert.Reference5Ideal.Gen Cert.Gate

/-! ## The stages of the reference -/

/-- The sequence with a zero token before and after it. -/
def refPad (hy : FVec Ideal S4x8192x1536 .f32) : FVec Ideal S4x8194x1536 .f32 :=
  pad S4x8194x1536 ![0, 1, 0] ![0, 1, 0] ![0, 0, 0] hy (sitofp .f32 (constantI S_ 32 0#32)) pads_S4x8192x1536_S4x8194x1536_000_110_000 h_S_

/-- The short convolution. -/
def refConv (hy : FVec Ideal S4x8192x1536 .f32) (w : FVec Ideal S3x1536 .f32) (b : FVec Ideal S1536 .f32) : FVec Ideal S4x8192x1536 .f32 :=
  addf (addf (addf (broadcastInDim S4x8192x1536 ![0, 1, 2] bcast_S1x1x1536_S4x8192x1536_0_1_2 (broadcastInDim S1x1x1536 ![2] bcast_S1536_S1x1x1536_2 b))
    (mulf (extractStridedSlice S4x8192x1536 ![0, 0, 0] (refPad hy) slices_S4x8194x1536_S4x8192x1536_0_0_0)
      (broadcastInDim S4x8192x1536 ![0, 1, 2] bcast_S1x1x1536_S4x8192x1536_0_1_2 (broadcastInDim S1x1x1536 ![2] bcast_S1536_S1x1x1536_2
        (shapeCast _ (extractStridedSlice S1x1536 ![0, 0] w slices_S3x1536_S1x1536_0_0) shapeCasts_S1x1536_S1536)))))
    (mulf (extractStridedSlice S4x8192x1536 ![0, 1, 0] (refPad hy) slices_S4x8194x1536_S4x8192x1536_0_1_0)
      (broadcastInDim S4x8192x1536 ![0, 1, 2] bcast_S1x1x1536_S4x8192x1536_0_1_2 (broadcastInDim S1x1x1536 ![2] bcast_S1536_S1x1x1536_2
        (shapeCast _ (extractStridedSlice S1x1536 ![1, 0] w slices_S3x1536_S1x1536_1_0) shapeCasts_S1x1536_S1536)))))
    (mulf (extractStridedSlice S4x8192x1536 ![0, 2, 0] (refPad hy) slices_S4x8194x1536_S4x8192x1536_0_2_0)
      (broadcastInDim S4x8192x1536 ![0, 1, 2] bcast_S1x1x1536_S4x8192x1536_0_1_2 (broadcastInDim S1x1x1536 ![2] bcast_S1536_S1x1x1536_2
        (shapeCast _ (extractStridedSlice S1x1536 ![2, 0] w slices_S3x1536_S1x1536_2_0) shapeCasts_S1x1536_S1536))))

/-- The two results. -/
def refX (hy : FVec Ideal S4x8192x1536 .f32) (w : FVec Ideal S3x1536 .f32) (b : FVec Ideal S1536 .f32) : FVec Ideal S4x8192x512 .f32 :=
  extractStridedSlice S4x8192x512 ![0, 0, 0] (refConv hy w b) slices_S4x8192x1536_S4x8192x512_0_0_0
def refZ (hy : FVec Ideal S4x8192x1536 .f32) (w : FVec Ideal S3x1536 .f32) (b : FVec Ideal S1536 .f32) : FVec Ideal S4x8192x512 .f32 :=
  mulf (extractStridedSlice S4x8192x512 ![0, 0, 1024] (refConv hy w b) slices_S4x8192x1536_S4x8192x512_0_0_1024)
    (extractStridedSlice S4x8192x512 ![0, 0, 512] (refConv hy w b) slices_S4x8192x1536_S4x8192x512_0_0_512)

/-- The run of the reference: its results are the composed stages of its arguments, which it leaves. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = refX (m ((c.tc : Thread nD τ).loc main_arg0)) (m ((c.tc : Thread nD τ).loc main_arg1)) (m ((c.tc : Thread nD τ).loc main_arg2))
      ∧ r.2.mem ((c.tc : Thread nD τ).loc main_v27) = refZ (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.Reference5Ideal.Value.run (F := Ideal) m ρ

/-! ## The stages at an index -/

variable (hy : FVec Ideal S4x8192x1536 .f32) (w : FVec Ideal S3x1536 .f32) (b : FVec Ideal S1536 .f32)

/-- The padded sequence: a token stands one place later, and beyond the ends is zero. -/
theorem pad_at (p : Fin 4) (i : Fin 8194) (j : Fin 1536) : refPad hy (ix3 p i j)
    = if h : 1 ≤ i.val ∧ i.val - 1 < 8192 then hy (ix3 p ⟨i - 1, h.2⟩ j) else 0 := by
  pointwise [refPad, Cert.Inproj.fill_zero]

/-- The short convolution. -/
theorem conv_at (p : Fin 4) (i : Fin 8192) (j : Fin 1536) : refConv hy w b (ix3 p i j)
    = conv (fun i => hy (ix3 p i j)) (fun k => w (ix2 k j)) (b (ix1 j)) i := by
  have e : refConv hy w b (ix3 p i j) = b (ix1 j) + refPad hy (ix3 p ⟨i, by omega⟩ j) * w (ix2 0 j)
      + refPad hy (ix3 p ⟨i + 1, by omega⟩ j) * w (ix2 1 j) + refPad hy (ix3 p ⟨i + 2, by omega⟩ j) * w (ix2 2 j) := by
    pointwise [refConv]
    simp only [Nat.add_comm]
  rw [e, pad_at, pad_at, pad_at]
  unfold conv
  have h0 : (if h : 1 ≤ i.val ∧ i.val - 1 < 8192 then hy (ix3 p ⟨i.val - 1, h.2⟩ j) else (0 : EReal))
      = if h : 0 < i.val then hy (ix3 p ⟨i - 1, by omega⟩ j) else 0 := by
    by_cases h : 0 < i.val
    · rw [dif_pos h, dif_pos (by omega)]
    · rw [dif_neg h, dif_neg (by omega)]
  have h2 : (if h : 1 ≤ i.val + 2 ∧ i.val + 2 - 1 < 8192 then hy (ix3 p ⟨i.val + 2 - 1, h.2⟩ j) else (0 : EReal))
      = if h : i.val + 1 < 8192 then hy (ix3 p ⟨i + 1, h⟩ j) else 0 := by
    by_cases h : i.val + 1 < 8192
    · rw [dif_pos h, dif_pos (by omega)]
      rfl
    · rw [dif_neg h, dif_neg (by omega)]
  have h1 : (if h : 1 ≤ i.val + 1 ∧ i.val + 1 - 1 < 8192 then hy (ix3 p ⟨i.val + 1 - 1, h.2⟩ j) else (0 : EReal)) = hy (ix3 p i j) := by
    rw [dif_pos (by omega)]
    rfl
  exact congrArg₂ (· + ·) (congrArg₂ (· + ·) (congrArg₂ (· + ·) rfl (congrArg (· * _) h0)) (congrArg (· * _) h1)) (congrArg (· * _) h2)

/-- The first result. -/
theorem x_eq : refX hy w b = Cert.Kernel5Ideal.Gate.gateX hy w b := by
  funext z
  obtain ⟨p, i, c, rfl⟩ : ∃ p i c, z = ix3 p i c := ⟨z 0, z 1, z 2, eq_ix3 z⟩
  have e : refX hy w b (ix3 p i c) = refConv hy w b (ix3 p i ⟨c, by omega⟩) := by pointwise [refX]
  rw [e, conv_at]
  rfl

/-- The second result. -/
theorem z_eq : refZ hy w b = Cert.Kernel5Ideal.Gate.gateZ hy w b := by
  funext z
  obtain ⟨p, i, c, rfl⟩ : ∃ p i c, z = ix3 p i c := ⟨z 0, z 1, z 2, eq_ix3 z⟩
  have e : refZ hy w b (ix3 p i c) = refConv hy w b (ix3 p i ⟨1024 + c, by omega⟩) * refConv hy w b (ix3 p i ⟨512 + c, by omega⟩) := by
    pointwise [refZ]
  rw [e, conv_at, conv_at]
  rfl

end Cert.Reference5Ideal.Gate

namespace Cert.Gate

/-- The value claim of the short convolution with its gating. -/
theorem algebraic : Cert.algebraic_Kernel5Ideal_Reference5Ideal := by
  intro m ρ m' ρ' _ hagree
  refine ⟨fun c => (Cert.Kernel5Ideal.Gen.dats m 0 c).arrAt 5 Cert.Kernel5Ideal.cfg0.N,
    fun c => (Cert.Kernel5Ideal.Gen.dats m 0 c).arrAt 6 Cert.Kernel5Ideal.cfg0.N,
    Cert.Kernel5Ideal.Value.run_blocks m ρ,
    (θ_run _ _ _).mono (fun _ h c => ⟨(h c).1.trans (Eq.trans ?_ (Cert.Kernel5Ideal.Gate.final5 m c).symm),
      (h c).2.1.trans (Eq.trans ?_ (Cert.Kernel5Ideal.Gate.final6 m c).symm), (h c).2.2⟩)
      (Cert.Reference5Ideal.Gate.run m' ρ')⟩
  all_goals obtain ⟨h0, h1, h2⟩ := hagree c
  · rw [h0, h1, h2]
    exact Cert.Reference5Ideal.Gate.x_eq _ _ _
  · rw [h0, h1, h2]
    exact Cert.Reference5Ideal.Gate.z_eq _ _ _

end Cert.Gate

end
-- ==== Proof.Filt.Row.lean ====
/- The filters at one position and column: the scalar form, and the arrays that the host prepares, at an index. -/
module

public import proofs.«01_k».proof.Proof.Gen.Kernel6Ideal.Value
public import proofs.«01_k».proof.Proof.Inproj.Row
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Filt

/-- A hidden layer on a row: a product, a bias, a factor, the sine. -/
def layer {n : Nat} (z : Fin n → EReal) (w : Fin n → Fin 64 → EReal) (b fr : Fin 64 → EReal) (k : Fin 64) : EReal :=
  Ideal.sin (fr k * ((∑ i, z i * w i k) + b k))

/-- The network on a row of features: two hidden layers, then a column of the last product. -/
def net {n : Nat} (z : Fin n → EReal) (w1 : Fin n → Fin 64 → EReal) (b1 fr : Fin 64 → EReal) (w2 : Fin 64 → Fin 64 → EReal)
    (b2 w3 : Fin 64 → EReal) : EReal :=
  ∑ k, layer (layer z w1 b1 fr) w2 b2 fr k * w3 k

/-- A row of features, and of weights, padded with zeros changes no layer. -/
theorem layer_pad (z : Fin 33 → EReal) (w : Fin 33 → Fin 64 → EReal) (b fr : Fin 64 → EReal) :
    layer (fun l : Fin 128 => if h : l.val < 33 then z ⟨l, h⟩ else 0) (fun l k => if h : l.val < 33 then w ⟨l, h⟩ k else 0) b fr
      = layer z w b fr := by
  funext k
  unfold layer
  rw [Fin.sum_univ_two_halves 33 95 rfl]
  have h1 : ∑ i : Fin 95, (if h : 33 + i.val < 33 then z ⟨33 + i, h⟩ else 0) * (if h : 33 + i.val < 33 then w ⟨33 + i, h⟩ k else 0) = 0 :=
    Finset.sum_eq_zero fun i _ => by rw [dif_neg (by omega), zero_mul]
  have h0 : ∑ i : Fin 33, (if h : i.val < 33 then z ⟨i, h⟩ else 0) * (if h : i.val < 33 then w ⟨i, h⟩ k else 0) = ∑ i, z i * w i k :=
    Finset.sum_congr rfl fun i _ => by rw [dif_pos i.isLt, dif_pos i.isLt]
  exact congrArg (fun x => Ideal.sin (fr k * (x + b k))) ((congrArg₂ (· + ·) h0 h1).trans (add_zero _))

/-- Nor does it change the network. -/
theorem net_pad (z : Fin 33 → EReal) (w : Fin 33 → Fin 64 → EReal) (b1 fr : Fin 64 → EReal) (w2 : Fin 64 → Fin 64 → EReal) (b2 w3 : Fin 64 → EReal) :
    net (fun l : Fin 128 => if h : l.val < 33 then z ⟨l, h⟩ else 0) (fun l k => if h : l.val < 33 then w ⟨l, h⟩ k else 0) b1 fr w2 b2 w3
      = net z w b1 fr w2 b2 w3 := by
  unfold net
  rw [layer_pad]

end Cert.Filt

namespace Cert.Kernel6Ideal.Filt

open Cert.Kernel6Ideal Cert.Kernel6Ideal.Gen Cert.Filt

/-! ## The prepared arrays -/

/-- The positions of the sequence, from 0 to 1. -/
def hT : FVec Ideal S8192 .f32 :=
  concatenate S8192 0 [⟨S8191, (addf (mulf (broadcastInDim S8191 ![0] bcast_S1_S8191_0 (shapeCast _ (id (constant S_ .f32 0x00000000#32)) shapeCasts_S_S1)) (subf (broadcastInDim S8191 ![] bcast_S_S8191 (constant S_ .f32 0x3F800000#32)) (Host.divf (sitofp .f32 (iotaInDim S8191 32 0)) (broadcastInDim S8191 ![] bcast_S_S8191 (constant S_ .f32 0x45FFF800#32))))) (mulf (broadcastInDim S8191 ![0] bcast_S1_S8191_0 (shapeCast _ (id (constant S_ .f32 0x3F800000#32)) shapeCasts_S_S1)) (Host.divf (sitofp .f32 (iotaInDim S8191 32 0)) (broadcastInDim S8191 ![] bcast_S_S8191 (constant S_ .f32 0x45FFF800#32)))))⟩, ⟨S1, (broadcastInDim S1 ![] bcast_S_S1 (id (constant S_ .f32 0x3F800000#32)))⟩] concatenates_S8191_S1_S8192_d0

/-- The frequencies of the sixteen bands. -/
def hF : FVec Ideal S16 .f32 :=
  concatenate S16 0 [⟨S15, (addf (mulf (broadcastInDim S15 ![0] bcast_S1_S15_0 (shapeCast _ (id (constant S_ .f32 0x38D1B717#32)) shapeCasts_S_S1)) (subf (broadcastInDim S15 ![] bcast_S_S15 (constant S_ .f32 0x3F800000#32)) (Host.divf (sitofp .f32 (iotaInDim S15 32 0)) (broadcastInDim S15 ![] bcast_S_S15 (constant S_ .f32 0x41700000#32))))) (mulf (broadcastInDim S15 ![0] bcast_S1_S15_0 (shapeCast _ (sitofp .f32 (constantI S_ 32 15#32)) shapeCasts_S_S1)) (Host.divf (sitofp .f32 (iotaInDim S15 32 0)) (broadcastInDim S15 ![] bcast_S_S15 (constant S_ .f32 0x41700000#32)))))⟩, ⟨S1, (broadcastInDim S1 ![] bcast_S_S1 (sitofp .f32 (constantI S_ 32 15#32)))⟩] concatenates_S15_S1_S16_d0

/-- The angle of each position and band. -/
def hAng : FVec Ideal S8192x16 .f32 :=
  mulf (broadcastInDim S8192x16 ![0, 1] bcast_S1x16_S8192x16_0_1 (broadcastInDim S1x16 ![1] bcast_S16_S1x16_1 hF)) (broadcastInDim S8192x16 ![0, 1] bcast_S8192x1_S8192x16_0_1 (Host.divf (mulf (broadcastInDim S8192x1 ![] bcast_S_S8192x1 (constant S_ .f32 0x40C90FDB#32)) (broadcastInDim S8192x1 ![0] bcast_S8192_S8192x1_0 (sitofp .f32 (iotaInDim S8192 32 0)))) (broadcastInDim S8192x1 ![] bcast_S_S8192x1 (constant S_ .f32 0x46000000#32))))

/-- The features of each position: the position, the cosines and the negated sines of its angles. -/
def hZ : FVec Ideal S8192x33 .f32 :=
  concatenate S8192x33 1 [⟨S8192x1, (broadcastInDim S8192x1 ![0] bcast_S8192_S8192x1_0 hT : FVec Ideal S8192x1 .f32)⟩, ⟨S8192x16, (Host.cos hAng : FVec Ideal S8192x16 .f32)⟩, ⟨S8192x16, (Host.negf (Host.sin hAng) : FVec Ideal S8192x16 .f32)⟩] concatenates_S8192x1_S8192x16_S8192x16_S8192x33_d1

/-- The features on 128 lanes, the last 95 of them zero. -/
def hZpad : FVec Ideal S8192x128 .f32 :=
  pad S8192x128 ![0, 0] ![0, 95] ![0, 0] hZ (sitofp .f32 (constantI S_ 32 0#32)) pads_S8192x33_S8192x128_000_0950 h_S_

/-- The features forwards and then backwards. -/
def hFeat : FVec Ideal S16384x128 .f32 :=
  concatenate S16384x128 0 [⟨S8192x128, hZpad⟩, ⟨S8192x128, (Host.reverse [0] hZpad : FVec Ideal S8192x128 .f32)⟩] concatenates_S8192x128_S8192x128_S16384x128_d0

/-- The first weights, 95 rows of zeros below. -/
def hW1 (w : FVec Ideal S33x64 .f32) : FVec Ideal S128x64 .f32 :=
  pad S128x64 ![0, 0] ![95, 0] ![0, 0] w (sitofp .f32 (constantI S_ 32 0#32)) pads_S33x64_S128x64_0950_000 h_S_

/-- The decay rate of each column. -/
def hD : FVec Ideal S512 .f32 :=
  Host.absf (concatenate S512 0 [⟨S511, (addf (mulf (broadcastInDim S511 ![0] bcast_S1_S511_0 (shapeCast _ (id (constant S_ .f32 0xC1759BEC#32)) shapeCasts_S_S1)) (subf (broadcastInDim S511 ![] bcast_S_S511 (constant S_ .f32 0x3F800000#32)) (Host.divf (sitofp .f32 (iotaInDim S511 32 0)) (broadcastInDim S511 ![] bcast_S_S511 (constant S_ .f32 0x43FF8000#32))))) (mulf (broadcastInDim S511 ![0] bcast_S1_S511_0 (shapeCast _ (id (constant S_ .f32 0xC0447CBD#32)) shapeCasts_S_S1)) (Host.divf (sitofp .f32 (iotaInDim S511 32 0)) (broadcastInDim S511 ![] bcast_S_S511 (constant S_ .f32 0x43FF8000#32)))))⟩, ⟨S1, (broadcastInDim S1 ![] bcast_S_S1 (id (constant S_ .f32 0xC0447CBD#32)))⟩] concatenates_S511_S1_S512_d0)

/-! ## The prepared arrays at an index -/

/-- The padded features: the features on the first 33 lanes, then zero. -/
theorem zpad_at (n : Fin 8192) (l : Fin 128) : hZpad (ix2 n l) = if h : l.val < 33 then hZ (ix2 n ⟨l, h⟩) else 0 := by
  pointwise [hZpad, Cert.Inproj.fill_zero]

/-- The position whose features stand in row `n`. -/
def pos (n : Fin 16384) : Fin 8192 := ⟨if n.val < 8192 then n.val else 16383 - n.val, by split_ifs <;> omega⟩

set_option maxRecDepth 100000 in
/-- Row `n` of the features forwards and backwards. -/
theorem feat_at (n : Fin 16384) (l : Fin 128) : hFeat (ix2 n l) = hZpad (ix2 (pos n) l) := by
  pointwise [hFeat]
  by_cases h : n.val < 8192
  · rw [dif_pos h]
    exact congrArg (fun p => hZpad (ix2 p l)) (Fin.ext (by simp only [pos, if_pos h]))
  · rw [dif_neg h]
    exact congrArg (fun p => hZpad (ix2 p l)) (Fin.ext (by
      show (Fin.rev (⟨n.val - 8192, by omega⟩ : Fin 8192)).val = if n.val < 8192 then n.val else 16383 - n.val
      rw [Fin.val_rev, if_neg h]
      show 8192 - (n.val - 8192 + 1) = 16383 - n.val
      omega))

/-- The padded weights. -/
theorem w1_at (w : FVec Ideal S33x64 .f32) (l : Fin 128) (k : Fin 64) :
    hW1 w (ix2 l k) = if h : l.val < 33 then w (ix2 ⟨l, h⟩ k) else 0 := by
  pointwise [hW1, Cert.Inproj.fill_zero]

/-- The first feature is the position. -/
theorem z_zero (n : Fin 8192) : hZ (ix2 n 0) = hT (ix1 n) := by
  pointwise [hZ]

end Cert.Kernel6Ideal.Filt

end
-- ==== Proof.Filt.Prepared.lean ====
/- What the filters' buffers hold when the grid is entered. -/
module

public import proofs.«01_k».proof.Proof.Filt.Row
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel6Ideal.Filt

open Cert.Kernel6Ideal Cert.Kernel6Ideal.Gen Cert.Filt

variable (m : (ℓ : Loc nD τ sig) → Buf (Elt Ideal) ℓ)

/-! The buffers when the grid is entered hold them. -/
theorem v0_eq (c : Dev nD) : V m c main_v0 = hW1 (m ((c : Thread nD τ).loc main_arg0)) := by after_reads_simp; rfl
theorem v1_eq (c : Dev nD) : V m c main_v1 = broadcastInDim S1x64 ![1] bcast_S64_S1x64_1 (m ((c : Thread nD τ).loc main_arg1) : FVec Ideal S64 .f32) := by
  after_reads_simp
theorem v2_eq (c : Dev nD) : V m c main_v2 = broadcastInDim S1x64 ![1] bcast_S64_S1x64_1 (m ((c : Thread nD τ).loc main_arg2) : FVec Ideal S64 .f32) := by
  after_reads_simp
theorem v3_eq (c : Dev nD) : V m c main_v3 = broadcastInDim S1x64 ![1] bcast_S64_S1x64_1 (m ((c : Thread nD τ).loc main_arg4) : FVec Ideal S64 .f32) := by
  after_reads_simp
set_option maxHeartbeats 4000000 in
theorem v26_eq (c : Dev nD) : V m c main_v26 = hFeat := by after_reads_simp; rfl
set_option maxHeartbeats 4000000 in
theorem v29_eq (c : Dev nD) : V m c main_v29 = broadcastInDim S1x512 ![1] bcast_S512_S1x512_1 hD := by after_reads_simp; rfl

end Cert.Kernel6Ideal.Filt

end
-- ==== Proof.Filt.Array.lean ====
/- The filters at one position and column: the kernel's block and its result array. -/
module

public import proofs.«01_k».proof.Proof.Filt.Prepared
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel6Ideal.Filt

open Cert.Kernel6Ideal Cert.Kernel6Ideal.Gen Cert.Filt

/-! ## The stored block -/

section
variable (x0 : Vec Ideal S512x128 .f32) (x1 : Vec Ideal S128x64 .f32) (x2 x3 : Vec Ideal S1x64 .f32) (x4 : Vec Ideal S64x64 .f32)
  (x5 : Vec Ideal S1x64 .f32) (x6 : Vec Ideal S64x512 .f32) (x7 : Vec Ideal S1x512 .f32)

/-- The stored block at a row and column. -/
theorem out8_at (r c : Fin 512) : out0_8 (F := Ideal) x0 x1 x2 x3 x4 x5 x6 x7 (ix2 r c)
    = net (fun i => x0 (ix2 r i)) (fun i k => x1 (ix2 i k)) (fun k => x2 (ix2 0 k)) (fun k => x3 (ix2 0 k)) (fun i k => x4 (ix2 i k))
        (fun k => x5 (ix2 0 k)) (fun k => x6 (ix2 k c)) * Ideal.exp ((0 - x0 (ix2 r 0)) * x7 (ix2 0 c)) := by
  unfold out0_8
  canon_tiles x g
  have e : x = ix2 r c := by
    rw [eq_ix2 x]
    congr 1
    · exact Fin.ext g0.symm
    · exact Fin.ext g1.symm
  rw [e]
  pointwise [k0_pay1, net, layer]

end

/-! ## The grid and the windows -/

/-- Where each window stands at a grid point. -/
theorem idx : ∀ t : Fin cfg0.N,
    win0_0.index t = ![t.val, 0] ∧ win0_1.index t = ![0, 0] ∧ win0_2.index t = ![0, 0] ∧ win0_3.index t = ![0, 0] ∧ win0_4.index t = ![0, 0]
    ∧ win0_5.index t = ![0, 0] ∧ win0_6.index t = ![0, t.val / 16] ∧ win0_7.index t = ![0, 0] ∧ win0_8.index t = ![t.val, 0] :=
  (by decide +kernel : ∀ t : Fin grid0.N,
    win0_0.index t = ![t.val, 0] ∧ win0_1.index t = ![0, 0] ∧ win0_2.index t = ![0, 0] ∧ win0_3.index t = ![0, 0] ∧ win0_4.index t = ![0, 0]
    ∧ win0_5.index t = ![0, 0] ∧ win0_6.index t = ![0, t.val / 16] ∧ win0_7.index t = ![0, 0] ∧ win0_8.index t = ![t.val, 0])

variable (m : (ℓ : Loc nD τ sig) → Buf (Elt Ideal) ℓ)

/-- The row of the result in which row `r` of the block at grid point `t` stands. -/
def rowI (t : Fin cfg0.N) (r : Fin 512) : Fin 16384 := ⟨512 * t + r, by have : t.val < 32 := t.isLt; omega⟩

/-- Every window's block, read where the body reads it. -/
theorem blk0 (c : Dev nD) (t : Fin cfg0.N) (r : Fin 512) (l : Fin 128) : iblk m c 0 t (ix2 r l) = hZpad (ix2 (pos (rowI t r)) l) := by
  have e : iblk m c 0 t (ix2 r l) = V m c main_v26 (ix2 (rowI t r) l) := by blk_ext [iblk, idx t, rowI]
  rw [e, v26_eq]
  exact feat_at _ _
theorem blk1 (c : Dev nD) (t : Fin cfg0.N) (l : Fin 128) (k : Fin 64) :
    iblk m c 1 t (ix2 l k) = hW1 (m ((c : Thread nD τ).loc main_arg0)) (ix2 l k) := by
  have e : iblk m c 1 t (ix2 l k) = V m c main_v0 (ix2 l k) := by blk_ext [iblk, idx t]
  rw [e, v0_eq]
theorem blk2 (c : Dev nD) (t : Fin cfg0.N) (k : Fin 64) : iblk m c 2 t (ix2 0 k) = m ((c : Thread nD τ).loc main_arg1) (ix1 k) := by
  have e : iblk m c 2 t (ix2 0 k) = V m c main_v1 (ix2 0 k) := by blk_ext [iblk, idx t]
  rw [e, v1_eq]
  pointwise []
theorem blk3 (c : Dev nD) (t : Fin cfg0.N) (k : Fin 64) : iblk m c 3 t (ix2 0 k) = m ((c : Thread nD τ).loc main_arg2) (ix1 k) := by
  have e : iblk m c 3 t (ix2 0 k) = V m c main_v2 (ix2 0 k) := by blk_ext [iblk, idx t]
  rw [e, v2_eq]
  pointwise []
theorem blk4 (c : Dev nD) (t : Fin cfg0.N) (i k : Fin 64) : iblk m c 4 t (ix2 i k) = m ((c : Thread nD τ).loc main_arg3) (ix2 i k) := by
  have e : iblk m c 4 t (ix2 i k) = V m c main_arg3 (ix2 i k) := by blk_ext [iblk, idx t]
  rw [e, V_main_arg3]
theorem blk5 (c : Dev nD) (t : Fin cfg0.N) (k : Fin 64) : iblk m c 5 t (ix2 0 k) = m ((c : Thread nD τ).loc main_arg4) (ix1 k) := by
  have e : iblk m c 5 t (ix2 0 k) = V m c main_v3 (ix2 0 k) := by blk_ext [iblk, idx t]
  rw [e, v3_eq]
  pointwise []
theorem blk6 (c : Dev nD) (t : Fin cfg0.N) (k : Fin 64) (j : Fin 512) : iblk m c 6 t (ix2 k j)
    = m ((c : Thread nD τ).loc main_arg5) (ix2 k ⟨512 * (t / 16) + j, by have : t.val < 32 := t.isLt; omega⟩) := by
  have e : iblk m c 6 t (ix2 k j) = V m c main_arg5 (ix2 k ⟨512 * (t / 16) + j, by have : t.val < 32 := t.isLt; omega⟩) := by
    blk_ext [iblk, idx t]
  rw [e, V_main_arg5]
theorem blk7 (c : Dev nD) (t : Fin cfg0.N) (j : Fin 512) : iblk m c 7 t (ix2 0 j) = hD (ix1 j) := by
  have e : iblk m c 7 t (ix2 0 j) = V m c main_v29 (ix2 0 j) := by blk_ext [iblk, idx t]
  rw [e, v29_eq]
  pointwise []

/-! ## The result array -/

/-- The filters at a row and column: the network on the row's features, times the decay; the first 8192 rows take the first 512
    columns of the last weights at their own positions, the others the last 512 columns at the positions backwards. -/
def filtAt (w1 : Vec Ideal S33x64 .f32) (b1 fr : Vec Ideal S64 .f32) (w2 : Vec Ideal S64x64 .f32) (b2 : Vec Ideal S64 .f32)
    (w3 : Vec Ideal S64x1024 .f32) (n : Fin 16384) (c : Fin 512) : EReal :=
  net (fun i => hZ (ix2 (pos n) i)) (fun i k => w1 (ix2 i k)) (fun k => b1 (ix1 k)) (fun k => fr (ix1 k)) (fun i k => w2 (ix2 i k))
    (fun k => b2 (ix1 k)) (fun k => w3 (ix2 k ⟨512 * (n / 8192) + c, by omega⟩)) * Ideal.exp (- hT (ix1 (pos n)) * hD (ix1 c))

/-- The filters. -/
def filtArr (w1 : Vec Ideal S33x64 .f32) (b1 fr : Vec Ideal S64 .f32) (w2 : Vec Ideal S64x64 .f32) (b2 : Vec Ideal S64 .f32)
    (w3 : Vec Ideal S64x1024 .f32) : Vec Ideal S16384x512 .f32 :=
  fun z => filtAt w1 b1 fr w2 b2 w3 (z 0) (z 1)

/-- The network on given rows and weights. -/
theorem net_of {n : Nat} {z z' : Fin n → EReal} {w1 w1' : Fin n → Fin 64 → EReal} {b1 b1' fr fr' : Fin 64 → EReal}
    {w2 w2' : Fin 64 → Fin 64 → EReal} {b2 b2' w3 w3' : Fin 64 → EReal} (hz : ∀ i, z i = z' i) (hw1 : ∀ i k, w1 i k = w1' i k)
    (hb1 : ∀ k, b1 k = b1' k) (hfr : ∀ k, fr k = fr' k) (hw2 : ∀ i k, w2 i k = w2' i k) (hb2 : ∀ k, b2 k = b2' k)
    (hw3 : ∀ k, w3 k = w3' k) : net z w1 b1 fr w2 b2 w3 = net z' w1' b1' fr' w2' b2' w3' := by
  obtain rfl : z = z' := funext hz
  obtain rfl : w1 = w1' := funext fun i => funext (hw1 i)
  obtain rfl : b1 = b1' := funext hb1
  obtain rfl : fr = fr' := funext hfr
  obtain rfl : w2 = w2' := funext fun i => funext (hw2 i)
  obtain rfl : b2 = b2' := funext hb2
  obtain rfl : w3 = w3' := funext hw3
  rfl

/-- What the body computes from its blocks is the filters of the arguments. -/
theorem filt_eq (c : Dev nD) (t : Fin cfg0.N) (r j : Fin 512) :
    out0_8 (F := Ideal) (iblk m c 0 t) (iblk m c 1 t) (iblk m c 2 t) (iblk m c 3 t) (iblk m c 4 t) (iblk m c 5 t) (iblk m c 6 t) (iblk m c 7 t) (ix2 r j)
      = filtAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (rowI t r) j := by
  have ht : t.val < 32 := t.isLt
  rw [out8_at, blk7, blk0, zpad_at]
  have hn := net_of (blk0 m c t r) (blk1 m c t) (blk2 m c t) (blk3 m c t) (blk4 m c t) (blk5 m c t) (fun k => blk6 m c t k j)
  refine congrArg₂ (· * ·) (hn.trans ?_) ?_
  · have hp := net_pad (fun i => hZ (ix2 (pos (rowI t r)) i)) (fun i k => (m ((c : Thread nD τ).loc main_arg0) (ix2 i k) : EReal))
      (fun k => m ((c : Thread nD τ).loc main_arg1) (ix1 k)) (fun k => m ((c : Thread nD τ).loc main_arg2) (ix1 k))
      (fun i k => m ((c : Thread nD τ).loc main_arg3) (ix2 i k)) (fun k => m ((c : Thread nD τ).loc main_arg4) (ix1 k))
      (fun k => m ((c : Thread nD τ).loc main_arg5) (ix2 k ⟨512 * ((rowI t r).val / 8192) + j, by omega⟩))
    refine (net_of (fun l => zpad_at _ l) (fun l k => w1_at _ l k) (fun _ => rfl) (fun _ => rfl) (fun _ _ => rfl) (fun _ => rfl) fun k => ?_).trans hp
    exact congrArg (fun x => m ((c : Thread nD τ).loc main_arg5) (ix2 k x)) (Fin.ext (by simp only [rowI]; omega))
  · rw [dif_pos (by decide)]
    have hz := z_zero (pos (rowI t r))
    rw [sub_eq_add_neg, zero_add]
    exact congrArg (fun x : EReal => Ideal.exp (- x * hD (ix1 j))) hz

/-- The result array. -/
theorem final8 (c : Dev nD) : (dats m 0 c).arrAt 8 cfg0.N
    = filtArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8]
  revert y
  intro (y : S512x512.Idx)
  idx_vars y
  have ht : t.val < 32 := t.isLt
  have he : ((View.whole main_v30).slice (win0_8.rect t)).emb (ix2 y0 y1) = ix2 (rowI t y0) y1 := by
    blk_ext [idx t, rowI]
  rw [he]
  exact filt_eq m c t y0 y1

end Cert.Kernel6Ideal.Filt

end
-- ==== Proof.Filt.Claim.lean ====
/- The plain filters compute the same scalar form; the value claim. -/
module

public import proofs.«01_k».proof.Defs
public import proofs.«01_k».proof.Proof.Filt.Array
public import proofs.«01_k».proof.Proof.Gen.Reference6Ideal.Run

@[expose] public section

set_option maxRecDepth 16384

noncomputable section

open Idealize.ShloMosaic Idealize.ShloMosaic.TcCoe Idealize.SL.Sem
open Idealize.ShloMosaic.Pipeline (Dat)

namespace Cert.Reference6Ideal.Filt

open Cert.Reference6Ideal Cert.Reference6Ideal.Gen Cert.Filt
open Cert.Kernel6Ideal.Filt (hT hD hZ pos filtAt filtArr)

/-! ## The stages of the reference -/

/-- The positions of the sequence, from 0 to 1. -/
def refT : FVec Ideal S8192 .f32 :=
  concatenate S8192 0 [⟨S8191, (addf (mulf (broadcastInDim S8191 ![0] bcast_S1_S8191_0 (shapeCast _ (id (constant S_ .f32 0x00000000#32)) shapeCasts_S_S1)) (subf (broadcastInDim S8191 ![] bcast_S_S8191 (constant S_ .f32 0x3F800000#32)) (Host.divf (sitofp .f32 (iotaInDim S8191 32 0)) (broadcastInDim S8191 ![] bcast_S_S8191 (constant S_ .f32 0x45FFF800#32))))) (mulf (broadcastInDim S8191 ![0] bcast_S1_S8191_0 (shapeCast _ (id (constant S_ .f32 0x3F800000#32)) shapeCasts_S_S1)) (Host.divf (sitofp .f32 (iotaInDim S8191 32 0)) (broadcastInDim S8191 ![] bcast_S_S8191 (constant S_ .f32 0x45FFF800#32)))))⟩, ⟨S1, (broadcastInDim S1 ![] bcast_S_S1 (id (constant S_ .f32 0x3F800000#32)))⟩] concatenates_S8191_S1_S8192_d0

/-- The frequencies of the sixteen bands. -/
def refF : FVec Ideal S16 .f32 :=
  concatenate S16 0 [⟨S15, (addf (mulf (broadcastInDim S15 ![0] bcast_S1_S15_0 (shapeCast _ (id (constant S_ .f32 0x38D1B717#32)) shapeCasts_S_S1)) (subf (broadcastInDim S15 ![] bcast_S_S15 (constant S_ .f32 0x3F800000#32)) (Host.divf (sitofp .f32 (iotaInDim S15 32 0)) (broadcastInDim S15 ![] bcast_S_S15 (constant S_ .f32 0x41700000#32))))) (mulf (broadcastInDim S15 ![0] bcast_S1_S15_0 (shapeCast _ (sitofp .f32 (constantI S_ 32 15#32)) shapeCasts_S_S1)) (Host.divf (sitofp .f32 (iotaInDim S15 32 0)) (broadcastInDim S15 ![] bcast_S_S15 (constant S_ .f32 0x41700000#32)))))⟩, ⟨S1, (broadcastInDim S1 ![] bcast_S_S1 (sitofp .f32 (constantI S_ 32 15#32)))⟩] concatenates_S15_S1_S16_d0

/-- The angle of each position and band. -/
def refAng : FVec Ideal S8192x16 .f32 :=
  mulf (broadcastInDim S8192x16 ![0, 1] bcast_S1x16_S8192x16_0_1 (broadcastInDim S1x16 ![1] bcast_S16_S1x16_1 refF)) (broadcastInDim S8192x16 ![0, 1] bcast_S8192x1_S8192x16_0_1 (Host.divf (mulf (broadcastInDim S8192x1 ![] bcast_S_S8192x1 (constant S_ .f32 0x40C90FDB#32)) (broadcastInDim S8192x1 ![0] bcast_S8192_S8192x1_0 (sitofp .f32 (iotaInDim S8192 32 0)))) (broadcastInDim S8192x1 ![] bcast_S_S8192x1 (constant S_ .f32 0x46000000#32))))

/-- The features of each position. -/
def refZ : FVec Ideal S8192x33 .f32 :=
  concatenate S8192x33 1 [⟨S8192x1, (broadcastInDim S8192x1 ![0] bcast_S8192_S8192x1_0 refT : FVec Ideal S8192x1 .f32)⟩, ⟨S8192x16, (Host.cos refAng : FVec Ideal S8192x16 .f32)⟩, ⟨S8192x16, (Host.negf (Host.sin refAng) : FVec Ideal S8192x16 .f32)⟩] concatenates_S8192x1_S8192x16_S8192x16_S8192x33_d1

/-- The decay rate of each column. -/
def refD : FVec Ideal S512 .f32 :=
  Host.absf (concatenate S512 0 [⟨S511, (addf (mulf (broadcastInDim S511 ![0] bcast_S1_S511_0 (shapeCast _ (id (constant S_ .f32 0xC1759BEC#32)) shapeCasts_S_S1)) (subf (broadcastInDim S511 ![] bcast_S_S511 (constant S_ .f32 0x3F800000#32)) (Host.divf (sitofp .f32 (iotaInDim S511 32 0)) (broadcastInDim S511 ![] bcast_S_S511 (constant S_ .f32 0x43FF8000#32))))) (mulf (broadcastInDim S511 ![0] bcast_S1_S511_0 (shapeCast _ (id (constant S_ .f32 0xC0447CBD#32)) shapeCasts_S_S1)) (Host.divf (sitofp .f32 (iotaInDim S511 32 0)) (broadcastInDim S511 ![] bcast_S_S511 (constant S_ .f32 0x43FF8000#32)))))⟩, ⟨S1, (broadcastInDim S1 ![] bcast_S_S1 (id (constant S_ .f32 0xC0447CBD#32)))⟩] concatenates_S511_S1_S512_d0)

/-- The first hidden layer. -/
def refH1 (w1 : FVec Ideal S33x64 .f32) (b1 fr : FVec Ideal S64 .f32) : FVec Ideal S8192x64 .f32 :=
  Host.sin (mulf (broadcastInDim S8192x64 ![0, 1] bcast_S1x64_S8192x64_0_1 (broadcastInDim S1x64 ![1] bcast_S64_S1x64_1 fr))
    (addf (Host.dotGeneral dot_S8192x33_S33x64_S8192x64_1_0_0_1_n_n none refZ w1)
      (broadcastInDim S8192x64 ![0, 1] bcast_S1x64_S8192x64_0_1 (broadcastInDim S1x64 ![1] bcast_S64_S1x64_1 b1))))

/-- The second hidden layer. -/
def refH2 (h : FVec Ideal S8192x64 .f32) (fr : FVec Ideal S64 .f32) (w2 : FVec Ideal S64x64 .f32) (b2 : FVec Ideal S64 .f32) : FVec Ideal S8192x64 .f32 :=
  Host.sin (mulf (broadcastInDim S8192x64 ![0, 1] bcast_S1x64_S8192x64_0_1 (broadcastInDim S1x64 ![1] bcast_S64_S1x64_1 fr))
    (addf (Host.dotGeneral dot_S8192x64_S64x64_S8192x64_1_0_0_1_n_n none h w2)
      (broadcastInDim S8192x64 ![0, 1] bcast_S1x64_S8192x64_0_1 (broadcastInDim S1x64 ![1] bcast_S64_S1x64_1 b2))))

/-- The decay of each position and column. -/
def refDecay : FVec Ideal S8192x512 .f32 :=
  Host.exp (mulf (broadcastInDim S8192x512 ![0, 1] bcast_S8192x1_S8192x512_0_1 (Host.negf (broadcastInDim S8192x1 ![0] bcast_S8192_S8192x1_0 refT)))
    (broadcastInDim S8192x512 ![0, 1] bcast_S1x512_S8192x512_0_1 (broadcastInDim S1x512 ![1] bcast_S512_S1x512_1 refD)))

/-- The last product, both directions side by side. -/
def refH3 (w1 : FVec Ideal S33x64 .f32) (b1 fr : FVec Ideal S64 .f32) (w2 : FVec Ideal S64x64 .f32) (b2 : FVec Ideal S64 .f32)
    (w3 : FVec Ideal S64x1024 .f32) : FVec Ideal S8192x1024 .f32 :=
  Host.dotGeneral dot_S8192x64_S64x1024_S8192x1024_1_0_0_1_n_n none (refH2 (refH1 w1 b1 fr) fr w2 b2) w3

/-- The filters: the first direction, then the second reversed. -/
def refFilt (w1 : FVec Ideal S33x64 .f32) (b1 fr : FVec Ideal S64 .f32) (w2 : FVec Ideal S64x64 .f32) (b2 : FVec Ideal S64 .f32)
    (w3 : FVec Ideal S64x1024 .f32) : FVec Ideal S16384x512 .f32 :=
  concatenate S16384x512 0
    [⟨S8192x512, (mulf (extractStridedSlice S8192x512 ![0, 0] (refH3 w1 b1 fr w2 b2 w3) slices_S8192x1024_S8192x512_0_0) refDecay)⟩,
     ⟨S8192x512, (Host.reverse [0] (mulf (extractStridedSlice S8192x512 ![0, 512] (refH3 w1 b1 fr w2 b2 w3) slices_S8192x1024_S8192x512_0_512) refDecay))⟩]
    concatenates_S8192x512_S8192x512_S16384x512_d0

/-- The run of the reference: its result is the composed stages of its arguments, which it leaves. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v50) = refFilt (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.Reference6Ideal.Value.run (F := Ideal) m ρ

/-! ## The stages at an index -/

/- The features, the positions and the decay rates are those that the kernel's host code prepares. -/
theorem t_eq : refT = hT := rfl
theorem z_eq : refZ = hZ := rfl
theorem d_eq : refD = hD := rfl

variable (w1 : FVec Ideal S33x64 .f32) (b1 fr : FVec Ideal S64 .f32) (w2 : FVec Ideal S64x64 .f32) (b2 : FVec Ideal S64 .f32)
  (w3 : FVec Ideal S64x1024 .f32)

theorem h1_at (p : Fin 8192) (k : Fin 64) : refH1 w1 b1 fr (ix2 p k)
    = layer (fun i => refZ (ix2 p i)) (fun i k => w1 (ix2 i k)) (fun k => b1 (ix1 k)) (fun k => fr (ix1 k)) k := by
  pointwise [refH1, layer]
theorem h2_at (h : FVec Ideal S8192x64 .f32) (p : Fin 8192) (k : Fin 64) : refH2 h fr w2 b2 (ix2 p k)
    = layer (fun i => h (ix2 p i)) (fun i k => w2 (ix2 i k)) (fun k => b2 (ix1 k)) (fun k => fr (ix1 k)) k := by
  pointwise [refH2, layer]
theorem h3_at (p : Fin 8192) (j : Fin 1024) : refH3 w1 b1 fr w2 b2 w3 (ix2 p j)
    = net (fun i => refZ (ix2 p i)) (fun i k => w1 (ix2 i k)) (fun k => b1 (ix1 k)) (fun k => fr (ix1 k)) (fun i k => w2 (ix2 i k))
        (fun k => b2 (ix1 k)) (fun k => w3 (ix2 k j)) := by
  have e : refH3 w1 b1 fr w2 b2 w3 (ix2 p j) = ∑ k, refH2 (refH1 w1 b1 fr) fr w2 b2 (ix2 p k) * w3 (ix2 k j) := by pointwise [refH3]
  rw [e]
  simp only [h2_at, h1_at]
  rfl
theorem decay_at (p : Fin 8192) (j : Fin 512) : refDecay (ix2 p j) = Ideal.exp (- refT (ix1 p) * refD (ix1 j)) := by
  pointwise [refDecay]

/-- One direction at a position, with the column of the last weights that it takes. -/
def dirAt (p : Fin 8192) (j : Fin 1024) (c : Fin 512) : EReal := refH3 w1 b1 fr w2 b2 w3 (ix2 p j) * refDecay (ix2 p c)

/-- One direction at a position is the filters at the row that the position stands in. -/
theorem dir_eq (n : Fin 16384) (c : Fin 512) (p : Fin 8192) (j : Fin 1024) (hp : p = pos n) (hj : j.val = 512 * (n.val / 8192) + c.val) :
    dirAt w1 b1 fr w2 b2 w3 p j c = filtAt w1 b1 fr w2 b2 w3 n c := by
  have e : j = ⟨512 * (n.val / 8192) + c.val, by omega⟩ := Fin.ext hj
  unfold dirAt
  rw [h3_at, decay_at, t_eq, z_eq, d_eq, hp, e]
  rfl

set_option maxRecDepth 100000 in
/-- The filters of the reference are the kernel's. -/
theorem filt_eq : refFilt w1 b1 fr w2 b2 w3 = filtArr w1 b1 fr w2 b2 w3 := by
  funext z
  obtain ⟨n, c, rfl⟩ : ∃ n c, z = ix2 n c := ⟨z 0, z 1, eq_ix2 z⟩
  show _ = filtAt w1 b1 fr w2 b2 w3 n c
  pointwise [refFilt]
  by_cases h : n.val < 8192
  · rw [dif_pos h]
    refine dir_eq w1 b1 fr w2 b2 w3 n c ⟨n, h⟩ ⟨c, by omega⟩ (Fin.ext ?_) ?_
    · simp only [pos, if_pos h]
    · show c.val = 512 * (n.val / 8192) + c.val
      omega
  · rw [dif_neg h]
    refine dir_eq w1 b1 fr w2 b2 w3 n c (Fin.rev ⟨n.val - 8192, by omega⟩) ⟨512 + c, by omega⟩ (Fin.ext ?_) ?_
    · show (Fin.rev (⟨n.val - 8192, by omega⟩ : Fin 8192)).val = if n.val < 8192 then n.val else 16383 - n.val
      rw [Fin.val_rev, if_neg h]
      show 8192 - (n.val - 8192 + 1) = 16383 - n.val
      omega
    · show 512 + c.val = 512 * (n.val / 8192) + c.val
      omega

end Cert.Reference6Ideal.Filt

namespace Cert.Filt

/-- The value claim of the filters. -/
theorem algebraic : Cert.algebraic_Kernel6Ideal_Reference6Ideal := by
  intro m ρ m' ρ' _ hagree
  refine ⟨fun c => (Cert.Kernel6Ideal.Gen.dats m 0 c).arrAt 8 Cert.Kernel6Ideal.cfg0.N,
    Cert.Kernel6Ideal.Value.run_blocks m ρ,
    (θ_run _ _ _).mono (fun _ h c => ⟨(h c).1.trans (Eq.trans ?_ (Cert.Kernel6Ideal.Filt.final8 m c).symm), (h c).2⟩)
      (Cert.Reference6Ideal.Filt.run m' ρ')⟩
  obtain ⟨h0, h1, h2, h3, h4, h5⟩ := hagree c
  rw [h0, h1, h2, h3, h4, h5]
  exact Cert.Reference6Ideal.Filt.filt_eq _ _ _ _ _ _

end Cert.Filt

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference3Ideal
public import proofs.«01_k».proof.Proof.Gen.Reference3Ideal.Run
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Pre_finite_qk
public import proofs.«01_k».proof.Proof.Attn.Claim
public import proofs.«01_k».proof.Proof.Tail.Claim
public import proofs.«01_k».proof.Proof.Inproj.Claim
public import proofs.«01_k».proof.Proof.Gate.Claim
public import proofs.«01_k».proof.Proof.Filt.Claim
public import Idealize.ShloMosaic.Lib.Quiescent
public import Idealize.ShloMosaic.Adequacy
public import Idealize.ShloMosaic.Init

@[expose] public section

noncomputable section

namespace Cert.Proof

open Idealize.ShloMosaic Idealize.SL.Sem

theorem frame_kernel : Cert.quiescent_Kernel := fun m ρ _ => Cert.Kernel.Gen.frame m ρ
theorem frame_kernelIdeal : Cert.quiescent_KernelIdeal := fun m ρ _ => Cert.KernelIdeal.Gen.frame m ρ
theorem frame_kernelIdeal_pre : Cert.quiescent_KernelIdeal_pre_finite_qk := fun m ρ _ => Cert.KernelIdeal.Gen.frame m ρ
theorem frame_kernel2 : Cert.quiescent_Kernel2 := fun m ρ _ => Cert.Kernel2.Gen.frame m ρ
theorem frame_kernel2Ideal : Cert.quiescent_Kernel2Ideal := fun m ρ _ => Cert.Kernel2Ideal.Gen.frame m ρ

theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)
theorem frame_referenceIdeal_pre : Cert.quiescent_ReferenceIdeal_pre_finite_qk := fun m ρ _ => frame_referenceIdeal m ρ trivial
theorem frame_reference2Ideal : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

theorem frame_kernel3 : Cert.quiescent_Kernel3 := fun m ρ _ => Cert.Kernel3.Gen.frame m ρ
theorem frame_kernel3Ideal : Cert.quiescent_Kernel3Ideal := fun m ρ _ => Cert.Kernel3Ideal.Gen.frame m ρ
theorem frame_reference3Ideal : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

theorem frame_kernel4 : Cert.quiescent_Kernel4 := fun m ρ _ => Cert.Kernel4.Gen.frame m ρ
theorem frame_kernel4Ideal : Cert.quiescent_Kernel4Ideal := fun m ρ _ => Cert.Kernel4Ideal.Gen.frame m ρ
theorem frame_reference4Ideal : Cert.quiescent_Reference4Ideal := fun m ρ _ =>
  (θ_run Cert.Reference4Ideal.defs _ _).mono
    (fun r h => ⟨fun c => (h c).2.2.2.2, Idealize.ShloMosaic.sem_eq_zero_of_no_sems (by decide) r.2⟩)
    (Cert.Reference4Ideal.Value.run (F := Ideal) m ρ)

theorem frame_kernel5 : Cert.quiescent_Kernel5 := fun m ρ _ => Cert.Kernel5.Gen.frame m ρ
theorem frame_kernel5Ideal : Cert.quiescent_Kernel5Ideal := fun m ρ _ => Cert.Kernel5Ideal.Gen.frame m ρ
theorem frame_reference5Ideal : Cert.quiescent_Reference5Ideal := fun m ρ _ =>
  (θ_run Cert.Reference5Ideal.defs _ _).mono
    (fun r h => ⟨fun c => (h c).2.2, Idealize.ShloMosaic.sem_eq_zero_of_no_sems (by decide) r.2⟩)
    (Cert.Reference5Ideal.Value.run (F := Ideal) m ρ)

theorem frame_kernel6 : Cert.quiescent_Kernel6 := fun m ρ _ => Cert.Kernel6.Gen.frame m ρ
theorem frame_kernel6Ideal : Cert.quiescent_Kernel6Ideal := fun m ρ _ => Cert.Kernel6Ideal.Gen.frame m ρ
theorem frame_reference6Ideal : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts,
    Cert.Kernel3Ideal.Gen.facts, Cert.Reference3Ideal.Gen.facts, Cert.Kernel4.Gen.facts,
    Cert.Kernel4Ideal.Gen.facts, Cert.Reference4Ideal.Gen.facts, Cert.Kernel5.Gen.facts,
    Cert.Kernel5Ideal.Gen.facts, Cert.Reference5Ideal.Gen.facts, Cert.Kernel6.Gen.facts,
    Cert.Kernel6Ideal.Gen.facts, Cert.Reference6Ideal.Gen.facts, Cert.Pre_finite_qk.Gen.facts,
    frame_kernel, frame_kernelIdeal, frame_kernelIdeal_pre, frame_referenceIdeal, frame_referenceIdeal_pre,
    frame_kernel2, frame_kernel2Ideal, frame_reference2Ideal, frame_kernel3, frame_kernel3Ideal, frame_reference3Ideal,
    frame_kernel4, frame_kernel4Ideal, frame_reference4Ideal,
    frame_kernel5, frame_kernel5Ideal, frame_reference5Ideal, frame_kernel6, frame_kernel6Ideal, frame_reference6Ideal,
    trivial, Cert.Attn.algebraic, trivial, Cert.Tail.algebraic, trivial, Cert.Tail.algebraicSample, trivial, Cert.Inproj.algebraic,
    trivial, Cert.Gate.algebraic, trivial, Cert.Filt.algebraic⟩

end Cert.Proof

end
